-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_scores_finite : Cert.Pre_scores_finite.Facts) (hPre_experts_exist : Cert.Pre_experts_exist.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_experts_exist := hPre_experts_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_experts_exist.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : FVec F S139264x1024 .f32) (main_arg1 : IVec S544 32) (main_arg2 : IVec S1 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Pre_scores_finite.lean ====
abbrev S32768x2048 : Shape := ⟨2, ![32768, 2048]⟩
abbrev S32768x4096 : Shape := ⟨2, ![32768, 4096]⟩
abbrev S2x8x2x16384 : Shape := ⟨4, ![2, 8, 2, 16384]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2x8x2x16384 : S_.BroadcastsInDim S2x8x2x16384 (![] : Fin 0 → Fin S2x8x2x16384.rank)
  reducesTo_S2x8x2x16384_S_d0_1_2_3 : S2x8x2x16384.ReducesTo [0, 1, 2, 3] S_

variable [Facts]

def fn {F : FTy → Type} [FloatOps F] (main_arg0 : FVec F S32768x2048 .bf16) (main_arg1 : FVec F S32768x4096 .bf16) (main_arg2 : FVec F S2x8x2x16384 .f32) : IVec S_ 1 :=
  let main_v0 : FVec F S32768x2048 .bf16 := Host.absf main_arg0
  let main_cst : FVec F S_ .bf16 := constant S_ .bf16 0x7F80#16
  let main_v1 : FVec F S32768x2048 .bf16 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2x8x2x16384 .f32 := Host.absf main_arg2
  let main_cst_0 : FVec F S_ .f32 := constant S_ .f32 0x7F800000#32
  let main_v5 : FVec F S2x8x2x16384 .f32 := broadcastInDim S2x8x2x16384 ![] bcast_S_S2x8x2x16384 main_cst_0
  let main_v6 : IVec S2x8x2x16384 1 := cmpf .olt main_v4 main_v5
  let main_c_1 : IVec S_ 1 := constantI S_ 1 1#1
  let main_v7 : IVec S_ 1 := (fun x v => Host.reduce IntOp.andi x v reducesTo_S2x8x2x16384_S_d0_1_2_3 h_S_) main_v6 main_c_1
  let main_v8 : IVec S_ 1 := andi main_v3 main_v7
  main_v8
-- ==== Kernel.lean ====
abbrev S32768x2048 : Shape := ⟨2, ![32768, 2048]⟩
abbrev S32768x4096 : Shape := ⟨2, ![32768, 4096]⟩
abbrev S2x8x2x16384 : Shape := ⟨4, ![2, 8, 2, 16384]⟩
abbrev S528 : Shape := ⟨1, ![528]⟩
abbrev S32768x1024 : Shape := ⟨2, ![32768, 1024]⟩
abbrev S512x128 : Shape := ⟨2, ![512, 128]⟩
abbrev S1 : Shape := ⟨1, ![1]⟩
abbrev S1x1x2x512 : Shape := ⟨4, ![1, 1, 2, 512]⟩
abbrev S1024x128 : Shape := ⟨2, ![1024, 128]⟩
abbrev S1024x1 : Shape := ⟨2, ![1024, 1]⟩
abbrev S1x1x2x1 : Shape := ⟨4, ![1, 1, 2, 1]⟩
abbrev S2x1 : Shape := ⟨2, ![2, 1]⟩
abbrev S2x512 : Shape := ⟨2, ![2, 512]⟩
abbrev S1024x512 : Shape := ⟨2, ![1024, 512]⟩
abbrev S512x512 : Shape := ⟨2, ![512, 512]⟩
abbrev S1x512 : Shape := ⟨2, ![1, 512]⟩
abbrev S1024 : Shape := ⟨1, ![1024]⟩

abbrev nBuf : Space → Nat
  | .hbm => 4
  | .vmem => 18
  | .smem => 2
  | _ => 0

abbrev bufTy : (tb : Table) → Fin (tcTables nBuf tb) → BufTy
  | .hbm, ⟨0, _⟩ => ⟨S32768x2048, .bf16⟩
  | .hbm, ⟨1, _⟩ => ⟨S32768x4096, .bf16⟩
  | .hbm, ⟨2, _⟩ => ⟨S2x8x2x16384, .f32⟩
  | .hbm, ⟨3, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x2x512, .f32⟩
  | .local _ .vmem, ⟨7, _⟩ => ⟨S1x1x2x512, .f32⟩
  | .local _ .vmem, ⟨8, _⟩ => ⟨S1x1x2x512, .f32⟩
  | .local _ .vmem, ⟨9, _⟩ => ⟨S1x1x2x512, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1024x128, .bf16⟩
  | .local _ .vmem, ⟨15, _⟩ => ⟨S1024x1, .f32⟩
  | .local _ .vmem, ⟨16, _⟩ => ⟨S1024x1, .f32⟩
  | .local _ .vmem, ⟨17, _⟩ => ⟨S1024x128, .f32⟩
  | .local _ .smem, ⟨0, _⟩ => ⟨S528, .i32⟩
  | .local _ .smem, ⟨1, _⟩ => ⟨S528, .i32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 528], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c8_i32 : BitVec 32 := 8#32
  let v4 : BitVec 32 := Scalar.addi c8_i32 arg1
  let c0_i32 : BitVec 32 := 0#32
  ![v3.toNat, v4.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 1 (Rect.unit (s := S528) ![v1.toNat] S1.size (k0_off1_inb i)) numel1_S1
  let v3 : BitVec 32 := Scalar.addi v0 v2
  let c16_i32 : BitVec 32 := 16#32
  let v4 : BitVec 32 := Scalar.addi c16_i32 arg1
  let c0_i32 : BitVec 32 := 0#32
  ![v3.toNat, v4.toNat]

def cc0_transform_3 (k0_off1_inb : ∀ i : grid0.Coords, ∀ a, (k0_off1 i) a + S1.size a ≤ S528.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S528) ![v0.toNat] S1.size (k0_off1_inb i)) numel1_S1
  let c0_i32 : BitVec 32 := 0#32
  let c0_i32_0 : BitVec 32 := 0#32
  ![arg0.toNat, arg1.toNat, c0_i32.toNat, v1.toNat]

def cc0_transform_4 (k0_off1_inb : ∀ i : grid0.Coords, ∀ a, (k0_off1 i) a + S1.size a ≤ S528.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S528) ![v0.toNat] S1.size (k0_off1_inb i)) numel1_S1
  let c0_i32 : BitVec 32 := 0#32
  let c0_i32_0 : BitVec 32 := 0#32
  ![arg0.toNat, arg1.toNat, c0_i32.toNat, v1.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c24_i32 : BitVec 32 := 24#32
  let v4 : BitVec 32 := Scalar.addi c24_i32 arg1
  let c0_i32 : BitVec 32 := 0#32
  ![v3.toNat, v4.toNat]

def cc0_transform_6 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : Index := Scalar.indexCast arg2
  let v2 : BitVec 32 := pf.at 0 (Rect.unit (s := S528) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S32768x2048 : Shape := ⟨2, ![32768, 2048]⟩
abbrev S32768x4096 : Shape := ⟨2, ![32768, 4096]⟩
abbrev S2x8x2x16384 : Shape := ⟨4, ![2, 8, 2, 16384]⟩
abbrev S32768x1024 : Shape := ⟨2, ![32768, 1024]⟩
abbrev S2x16384x16x64 : Shape := ⟨4, ![2, 16384, 16, 64]⟩
abbrev S2x16x16384x64 : Shape := ⟨4, ![2, 16, 16384, 64]⟩
abbrev S2x16x16384 : Shape := ⟨3, ![2, 16, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x16x16384x16384 : Shape := ⟨4, ![2, 16, 16384, 16384]⟩
abbrev S2x16x16384x1 : Shape := ⟨4, ![2, 16, 16384, 1]⟩
abbrev S2x16x1x16384 : Shape := ⟨4, ![2, 16, 1, 16384]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x4096, .bf16⟩
  | .hbm, ⟨2, _⟩ => ⟨S2x8x2x16384, .f32⟩
  | .hbm, ⟨3, _⟩ => ⟨S32768x1024, .bf16⟩
  | .hbm, ⟨4, _⟩ => ⟨S32768x1024, .f32⟩
  | .hbm, ⟨5, _⟩ => ⟨S2x16384x16x64, .f32⟩
  | .hbm, ⟨6, _⟩ => ⟨S2x16x16384x64, .f32⟩
  | .hbm, ⟨7, _⟩ => ⟨S32768x1024, .bf16⟩
  | .hbm, ⟨8, _⟩ => ⟨S32768x1024, .f32⟩
  | .hbm, ⟨9, _⟩ => ⟨S2x16384x16x64, .f32⟩
  | .hbm, ⟨10, _⟩ => ⟨S2x16x16384x64, .f32⟩
  | .hbm, ⟨11, _⟩ => ⟨S32768x1024, .bf16⟩
  | .hbm, ⟨12, _⟩ => ⟨S32768x1024, .f32⟩
  | .hbm, ⟨13, _⟩ => ⟨S2x16384x16x64, .f32⟩
  | .hbm, ⟨14, _⟩ => ⟨S2x16x16384x64, .f32⟩
  | .hbm, ⟨15, _⟩ => ⟨S32768x1024, .bf16⟩
  | .hbm, ⟨16, _⟩ => ⟨S32768x1024, .f32⟩
  | .hbm, ⟨17, _⟩ => ⟨S2x16x16384, .f32⟩
  | .hbm, ⟨18, _⟩ => ⟨S16384, .i32⟩
  | .hbm, ⟨19, _⟩ => ⟨S16384x1, .i32⟩
  | .hbm, ⟨20, _⟩ => ⟨S1x16384, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S2x16x16384x16384, .f32⟩
  | .hbm, ⟨25, _⟩ => ⟨S2x16x16384x1, .f32⟩
  | .hbm, ⟨26, _⟩ => ⟨S2x16x16384x16384, .f32⟩
  | .hbm, ⟨27, _⟩ => ⟨S2x16x16384x16384, .f32⟩
  | .hbm, ⟨28, _⟩ => ⟨S2x16x1x16384, .f32⟩
  | .hbm, ⟨29, _⟩ => ⟨S2x16x16384x16384, .f32⟩
  | .hbm, ⟨30, _⟩ => ⟨S2x16x16384x16384, .f32⟩
  | .hbm, ⟨31, _⟩ => ⟨S_, .f32⟩
  | .hbm, ⟨32, _⟩ => ⟨S_, .f32⟩
  | .hbm, ⟨33, _⟩ => ⟨S2x16x16384x16384, .i1⟩
  | .hbm, ⟨34, _⟩ => ⟨S2x16x16384x16384, .f32⟩
  | .hbm, ⟨35, _⟩ => ⟨S2x16x16384x16384, .f32⟩
  | .hbm, ⟨36, _⟩ => ⟨S_, .f32⟩
  | .hbm, ⟨37, _⟩ => ⟨S2x16x16384, .f32⟩
  | .hbm, ⟨38, _⟩ => ⟨S_, .f32⟩
  | .hbm, ⟨39, _⟩ => ⟨S2x16x16384, .f32⟩
  | .hbm, ⟨40, _⟩ => ⟨S2x16x16384, .f32⟩
  | .hbm, ⟨41, _⟩ => ⟨S2x16x16384x1, .f32⟩
  | .hbm, ⟨42, _⟩ => ⟨S2x16x16384x16384, .f32⟩
  | .hbm, ⟨43, _⟩ => ⟨S2x16x16384x16384, .f32⟩
  | .hbm, ⟨44, _⟩ => ⟨S2x16x16384x16384, .f32⟩
  | .hbm, ⟨45, _⟩ => ⟨S_, .f32⟩
  | .hbm, ⟨46, _⟩ => ⟨S2x16x16384, .f32⟩
  | .hbm, ⟨47, _⟩ => ⟨S2x16x16384x1, .f32⟩
  | .hbm, ⟨48, _⟩ => ⟨S2x16x16384x16384, .f32⟩
  | .hbm, ⟨49, _⟩ => ⟨S2x16x16384x16384, .f32⟩
  | .hbm, ⟨50, _⟩ => ⟨S2x16x16384x64, .f32⟩
  | .hbm, ⟨51, _⟩ => ⟨S2x16384x16x64, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Kernel2.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S139264x1024 : Shape := ⟨2, ![139264, 1024]⟩
abbrev S544 : Shape := ⟨1, ![544]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S544, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S544x256x1024, .f32⟩
  | .hbm, ⟨32, _⟩ => ⟨S_, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S544x256x1024, .f32⟩
  | .hbm, ⟨48, _⟩ => ⟨S_, .f32⟩
  | .hbm, ⟨49, _⟩ => ⟨S544x256x1024, .f32⟩
  | .hbm, ⟨50, _⟩ => ⟨S544x256x1024, .f32⟩
  | .hbm, ⟨51, _⟩ => ⟨S_, .f32⟩
  | .hbm, ⟨52, _⟩ => ⟨S544x256x1024, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x256x1024, .i1⟩
  | .hbm, ⟨89, _⟩ => ⟨S544x256x1024, .f32⟩
  | .hbm, ⟨90, _⟩ => ⟨S544x256x1024, .f32⟩
  | .hbm, ⟨91, _⟩ => ⟨S139264x1024, .f32⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S32768x1024 : Shape := ⟨2, ![32768, 1024]⟩
abbrev S1024x4112 : Shape := ⟨2, ![1024, 4112]⟩
abbrev S1024x4096 : Shape := ⟨2, ![1024, 4096]⟩
abbrev S32768x4096 : Shape := ⟨2, ![32768, 4096]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x4112, .f32⟩
  | .hbm, ⟨2, _⟩ => ⟨S1024x4096, .f32⟩
  | .hbm, ⟨3, _⟩ => ⟨S32768x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x1024 : Shape := ⟨2, ![32768, 1024]⟩
abbrev S1024x4112 : Shape := ⟨2, ![1024, 4112]⟩
abbrev S32768x4112 : Shape := ⟨2, ![32768, 4112]⟩
abbrev S32768x4096 : Shape := ⟨2, ![32768, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4112, .f32⟩
  | .hbm, ⟨2, _⟩ => ⟨S32768x4112, .f32⟩
  | .hbm, ⟨3, _⟩ => ⟨S32768x4096, .f32⟩
  | .hbm, ⟨4, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x1024 : Shape := ⟨2, ![32768, 1024]⟩
abbrev S1024x3592 : Shape := ⟨2, ![1024, 3592]⟩
abbrev S1024x3584 : Shape := ⟨2, ![1024, 3584]⟩
abbrev S32768x3584 : Shape := ⟨2, ![32768, 3584]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x3592, .f32⟩
  | .hbm, ⟨2, _⟩ => ⟨S1024x3584, .f32⟩
  | .hbm, ⟨3, _⟩ => ⟨S32768x3584, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x3592 : Shape := ⟨2, ![1024, 3592]⟩
abbrev S32768x3592 : Shape := ⟨2, ![32768, 3592]⟩
abbrev S32768x3584 : Shape := ⟨2, ![32768, 3584]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3592, .f32⟩
  | .hbm, ⟨2, _⟩ => ⟨S32768x3592, .f32⟩
  | .hbm, ⟨3, _⟩ => ⟨S32768x3584, .f32⟩
  | .hbm, ⟨4, _⟩ => ⟨S32768x3584, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel6.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S32768x4096 : Shape := ⟨2, ![32768, 4096]⟩
abbrev S2x64 : Shape := ⟨2, ![2, 64]⟩
abbrev S2 : Shape := ⟨1, ![2]⟩
abbrev S2x1 : Shape := ⟨2, ![2, 1]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x1x128 : Shape := ⟨3, ![2, 1, 128]⟩
abbrev S32768x2048 : Shape := ⟨2, ![32768, 2048]⟩
abbrev S1024x128 : Shape := ⟨2, ![1024, 128]⟩
abbrev S1x1x128 : Shape := ⟨3, ![1, 1, 128]⟩
abbrev S1024 : Shape := ⟨1, ![1024]⟩
abbrev S1024x1 : Shape := ⟨2, ![1024, 1]⟩
abbrev S1x128 : Shape := ⟨2, ![1, 128]⟩

abbrev nBuf : Space → Nat
  | .hbm => 11
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S2x64, .f32⟩
  | .hbm, ⟨2, _⟩ => ⟨S2, .f32⟩
  | .hbm, ⟨3, _⟩ => ⟨S2x1, .f32⟩
  | .hbm, ⟨4, _⟩ => ⟨S2x64, .f32⟩
  | .hbm, ⟨5, _⟩ => ⟨S2x64, .f32⟩
  | .hbm, ⟨6, _⟩ => ⟨S1x2x1x64, .f32⟩
  | .hbm, ⟨7, _⟩ => ⟨S1x2x2x64, .f32⟩
  | .hbm, ⟨8, _⟩ => ⟨S2x128, .f32⟩
  | .hbm, ⟨9, _⟩ => ⟨S2x1x128, .f32⟩
  | .hbm, ⟨10, _⟩ => ⟨S32768x2048, .bf16⟩
  | .local _ .vmem, ⟨0, _⟩ => ⟨S1024x128, .bf16⟩
  | .local _ .vmem, ⟨1, _⟩ => ⟨S1024x128, .bf16⟩
  | .local _ .vmem, ⟨2, _⟩ => ⟨S1x1x128, .f32⟩
  | .local _ .vmem, ⟨3, _⟩ => ⟨S1x1x128, .f32⟩
  | .local _ .vmem, ⟨4, _⟩ => ⟨S1024x128, .bf16⟩
  | .local _ .vmem, ⟨5, _⟩ => ⟨S1024x128, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x4096 : Shape := ⟨2, ![32768, 4096]⟩
abbrev S2x64 : Shape := ⟨2, ![2, 64]⟩
abbrev S32768x1024 : Shape := ⟨2, ![32768, 1024]⟩
abbrev S32768x16x64 : Shape := ⟨3, ![32768, 16, 64]⟩
abbrev S1x64 : Shape := ⟨2, ![1, 64]⟩
abbrev S64 : Shape := ⟨1, ![64]⟩
abbrev S_ : Shape := ⟨0, ![]⟩
abbrev S32768x16 : Shape := ⟨2, ![32768, 16]⟩
abbrev S32768x16x1 : Shape := ⟨3, ![32768, 16, 1]⟩
abbrev S1x1x64 : Shape := ⟨3, ![1, 1, 64]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S2x64, .f32⟩
  | .hbm, ⟨2, _⟩ => ⟨S32768x1024, .bf16⟩
  | .hbm, ⟨3, _⟩ => ⟨S32768x1024, .f32⟩
  | .hbm, ⟨4, _⟩ => ⟨S32768x16x64, .f32⟩
  | .hbm, ⟨5, _⟩ => ⟨S32768x1024, .bf16⟩
  | .hbm, ⟨6, _⟩ => ⟨S32768x1024, .f32⟩
  | .hbm, ⟨7, _⟩ => ⟨S32768x16x64, .f32⟩
  | .hbm, ⟨8, _⟩ => ⟨S1x64, .f32⟩
  | .hbm, ⟨9, _⟩ => ⟨S64, .f32⟩
  | .hbm, ⟨10, _⟩ => ⟨S32768x16x64, .f32⟩
  | .hbm, ⟨11, _⟩ => ⟨S_, .f32⟩
  | .hbm, ⟨12, _⟩ => ⟨S32768x16, .f32⟩
  | .hbm, ⟨13, _⟩ => ⟨S32768x16x1, .f32⟩
  | .hbm, ⟨14, _⟩ => ⟨S_, .f32⟩
  | .hbm, ⟨15, _⟩ => ⟨S32768x16x1, .f32⟩
  | .hbm, ⟨16, _⟩ => ⟨S32768x16x1, .f32⟩
  | .hbm, ⟨17, _⟩ => ⟨S_, .f32⟩
  | .hbm, ⟨18, _⟩ => ⟨S32768x16x1, .f32⟩
  | .hbm, ⟨19, _⟩ => ⟨S32768x16x1, .f32⟩
  | .hbm, ⟨20, _⟩ => ⟨S32768x16x1, .f32⟩
  | .hbm, ⟨21, _⟩ => ⟨S32768x16x64, .f32⟩
  | .hbm, ⟨22, _⟩ => ⟨S32768x16x64, .f32⟩
  | .hbm, ⟨23, _⟩ => ⟨S1x1x64, .f32⟩
  | .hbm, ⟨24, _⟩ => ⟨S32768x16x64, .f32⟩
  | .hbm, ⟨25, _⟩ => ⟨S32768x16x64, .f32⟩
  | .hbm, ⟨26, _⟩ => ⟨S_, .f32⟩
  | .hbm, ⟨27, _⟩ => ⟨S32768x16x64, .f32⟩
  | .hbm, ⟨28, _⟩ => ⟨S32768x16x64, .f32⟩
  | .hbm, ⟨29, _⟩ => ⟨S1x64, .f32⟩
  | .hbm, ⟨30, _⟩ => ⟨S64, .f32⟩
  | .hbm, ⟨31, _⟩ => ⟨S32768x16x64, .f32⟩
  | .hbm, ⟨32, _⟩ => ⟨S_, .f32⟩
  | .hbm, ⟨33, _⟩ => ⟨S32768x16, .f32⟩
  | .hbm, ⟨34, _⟩ => ⟨S32768x16x1, .f32⟩
  | .hbm, ⟨35, _⟩ => ⟨S_, .f32⟩
  | .hbm, ⟨36, _⟩ => ⟨S32768x16x1, .f32⟩
  | .hbm, ⟨37, _⟩ => ⟨S32768x16x1, .f32⟩
  | .hbm, ⟨38, _⟩ => ⟨S_, .f32⟩
  | .hbm, ⟨39, _⟩ => ⟨S32768x16x1, .f32⟩
  | .hbm, ⟨40, _⟩ => ⟨S32768x16x1, .f32⟩
  | .hbm, ⟨41, _⟩ => ⟨S32768x16x1, .f32⟩
  | .hbm, ⟨42, _⟩ => ⟨S32768x16x64, .f32⟩
  | .hbm, ⟨43, _⟩ => ⟨S32768x16x64, .f32⟩
  | .hbm, ⟨44, _⟩ => ⟨S1x1x64, .f32⟩
  | .hbm, ⟨45, _⟩ => ⟨S32768x16x64, .f32⟩
  | .hbm, ⟨46, _⟩ => ⟨S32768x16x64, .f32⟩
  | .hbm, ⟨47, _⟩ => ⟨S32768x1024, .f32⟩
  | .hbm, ⟨48, _⟩ => ⟨S32768x1024, .f32⟩
  | .hbm, ⟨49, _⟩ => ⟨S32768x2048, .f32⟩
  | .hbm, ⟨50, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel8.lean ====
abbrev S32768x1024 : Shape := ⟨2, ![32768, 1024]⟩
abbrev S1024x128 : Shape := ⟨2, ![1024, 128]⟩
abbrev S1x128 : Shape := ⟨2, ![1, 128]⟩
abbrev S32768x128 : Shape := ⟨2, ![32768, 128]⟩
abbrev S512x1024 : Shape := ⟨2, ![512, 1024]⟩
abbrev S512x128 : Shape := ⟨2, ![512, 128]⟩
abbrev S8x128 : Shape := ⟨2, ![8, 128]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S1x128, .f32⟩
  | .hbm, ⟨3, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S32768x1024 : Shape := ⟨2, ![32768, 1024]⟩
abbrev S1024x128 : Shape := ⟨2, ![1024, 128]⟩
abbrev S1x128 : Shape := ⟨2, ![1, 128]⟩
abbrev S32768x128 : Shape := ⟨2, ![32768, 128]⟩
abbrev S_ : Shape := ⟨0, ![]⟩
abbrev S2x16384x128 : Shape := ⟨3, ![2, 16384, 128]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x128x16384 : Shape := ⟨3, ![2, 128, 16384]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S1x128, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S_, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S32768x128, .i1⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S32768x128, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S2x16384x128, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S16384x16384, .f32⟩
  | .hbm, ⟨34, _⟩ => ⟨S2x128x16384, .f32⟩
  | .hbm, ⟨35, _⟩ => ⟨S2x16384x128, .f32⟩
  | .hbm, ⟨36, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== Proof.Block.lean ====
module

public import proofs.«01_k».proof.Proof.Gen.KernelIdeal.Skeleton
public import proofs.«01_k».proof.Proof.Gen.KernelIdeal.Launch
public import Idealize.ShloMosaic.Lib.Tactic
public import Idealize.ShloMosaic.Lib.Ring
public import Idealize.ShloMosaic.Lib.Writes
public import Idealize.ShloMosaic.Lib.Exec
public import Idealize.ShloMosaic.Lib.Affine
public import Idealize.ShloMosaic.Lib.VecWindow
public import Idealize.ShloMosaic.Lib.Pointwise.Index
public import Idealize.ShloMosaic.Lib.Pipeline.Quiescent
public import Idealize.ShloMosaic.Lib.Pipeline.TableIdle
public import Idealize.ShloMosaic.Lib.Pipeline.FrameBody
public import Idealize.ShloMosaic.Lib.Pipeline.Frame
public import Idealize.ShloMosaic.Lib.Affine
public import Idealize.ShloMosaic.Lib.Pipeline.Quiescent
public import Idealize.ShloMosaic.Lib.Pipeline.TableIdle
public import Idealize.ShloMosaic.Lib.Pipeline.FrameBody
public import Idealize.ShloMosaic.Lib.Pipeline.Frame

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one grid point computes

The kernel carries, from one key block to the next, the packed query block, the running row maximum, the running row sum of
exponentials and the running weighted sum of values. -/

/-- What the kernel carries from one key block to the next. -/
structure St (F : FTy → Type) where
  /-- the query block, once per head of the pair: the other head's lanes are zero -/
  qs : S1024x128.Idx → Elt F .bf16
  /-- the row maximum so far -/
  m : S1024x1.Idx → Elt F .f32
  /-- the row sum so far -/
  l : S1024x1.Idx → Elt F .f32
  /-- the weighted sum of the values so far -/
  acc : S1024x128.Idx → Elt F .f32

/-- The packed query block: the first head's lanes in the upper half of the rows, the second head's in the lower half. -/
def qsOf (q : S512x128.Idx → Elt F .bf16) : S1024x128.Idx → Elt F .bf16 := fun y =>
  if h : (y 0).val < 512 then k0_pay2 (F := F) q (ix2 ⟨(y 0).val, h⟩ (y 1))
  else k0_pay3 (F := F) q (ix2 ⟨(y 0).val - 512, by have := (y 0).isLt; have e : S1024x128.size 0 = 1024 := rfl; omega⟩ (y 1))

/-- The state a query block starts from. -/
def start (q : S512x128.Idx → Elt F .bf16) : St F := ⟨qsOf q, k0_pay4, k0_pay5, k0_pay6⟩

/-- The first column of the cumulative gates of the query block: the gates at its first position, for the two heads. -/
def c0Of (x4 : S1x1x2x512.Idx → Elt F .f32) : Vec F S1x1x2x1 .f32 :=
  VecWindow.window x4 ![0, 0, 0, 0] S1x1x2x1.size inb_S1x1x2x512_S1x1x2x1_0_0_0_0

/-- The state after the key block on the diagonal (masked). -/
def diag (k v : S512x128.Idx → Elt F .bf16) (ck c0 : S1x1x2x512.Idx → Elt F .f32) (s : St F) : St F :=
  ⟨s.qs, k0_pay9 (k0_pay14 (c0Of c0) ck s.qs k s.m),
    k0_pay7 (k0_pay16 (c0Of c0) ck s.qs k s.m) (k0_pay17 (c0Of c0) ck s.qs k s.m s.l),
    k0_pay8 (k0_pay15 (c0Of c0) ck s.qs k s.m) (k0_pay16 (c0Of c0) ck s.qs k s.m) s.acc v⟩

/-- The state after a key block below the diagonal. -/
def below (k v : S512x128.Idx → Elt F .bf16) (ck c0 : S1x1x2x512.Idx → Elt F .f32) (s : St F) : St F :=
  ⟨s.qs, k0_pay11 (k0_pay19 (c0Of c0) ck s.qs k s.m),
    k0_pay22 (c0Of c0) ck s.qs k s.m s.l,
    k0_pay10 (k0_pay20 (c0Of c0) ck s.qs k s.m) (k0_pay21 (c0Of c0) ck s.qs k s.m) s.acc v⟩

/-- The block written once the diagonal is done. -/
def outOf (gate : S512x128.Idx → Elt F .bf16) (s : St F) : S512x128.Idx → Elt F .bf16 := k0_pay12 s.acc s.l gate

/-! ## The words that steer a point -/

abbrev iiM : Memref sig .tc .smem S528 .i32 := Memref.whole main_c
abbrev jjM : Memref sig .tc .smem S528 .i32 := Memref.whole main_c_0
abbrev qsM : Memref sig .tc .vmem S1024x128 .bf16 := Memref.whole cc0_scratch0
abbrev mM : Memref sig .tc .vmem S1024x1 .f32 := Memref.whole cc0_scratch1
abbrev lM : Memref sig .tc .vmem S1024x1 .f32 := Memref.whole cc0_scratch2
abbrev accM : Memref sig .tc .vmem S1024x128 .f32 := Memref.whole cc0_scratch3

/-- The word the query-block table holds at the third grid coordinate. -/
abbrev iiW (i : grid0.Coords) (T : S528.Idx → Elt F .i32) : Elt F .i32 :=
  View.readAt (Elt F) iiM.view (Rect.unit (s := S528) (k0_off1 i) S1.size (k0_off1_inb i)).toLoadRect T (Shape.Idx.first (numel1_S1.symm ▸ Nat.one_pos))

/-- The word the key-block table holds at the third grid coordinate. -/
abbrev jjW (i : grid0.Coords) (T : S528.Idx → Elt F .i32) : Elt F .i32 :=
  View.readAt (Elt F) jjM.view (Rect.unit (s := S528) (k0_off1 i) S1.size (k0_off1_inb i)).toLoadRect T (Shape.Idx.first (numel1_S1.symm ▸ Nat.one_pos))

/-- The branch on equality of two words is taken exactly when they are equal. -/
theorem eq_branch (a b : BitVec 32) : (Scalar.cmpi .ne (Scalar.extui (Scalar.cmpi .eq a b) : BitVec 32) 0#32 = 1#1) ↔ a = b := by
  unfold Scalar.cmpi Scalar.extui
  by_cases h : a = b
  · subst h; simp [IntOp.cmpi]
  · have e : (a == b) = false := by simpa using h
    have e' : (a != b) = true := by simpa using h
    simp [IntOp.cmpi, e, e', h]

/-- The branch on inequality of two words is taken exactly when they differ. -/
theorem ne_branch (a b : BitVec 32) : (Scalar.cmpi .ne (Scalar.extui (Scalar.cmpi .ne a b) : BitVec 32) 0#32 = 1#1) ↔ a ≠ b := by
  unfold Scalar.cmpi Scalar.extui
  by_cases h : a = b
  · subst h; simp [IntOp.cmpi]
  · have e : (a == b) = false := by simpa using h
    have e' : (a != b) = true := by simpa using h
    simp [IntOp.cmpi, e, e', h]

/-- The closing branch is taken exactly when the two words are equal. -/
theorem cond4_iff (a b : BitVec 32) : k0_cond4 a b = 1#1 ↔ b = a := eq_branch b a

end Cert.KernelIdeal.Fox
-- ==== Proof.Run.lean ====
module

public import proofs.«01_k».proof.Proof.Gen.KernelIdeal.Skeleton
public import proofs.«01_k».proof.Proof.Gen.KernelIdeal.Launch
public import proofs.«01_k».proof.Proof.Block
public import Idealize.ShloMosaic.Lib.Tactic
public import Idealize.ShloMosaic.Lib.Ring
public import Idealize.ShloMosaic.Lib.Writes
public import Idealize.ShloMosaic.Lib.Exec
public import Idealize.ShloMosaic.Lib.Affine
public import Idealize.ShloMosaic.Lib.VecWindow
public import Idealize.ShloMosaic.Lib.Pointwise.Index
public import Idealize.ShloMosaic.Lib.Pipeline.Quiescent
public import Idealize.ShloMosaic.Lib.Pipeline.TableIdle
public import Idealize.ShloMosaic.Lib.Pipeline.FrameBody
public import Idealize.ShloMosaic.Lib.Pipeline.Frame
public import Idealize.ShloMosaic.Lib.Affine
public import Idealize.ShloMosaic.Lib.Pipeline.Quiescent
public import Idealize.ShloMosaic.Lib.Pipeline.TableIdle
public import Idealize.ShloMosaic.Lib.Pipeline.FrameBody
public import Idealize.ShloMosaic.Lib.Pipeline.Frame

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What two half-block stores leave in the packed query buffer, whatever it held. -/
theorem read_qs {sig' : RefSig} {κ : Kind} {sp : Space} (v : View sig' κ sp S1024x128 .bf16) (f : v.ty.Contents (Elt F)) (q : S512x128.Idx → Elt F .bf16) :
    v.read (Elt F) (v.writes (Elt F) f [⟨Rect.unit (s := S1024x128) ![512, 0] S512x128.size inb_S1024x128_S512x128_512_0, k0_pay3 q⟩,
      ⟨Rect.unit (s := S1024x128) ![0, 0] S512x128.size inb_S1024x128_S512x128_0_0, k0_pay2 q⟩]) = qsOf q := by
  funext y
  unfold qsOf
  have hy : (y 0).val < 1024 := (y 0).isLt
  by_cases h : (y 0).val < 512
  · rw [dif_pos h, View.read_writes_cons_unit_of_not_mem v f _ _ _ y rfl 0 (Or.inl h)]
    exact View.read_writes_cons_unit_of_mem v f _ _ _ y (ix2 ⟨(y 0).val, h⟩ (y 1)) rfl
      (fun a => match a with | ⟨0, _⟩ => (Nat.zero_add _).symm | ⟨1, _⟩ => (Nat.zero_add _).symm)
  · rw [dif_neg h]
    exact View.read_writes_cons_unit_of_mem v f _ _ _ y (ix2 ⟨(y 0).val - 512, by omega⟩ (y 1)) rfl
      (fun a => match a with | ⟨0, _⟩ => (Nat.add_sub_of_le (Nat.le_of_not_lt h)).symm | ⟨1, _⟩ => (Nat.zero_add _).symm)

/-- A load of the whole packed query buffer after the two half-block stores. -/
theorem readCov_qs (v : View sig .tc .vmem S1024x128 .bf16) (q : S512x128.Idx → Elt F .bf16) {off : Fin 2 → ℕ} (inb : ∀ a, off a + S1024x128.size a ≤ S1024x128.size a) :
    v.readCov [⟨Rect.unit (s := S1024x128) ![512, 0] S512x128.size inb_S1024x128_S512x128_512_0, k0_pay3 (F := F) q⟩,
      ⟨Rect.unit (s := S1024x128) ![0, 0] S512x128.size inb_S1024x128_S512x128_0_0, k0_pay2 (F := F) q⟩] (Rect.unit (s := S1024x128) off S1024x128.size inb).toLoadRect = qsOf q :=
  (View.readAt_full v _ inb).trans (read_qs v v.junk q)

/-- What the first query-block buffer's two stores leave, as contents. -/
theorem writes_qs (f : S1024x128.Idx → Elt F .bf16) (q : S512x128.Idx → Elt F .bf16) :
    qsM.view.writes (Elt F) f [⟨Rect.unit (s := S1024x128) ![512, 0] S512x128.size inb_S1024x128_S512x128_512_0, k0_pay3 q⟩,
      ⟨Rect.unit (s := S1024x128) ![0, 0] S512x128.size inb_S1024x128_S512x128_0_0, k0_pay2 q⟩] = qsOf q :=
  (View.read_whole (Val := Elt F) _ _).symm.trans (read_qs qsM.view f q)

/-- A store of a whole buffer leaves the payload. -/
theorem writes_whole (b : Ref sig .tc) (f : b.ty.Contents (Elt F)) {off : Fin b.ty.shape.rank → ℕ} (inb : ∀ a, off a + b.ty.shape.size a ≤ b.ty.shape.size a)
    (w : b.ty.shape.Idx → Elt F b.ty.elt) (L : List (View.Piece (Elt F) b.ty.shape b.ty.elt)) :
    (Memref.whole b).view.writes (Elt F) f (⟨Rect.unit off b.ty.shape.size inb, w⟩ :: L) = w :=
  (View.read_whole (Val := Elt F) _ _).symm.trans (View.read_writes_full (Memref.whole b).view f inb w L)

/-- The first column of the cumulative gates, as the body loads it. -/
theorem readAt_c0 (v : View sig .tc .vmem S1x1x2x512 .f32) (x : S1x1x2x512.Idx → Elt F .f32) :
    v.readAt (Elt F) (Rect.unit (s := S1x1x2x512) ![0, 0, 0, 0] S1x1x2x1.size inb_S1x1x2x512_S1x1x2x1_0_0_0_0).toLoadRect (v.rep x) = c0Of x :=
  View.readAt_rep_unit v x _ rfl _

/-- The value a bf16 output buffer holds after one whole store. -/
theorem read_out (v : View sig .tc .vmem S512x128 .bf16) (f : v.ty.Contents (Elt F)) (w : S512x128.Idx → Elt F .bf16) :
    v.read (Elt F) (v.writes (Elt F) f [⟨Rect.unit (s := S512x128) ![0, 0] S512x128.size inb_S512x128_S512x128_0_0, w⟩]) = w :=
  View.read_writes_full v f _ w []

/-- What a point holds: the six input blocks, the two tables, the output block, and the carried state. -/
def Holds (c : Dev nD) (arg5 arg6 arg7 : Memref sig .tc .vmem S512x128 .bf16) (arg8 arg9 : Memref sig .tc .vmem S1x1x2x512 .f32)
    (arg10 arg11 : Memref sig .tc .vmem S512x128 .bf16) (T0 T1 : S528.Idx → Elt F .i32) (x0 x1 x2 : S512x128.Idx → Elt F .bf16)
    (x3 x4 : S1x1x2x512.Idx → Elt F .f32) (x5 y6 : S512x128.Idx → Elt F .bf16) (s : St F) : sProp 𝕄 :=
  iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (arg9.view.loc (c : Thread nD τ) ↦[arg9.view.set]{fullShare} arg9.view.rep x4)
      ∗ (arg10.view.loc (c : Thread nD τ) ↦[arg10.view.set]{fullShare} arg10.view.rep x5)
      ∗ (iiM.view.loc (c : Thread nD τ) ↦{fullShare.right} T0)
      ∗ (jjM.view.loc (c : Thread nD τ) ↦{fullShare.right} T1)
      ∗ owns (c : Thread nD τ) arg11 fullShare y6
      ∗ (qsM.view.loc (c : Thread nD τ) ↦{fullShare} s.qs)
      ∗ (mM.view.loc (c : Thread nD τ) ↦{fullShare} s.m)
      ∗ (lM.view.loc (c : Thread nD τ) ↦{fullShare} s.l)
      ∗ (accM.view.loc (c : Thread nD τ) ↦{fullShare} s.acc))

set_option backward.proofsInPublic true in
set_option maxHeartbeats 1000000 in
/-- The first query block of a pair of heads: its only key block is on the diagonal. -/
theorem runDiagFirst (c : Dev nD) (i : grid0.Coords)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S1x1x2x512 .f32) (harg8 : arg8.IsWhole)
    (arg9 : Memref sig .tc .vmem S1x1x2x512 .f32) (harg9 : arg9.IsWhole) (arg10 : Memref sig .tc .vmem S512x128 .bf16) (harg10 : arg10.IsWhole)
    (arg11 : Memref sig .tc .vmem S512x128 .bf16) (harg11 : arg11.IsWhole)
    (T0 T1 : S528.Idx → Elt F .i32) (x0 x1 x2 : S512x128.Idx → Elt F .bf16) (x3 x4 : S1x1x2x512.Idx → Elt F .f32) (x5 y6 : S512x128.Idx → Elt F .bf16)
    (s : St F)
    (h0 : (jjW (F := F) i T1 = 0#32)) (h1 : (jjW (F := F) i T1 = iiW (F := F) i T0)) (K : PUnit → sProp 𝕄) :
    iprop(Holds c arg5 arg6 arg7 arg8 arg9 arg10 arg11 T0 T1 x0 x1 x2 x3 x4 x5 y6 s
      ∗ (Holds c arg5 arg6 arg7 arg8 arg9 arg10 arg11 T0 T1 x0 x1 x2 x3 x4 x5 (outOf x5 (diag x1 x2 x3 x4 (start x0))) (diag x1 x2 x3 x4 (start x0)) -∗ K ⟨⟩))
      ⊢ wp frame (wpE (defs₀ (F := F)) Variants.none c none) Set.univ (cc0_fox_attn i iiM (Memref.isWhole_whole _) jjM (Memref.isWhole_whole _) arg5 harg5 arg6 harg6 arg7 harg7 arg8 harg8 arg9 harg9 arg10 harg10 arg11 harg11 qsM (Memref.isWhole_whole _) mM (Memref.isWhole_whole _) lM (Memref.isWhole_whole _) accM (Memref.isWhole_whole _)) K := by
  unfold Holds owns
  rw [cc0_fox_attn_eq_skeleton]; unfold cc0_fox_attn_skel
  iintro ⟨⟨H0, H1, H2, H3, H4, H5, HT0, HT1, ⟨%f6, %hf6, HO6⟩, HS0, HS1, HS2, HS3⟩, Hk⟩
  obtain rfl := harg11.eq_unread hf6
  have hS0 : qsM.IsWhole := Memref.isWhole_whole _
  have hS1 : mM.IsWhole := Memref.isWhole_whole _
  have hS2 : lM.IsWhole := Memref.isWhole_whole _
  have hS3 : accM.IsWhole := Memref.isWhole_whole _
  have hT0 : iiM.IsWhole := Memref.isWhole_whole _
  have hT1 : jjM.IsWhole := Memref.isWhole_whole _
  have hc0 : (Scalar.cmpi .ne (Scalar.extui (Scalar.cmpi .eq (jjW (F := F) i T1) 0#32)) 0#32 = 1#1) := (eq_branch _ _).2 h0
  have hc1 : (Scalar.cmpi .ne (Scalar.extui (Scalar.cmpi .eq (jjW (F := F) i T1) (iiW (F := F) i T0))) 0#32 = 1#1) := (eq_branch _ _).2 h1
  have hc2 : ¬ (Scalar.cmpi .ne (Scalar.extui (Scalar.cmpi .ne (jjW (F := F) i T1) (iiW (F := F) i T0))) 0#32 = 1#1) := (fun e => (ne_branch _ _).1 e h1)
  have hc3 : (k0_cond4 (iiW (F := F) i T0) (jjW (F := F) i T1) = 1#1) := (cond4_iff _ _).2 h1
  sl_exec! (disch := first | (guard_target = Scalar.cmpi _ _ _ = _; exact hc0) | (guard_target = Scalar.cmpi _ _ _ = _; exact hc1) | (guard_target = ¬(Scalar.cmpi _ _ _ = _); exact hc2) | (guard_target = k0_cond4 _ _ = _; exact hc3))
  sl_step
  have e1 : mM.view.writes (Elt F) mM.view.junk (runDiagFirst.sl.HS1_2 arg5 arg6 arg8 arg9 x0 x1 x3 x4) = (diag x1 x2 x3 x4 (start x0)).m := by
    unfold runDiagFirst.sl.HS1_2
    refine (writes_whole cc0_scratch1 _ _ _ _).trans ?_
    repeat (first | unfold runDiagFirst.sl.HS0_2 | unfold runDiagFirst.sl.HS1_1 | unfold runDiagFirst.sl.HS1_2 | unfold runDiagFirst.sl.HS2_1 | unfold runDiagFirst.sl.HS2_2 | unfold runDiagFirst.sl.HS3_1 | unfold runDiagFirst.sl.HS3_2 | unfold runDiagFirst.sl.r | unfold runDiagFirst.sl.r_1 | unfold runDiagFirst.sl.r_2 | unfold runDiagFirst.sl.r_3 | unfold runDiagFirst.sl.r_4 | unfold runDiagFirst.sl.r_5 | unfold runDiagFirst.sl.v16 | unfold runDiagFirst.sl.v17 | unfold runDiagFirst.sl.v22 | unfold runDiagFirst.sl.v44 | unfold runDiagFirst.sl.v53 | unfold runDiagFirst.sl.v61)
    repeat (first | rewrite [readAt_c0] | rewrite [View.readAt_rep_full] | rewrite [readCov_qs] | rewrite [View.readCov_full] | rewrite [View.readAt_full])
    rfl
  have e2 : lM.view.writes (Elt F) lM.view.junk (runDiagFirst.sl.HS2_2 arg5 arg6 arg8 arg9 x0 x1 x3 x4) = (diag x1 x2 x3 x4 (start x0)).l := by
    unfold runDiagFirst.sl.HS2_2
    refine (writes_whole cc0_scratch2 _ _ _ _).trans ?_
    repeat (first | unfold runDiagFirst.sl.HS0_2 | unfold runDiagFirst.sl.HS1_1 | unfold runDiagFirst.sl.HS1_2 | unfold runDiagFirst.sl.HS2_1 | unfold runDiagFirst.sl.HS2_2 | unfold runDiagFirst.sl.HS3_1 | unfold runDiagFirst.sl.HS3_2 | unfold runDiagFirst.sl.r | unfold runDiagFirst.sl.r_1 | unfold runDiagFirst.sl.r_2 | unfold runDiagFirst.sl.r_3 | unfold runDiagFirst.sl.r_4 | unfold runDiagFirst.sl.r_5 | unfold runDiagFirst.sl.v16 | unfold runDiagFirst.sl.v17 | unfold runDiagFirst.sl.v22 | unfold runDiagFirst.sl.v44 | unfold runDiagFirst.sl.v53 | unfold runDiagFirst.sl.v61)
    repeat (first | rewrite [readAt_c0] | rewrite [View.readAt_rep_full] | rewrite [readCov_qs] | rewrite [View.readCov_full] | rewrite [View.readAt_full])
    rfl
  have e3 : accM.view.writes (Elt F) accM.view.junk (runDiagFirst.sl.HS3_2 arg5 arg6 arg7 arg8 arg9 x0 x1 x2 x3 x4) = (diag x1 x2 x3 x4 (start x0)).acc := by
    unfold runDiagFirst.sl.HS3_2
    refine (writes_whole cc0_scratch3 _ _ _ _).trans ?_
    repeat (first | unfold runDiagFirst.sl.HS0_2 | unfold runDiagFirst.sl.HS1_1 | unfold runDiagFirst.sl.HS1_2 | unfold runDiagFirst.sl.HS2_1 | unfold runDiagFirst.sl.HS2_2 | unfold runDiagFirst.sl.HS3_1 | unfold runDiagFirst.sl.HS3_2 | unfold runDiagFirst.sl.r | unfold runDiagFirst.sl.r_1 | unfold runDiagFirst.sl.r_2 | unfold runDiagFirst.sl.r_3 | unfold runDiagFirst.sl.r_4 | unfold runDiagFirst.sl.r_5 | unfold runDiagFirst.sl.v16 | unfold runDiagFirst.sl.v17 | unfold runDiagFirst.sl.v22 | unfold runDiagFirst.sl.v44 | unfold runDiagFirst.sl.v53 | unfold runDiagFirst.sl.v61)
    repeat (first | rewrite [readAt_c0] | rewrite [View.readAt_rep_full] | rewrite [readCov_qs] | rewrite [View.readCov_full] | rewrite [View.readAt_full])
    rfl
  have e0 : qsM.view.writes (Elt F) qsM.view.junk (runDiagFirst.sl.HS0_2 arg5 x0) = (diag x1 x2 x3 x4 (start x0)).qs := by
    unfold runDiagFirst.sl.HS0_2
    rewrite [View.readAt_rep_full]
    exact writes_qs _ _
  have e6 : arg11.view.read (Elt F) (arg11.view.writes (Elt F) arg11.view.junk (runDiagFirst.sl.HO6_1 arg5 arg6 arg7 arg8 arg9 arg10 x0 x1 x2 x3 x4 x5)) = (outOf x5 (diag x1 x2 x3 x4 (start x0))) := by
    unfold runDiagFirst.sl.HO6_1
    refine (read_out _ _ _).trans ?_
    repeat (first | unfold runDiagFirst.sl.HS0_2 | unfold runDiagFirst.sl.HS1_1 | unfold runDiagFirst.sl.HS1_2 | unfold runDiagFirst.sl.HS2_1 | unfold runDiagFirst.sl.HS2_2 | unfold runDiagFirst.sl.HS3_1 | unfold runDiagFirst.sl.HS3_2 | unfold runDiagFirst.sl.r | unfold runDiagFirst.sl.r_1 | unfold runDiagFirst.sl.r_2 | unfold runDiagFirst.sl.r_3 | unfold runDiagFirst.sl.r_4 | unfold runDiagFirst.sl.r_5 | unfold runDiagFirst.sl.v16 | unfold runDiagFirst.sl.v17 | unfold runDiagFirst.sl.v22 | unfold runDiagFirst.sl.v44 | unfold runDiagFirst.sl.v53 | unfold runDiagFirst.sl.v61)
    repeat (first | rewrite [readAt_c0] | rewrite [View.readAt_rep_full] | rewrite [readCov_qs] | rewrite [View.readCov_full] | rewrite [View.readAt_full])
    rfl
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    ipureintro; exact e6
  isplitl [HS0]; · rewrite [e0]; iexact HS0
  isplitl [HS1]; · rewrite [e1]; iexact HS1
  isplitl [HS2]; · rewrite [e2]; iexact HS2
  rewrite [e3]; iexact HS3

set_option backward.proofsInPublic true in
set_option maxHeartbeats 1000000 in
/-- The first key block of a later query block. -/
theorem runFirst (c : Dev nD) (i : grid0.Coords)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S1x1x2x512 .f32) (harg8 : arg8.IsWhole)
    (arg9 : Memref sig .tc .vmem S1x1x2x512 .f32) (harg9 : arg9.IsWhole) (arg10 : Memref sig .tc .vmem S512x128 .bf16) (harg10 : arg10.IsWhole)
    (arg11 : Memref sig .tc .vmem S512x128 .bf16) (harg11 : arg11.IsWhole)
    (T0 T1 : S528.Idx → Elt F .i32) (x0 x1 x2 : S512x128.Idx → Elt F .bf16) (x3 x4 : S1x1x2x512.Idx → Elt F .f32) (x5 y6 : S512x128.Idx → Elt F .bf16)
    (s : St F)
    (h0 : (jjW (F := F) i T1 = 0#32)) (h1 : ¬ (jjW (F := F) i T1 = iiW (F := F) i T0)) (K : PUnit → sProp 𝕄) :
    iprop(Holds c arg5 arg6 arg7 arg8 arg9 arg10 arg11 T0 T1 x0 x1 x2 x3 x4 x5 y6 s
      ∗ (Holds c arg5 arg6 arg7 arg8 arg9 arg10 arg11 T0 T1 x0 x1 x2 x3 x4 x5 (y6) (below x1 x2 x3 x4 (start x0)) -∗ K ⟨⟩))
      ⊢ wp frame (wpE (defs₀ (F := F)) Variants.none c none) Set.univ (cc0_fox_attn i iiM (Memref.isWhole_whole _) jjM (Memref.isWhole_whole _) arg5 harg5 arg6 harg6 arg7 harg7 arg8 harg8 arg9 harg9 arg10 harg10 arg11 harg11 qsM (Memref.isWhole_whole _) mM (Memref.isWhole_whole _) lM (Memref.isWhole_whole _) accM (Memref.isWhole_whole _)) K := by
  unfold Holds owns
  rw [cc0_fox_attn_eq_skeleton]; unfold cc0_fox_attn_skel
  iintro ⟨⟨H0, H1, H2, H3, H4, H5, HT0, HT1, ⟨%f6, %hf6, HO6⟩, HS0, HS1, HS2, HS3⟩, Hk⟩
  obtain rfl := harg11.eq_unread hf6
  have hS0 : qsM.IsWhole := Memref.isWhole_whole _
  have hS1 : mM.IsWhole := Memref.isWhole_whole _
  have hS2 : lM.IsWhole := Memref.isWhole_whole _
  have hS3 : accM.IsWhole := Memref.isWhole_whole _
  have hT0 : iiM.IsWhole := Memref.isWhole_whole _
  have hT1 : jjM.IsWhole := Memref.isWhole_whole _
  have hc0 : (Scalar.cmpi .ne (Scalar.extui (Scalar.cmpi .eq (jjW (F := F) i T1) 0#32)) 0#32 = 1#1) := (eq_branch _ _).2 h0
  have hc1 : ¬ (Scalar.cmpi .ne (Scalar.extui (Scalar.cmpi .eq (jjW (F := F) i T1) (iiW (F := F) i T0))) 0#32 = 1#1) := (fun e => h1 ((eq_branch _ _).1 e))
  have hc2 : (Scalar.cmpi .ne (Scalar.extui (Scalar.cmpi .ne (jjW (F := F) i T1) (iiW (F := F) i T0))) 0#32 = 1#1) := (ne_branch _ _).2 h1
  have hc3 : ¬ (k0_cond4 (iiW (F := F) i T0) (jjW (F := F) i T1) = 1#1) := (fun e => h1 ((cond4_iff _ _).1 e))
  sl_exec! (disch := first | (guard_target = Scalar.cmpi _ _ _ = _; exact hc0) | (guard_target = ¬(Scalar.cmpi _ _ _ = _); exact hc1) | (guard_target = Scalar.cmpi _ _ _ = _; exact hc2) | (guard_target = ¬(k0_cond4 _ _ = _); exact hc3))
  sl_step
  have e1 : mM.view.writes (Elt F) mM.view.junk (runFirst.sl.HS1_2 arg5 arg6 arg8 arg9 x0 x1 x3 x4) = (below x1 x2 x3 x4 (start x0)).m := by
    unfold runFirst.sl.HS1_2
    refine (writes_whole cc0_scratch1 _ _ _ _).trans ?_
    repeat (first | unfold runFirst.sl.HS0_2 | unfold runFirst.sl.HS1_1 | unfold runFirst.sl.HS1_2 | unfold runFirst.sl.HS2_1 | unfold runFirst.sl.HS2_2 | unfold runFirst.sl.HS3_1 | unfold runFirst.sl.HS3_2 | unfold runFirst.sl.r | unfold runFirst.sl.r_1 | unfold runFirst.sl.r_2 | unfold runFirst.sl.r_3 | unfold runFirst.sl.r_4 | unfold runFirst.sl.v22 | unfold runFirst.sl.v34 | unfold runFirst.sl.v43 | unfold runFirst.sl.v51)
    repeat (first | rewrite [readAt_c0] | rewrite [View.readAt_rep_full] | rewrite [readCov_qs] | rewrite [View.readCov_full] | rewrite [View.readAt_full])
    rfl
  have e2 : lM.view.writes (Elt F) lM.view.junk (runFirst.sl.HS2_2 arg5 arg6 arg8 arg9 x0 x1 x3 x4) = (below x1 x2 x3 x4 (start x0)).l := by
    unfold runFirst.sl.HS2_2
    refine (writes_whole cc0_scratch2 _ _ _ _).trans ?_
    repeat (first | unfold runFirst.sl.HS0_2 | unfold runFirst.sl.HS1_1 | unfold runFirst.sl.HS1_2 | unfold runFirst.sl.HS2_1 | unfold runFirst.sl.HS2_2 | unfold runFirst.sl.HS3_1 | unfold runFirst.sl.HS3_2 | unfold runFirst.sl.r | unfold runFirst.sl.r_1 | unfold runFirst.sl.r_2 | unfold runFirst.sl.r_3 | unfold runFirst.sl.r_4 | unfold runFirst.sl.v22 | unfold runFirst.sl.v34 | unfold runFirst.sl.v43 | unfold runFirst.sl.v51)
    repeat (first | rewrite [readAt_c0] | rewrite [View.readAt_rep_full] | rewrite [readCov_qs] | rewrite [View.readCov_full] | rewrite [View.readAt_full])
    rfl
  have e3 : accM.view.writes (Elt F) accM.view.junk (runFirst.sl.HS3_2 arg5 arg6 arg7 arg8 arg9 x0 x1 x2 x3 x4) = (below x1 x2 x3 x4 (start x0)).acc := by
    unfold runFirst.sl.HS3_2
    refine (writes_whole cc0_scratch3 _ _ _ _).trans ?_
    repeat (first | unfold runFirst.sl.HS0_2 | unfold runFirst.sl.HS1_1 | unfold runFirst.sl.HS1_2 | unfold runFirst.sl.HS2_1 | unfold runFirst.sl.HS2_2 | unfold runFirst.sl.HS3_1 | unfold runFirst.sl.HS3_2 | unfold runFirst.sl.r | unfold runFirst.sl.r_1 | unfold runFirst.sl.r_2 | unfold runFirst.sl.r_3 | unfold runFirst.sl.r_4 | unfold runFirst.sl.v22 | unfold runFirst.sl.v34 | unfold runFirst.sl.v43 | unfold runFirst.sl.v51)
    repeat (first | rewrite [readAt_c0] | rewrite [View.readAt_rep_full] | rewrite [readCov_qs] | rewrite [View.readCov_full] | rewrite [View.readAt_full])
    rfl
  have e0 : qsM.view.writes (Elt F) qsM.view.junk (runFirst.sl.HS0_2 arg5 x0) = (below x1 x2 x3 x4 (start x0)).qs := by
    unfold runFirst.sl.HS0_2
    rewrite [View.readAt_rep_full]
    exact writes_qs _ _
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    ipureintro; exact harg11.read_unread _
  isplitl [HS0]; · rewrite [e0]; iexact HS0
  isplitl [HS1]; · rewrite [e1]; iexact HS1
  isplitl [HS2]; · rewrite [e2]; iexact HS2
  rewrite [e3]; iexact HS3

set_option backward.proofsInPublic true in
set_option maxHeartbeats 1000000 in
/-- The key block on the diagonal, the last of its query block. -/
theorem runDiag (c : Dev nD) (i : grid0.Coords)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S1x1x2x512 .f32) (harg8 : arg8.IsWhole)
    (arg9 : Memref sig .tc .vmem S1x1x2x512 .f32) (harg9 : arg9.IsWhole) (arg10 : Memref sig .tc .vmem S512x128 .bf16) (harg10 : arg10.IsWhole)
    (arg11 : Memref sig .tc .vmem S512x128 .bf16) (harg11 : arg11.IsWhole)
    (T0 T1 : S528.Idx → Elt F .i32) (x0 x1 x2 : S512x128.Idx → Elt F .bf16) (x3 x4 : S1x1x2x512.Idx → Elt F .f32) (x5 y6 : S512x128.Idx → Elt F .bf16)
    (s : St F)
    (h0 : ¬ (jjW (F := F) i T1 = 0#32)) (h1 : (jjW (F := F) i T1 = iiW (F := F) i T0)) (K : PUnit → sProp 𝕄) :
    iprop(Holds c arg5 arg6 arg7 arg8 arg9 arg10 arg11 T0 T1 x0 x1 x2 x3 x4 x5 y6 s
      ∗ (Holds c arg5 arg6 arg7 arg8 arg9 arg10 arg11 T0 T1 x0 x1 x2 x3 x4 x5 (outOf x5 (diag x1 x2 x3 x4 s)) (diag x1 x2 x3 x4 s) -∗ K ⟨⟩))
      ⊢ wp frame (wpE (defs₀ (F := F)) Variants.none c none) Set.univ (cc0_fox_attn i iiM (Memref.isWhole_whole _) jjM (Memref.isWhole_whole _) arg5 harg5 arg6 harg6 arg7 harg7 arg8 harg8 arg9 harg9 arg10 harg10 arg11 harg11 qsM (Memref.isWhole_whole _) mM (Memref.isWhole_whole _) lM (Memref.isWhole_whole _) accM (Memref.isWhole_whole _)) K := by
  unfold Holds owns
  rw [cc0_fox_attn_eq_skeleton]; unfold cc0_fox_attn_skel
  iintro ⟨⟨H0, H1, H2, H3, H4, H5, HT0, HT1, ⟨%f6, %hf6, HO6⟩, HS0, HS1, HS2, HS3⟩, Hk⟩
  obtain rfl := harg11.eq_unread hf6
  have hS0 : qsM.IsWhole := Memref.isWhole_whole _
  have hS1 : mM.IsWhole := Memref.isWhole_whole _
  have hS2 : lM.IsWhole := Memref.isWhole_whole _
  have hS3 : accM.IsWhole := Memref.isWhole_whole _
  have hT0 : iiM.IsWhole := Memref.isWhole_whole _
  have hT1 : jjM.IsWhole := Memref.isWhole_whole _
  have hc0 : ¬ (Scalar.cmpi .ne (Scalar.extui (Scalar.cmpi .eq (jjW (F := F) i T1) 0#32)) 0#32 = 1#1) := (fun e => h0 ((eq_branch _ _).1 e))
  have hc1 : (Scalar.cmpi .ne (Scalar.extui (Scalar.cmpi .eq (jjW (F := F) i T1) (iiW (F := F) i T0))) 0#32 = 1#1) := (eq_branch _ _).2 h1
  have hc2 : ¬ (Scalar.cmpi .ne (Scalar.extui (Scalar.cmpi .ne (jjW (F := F) i T1) (iiW (F := F) i T0))) 0#32 = 1#1) := (fun e => (ne_branch _ _).1 e h1)
  have hc3 : (k0_cond4 (iiW (F := F) i T0) (jjW (F := F) i T1) = 1#1) := (cond4_iff _ _).2 h1
  sl_exec! (disch := first | (guard_target = ¬(Scalar.cmpi _ _ _ = _); exact hc0) | (guard_target = Scalar.cmpi _ _ _ = _; exact hc1) | (guard_target = ¬(Scalar.cmpi _ _ _ = _); exact hc2) | (guard_target = k0_cond4 _ _ = _; exact hc3))
  sl_step
  have e1 : mM.view.writes (Elt F) mM.view.junk (runDiag.sl.HS1_1 arg6 arg8 arg9 x1 x3 x4 s) = (diag x1 x2 x3 x4 s).m := by
    unfold runDiag.sl.HS1_1
    refine (writes_whole cc0_scratch1 _ _ _ _).trans ?_
    repeat (first | unfold runDiag.sl.HS1_1 | unfold runDiag.sl.HS2_1 | unfold runDiag.sl.HS3_1 | unfold runDiag.sl.r | unfold runDiag.sl.r_1 | unfold runDiag.sl.r_2 | unfold runDiag.sl.r_3 | unfold runDiag.sl.r_4 | unfold runDiag.sl.r_5 | unfold runDiag.sl.v16 | unfold runDiag.sl.v17)
    repeat (first | rewrite [readAt_c0] | rewrite [View.readAt_rep_full] | rewrite [readCov_qs] | rewrite [View.readCov_full] | rewrite [View.readAt_full])
    rfl
  have e2 : lM.view.writes (Elt F) lM.view.junk (runDiag.sl.HS2_1 arg6 arg8 arg9 x1 x3 x4 s) = (diag x1 x2 x3 x4 s).l := by
    unfold runDiag.sl.HS2_1
    refine (writes_whole cc0_scratch2 _ _ _ _).trans ?_
    repeat (first | unfold runDiag.sl.HS1_1 | unfold runDiag.sl.HS2_1 | unfold runDiag.sl.HS3_1 | unfold runDiag.sl.r | unfold runDiag.sl.r_1 | unfold runDiag.sl.r_2 | unfold runDiag.sl.r_3 | unfold runDiag.sl.r_4 | unfold runDiag.sl.r_5 | unfold runDiag.sl.v16 | unfold runDiag.sl.v17)
    repeat (first | rewrite [readAt_c0] | rewrite [View.readAt_rep_full] | rewrite [readCov_qs] | rewrite [View.readCov_full] | rewrite [View.readAt_full])
    rfl
  have e3 : accM.view.writes (Elt F) accM.view.junk (runDiag.sl.HS3_1 arg6 arg7 arg8 arg9 x1 x2 x3 x4 s) = (diag x1 x2 x3 x4 s).acc := by
    unfold runDiag.sl.HS3_1
    refine (writes_whole cc0_scratch3 _ _ _ _).trans ?_
    repeat (first | unfold runDiag.sl.HS1_1 | unfold runDiag.sl.HS2_1 | unfold runDiag.sl.HS3_1 | unfold runDiag.sl.r | unfold runDiag.sl.r_1 | unfold runDiag.sl.r_2 | unfold runDiag.sl.r_3 | unfold runDiag.sl.r_4 | unfold runDiag.sl.r_5 | unfold runDiag.sl.v16 | unfold runDiag.sl.v17)
    repeat (first | rewrite [readAt_c0] | rewrite [View.readAt_rep_full] | rewrite [readCov_qs] | rewrite [View.readCov_full] | rewrite [View.readAt_full])
    rfl
  have e6 : arg11.view.read (Elt F) (arg11.view.writes (Elt F) arg11.view.junk (runDiag.sl.HO6_1 arg6 arg7 arg8 arg9 arg10 x1 x2 x3 x4 x5 s)) = (outOf x5 (diag x1 x2 x3 x4 s)) := by
    unfold runDiag.sl.HO6_1
    refine (read_out _ _ _).trans ?_
    repeat (first | unfold runDiag.sl.HS1_1 | unfold runDiag.sl.HS2_1 | unfold runDiag.sl.HS3_1 | unfold runDiag.sl.r | unfold runDiag.sl.r_1 | unfold runDiag.sl.r_2 | unfold runDiag.sl.r_3 | unfold runDiag.sl.r_4 | unfold runDiag.sl.r_5 | unfold runDiag.sl.v16 | unfold runDiag.sl.v17)
    repeat (first | rewrite [readAt_c0] | rewrite [View.readAt_rep_full] | rewrite [readCov_qs] | rewrite [View.readCov_full] | rewrite [View.readAt_full])
    rfl
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    ipureintro; exact e6
  isplitl [HS0]; · iexact HS0
  isplitl [HS1]; · rewrite [e1]; iexact HS1
  isplitl [HS2]; · rewrite [e2]; iexact HS2
  rewrite [e3]; iexact HS3

set_option backward.proofsInPublic true in
set_option maxHeartbeats 1000000 in
/-- A key block between the first and the diagonal. -/
theorem runBelow (c : Dev nD) (i : grid0.Coords)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S1x1x2x512 .f32) (harg8 : arg8.IsWhole)
    (arg9 : Memref sig .tc .vmem S1x1x2x512 .f32) (harg9 : arg9.IsWhole) (arg10 : Memref sig .tc .vmem S512x128 .bf16) (harg10 : arg10.IsWhole)
    (arg11 : Memref sig .tc .vmem S512x128 .bf16) (harg11 : arg11.IsWhole)
    (T0 T1 : S528.Idx → Elt F .i32) (x0 x1 x2 : S512x128.Idx → Elt F .bf16) (x3 x4 : S1x1x2x512.Idx → Elt F .f32) (x5 y6 : S512x128.Idx → Elt F .bf16)
    (s : St F)
    (h0 : ¬ (jjW (F := F) i T1 = 0#32)) (h1 : ¬ (jjW (F := F) i T1 = iiW (F := F) i T0)) (K : PUnit → sProp 𝕄) :
    iprop(Holds c arg5 arg6 arg7 arg8 arg9 arg10 arg11 T0 T1 x0 x1 x2 x3 x4 x5 y6 s
      ∗ (Holds c arg5 arg6 arg7 arg8 arg9 arg10 arg11 T0 T1 x0 x1 x2 x3 x4 x5 (y6) (below x1 x2 x3 x4 s) -∗ K ⟨⟩))
      ⊢ wp frame (wpE (defs₀ (F := F)) Variants.none c none) Set.univ (cc0_fox_attn i iiM (Memref.isWhole_whole _) jjM (Memref.isWhole_whole _) arg5 harg5 arg6 harg6 arg7 harg7 arg8 harg8 arg9 harg9 arg10 harg10 arg11 harg11 qsM (Memref.isWhole_whole _) mM (Memref.isWhole_whole _) lM (Memref.isWhole_whole _) accM (Memref.isWhole_whole _)) K := by
  unfold Holds owns
  rw [cc0_fox_attn_eq_skeleton]; unfold cc0_fox_attn_skel
  iintro ⟨⟨H0, H1, H2, H3, H4, H5, HT0, HT1, ⟨%f6, %hf6, HO6⟩, HS0, HS1, HS2, HS3⟩, Hk⟩
  obtain rfl := harg11.eq_unread hf6
  have hS0 : qsM.IsWhole := Memref.isWhole_whole _
  have hS1 : mM.IsWhole := Memref.isWhole_whole _
  have hS2 : lM.IsWhole := Memref.isWhole_whole _
  have hS3 : accM.IsWhole := Memref.isWhole_whole _
  have hT0 : iiM.IsWhole := Memref.isWhole_whole _
  have hT1 : jjM.IsWhole := Memref.isWhole_whole _
  have hc0 : ¬ (Scalar.cmpi .ne (Scalar.extui (Scalar.cmpi .eq (jjW (F := F) i T1) 0#32)) 0#32 = 1#1) := (fun e => h0 ((eq_branch _ _).1 e))
  have hc1 : ¬ (Scalar.cmpi .ne (Scalar.extui (Scalar.cmpi .eq (jjW (F := F) i T1) (iiW (F := F) i T0))) 0#32 = 1#1) := (fun e => h1 ((eq_branch _ _).1 e))
  have hc2 : (Scalar.cmpi .ne (Scalar.extui (Scalar.cmpi .ne (jjW (F := F) i T1) (iiW (F := F) i T0))) 0#32 = 1#1) := (ne_branch _ _).2 h1
  have hc3 : ¬ (k0_cond4 (iiW (F := F) i T0) (jjW (F := F) i T1) = 1#1) := (fun e => h1 ((cond4_iff _ _).1 e))
  sl_exec! (disch := first | (guard_target = ¬(Scalar.cmpi _ _ _ = _); exact hc0) | (guard_target = ¬(Scalar.cmpi _ _ _ = _); exact hc1) | (guard_target = Scalar.cmpi _ _ _ = _; exact hc2) | (guard_target = ¬(k0_cond4 _ _ = _); exact hc3))
  sl_step
  have e1 : mM.view.writes (Elt F) mM.view.junk (runBelow.sl.HS1_1 arg6 arg8 arg9 x1 x3 x4 s) = (below x1 x2 x3 x4 s).m := by
    unfold runBelow.sl.HS1_1
    refine (writes_whole cc0_scratch1 _ _ _ _).trans ?_
    repeat (first | unfold runBelow.sl.HS1_1 | unfold runBelow.sl.HS2_1 | unfold runBelow.sl.HS3_1 | unfold runBelow.sl.r | unfold runBelow.sl.r_1 | unfold runBelow.sl.r_2 | unfold runBelow.sl.r_3 | unfold runBelow.sl.r_4 | unfold runBelow.sl.r_5)
    repeat (first | rewrite [readAt_c0] | rewrite [View.readAt_rep_full] | rewrite [readCov_qs] | rewrite [View.readCov_full] | rewrite [View.readAt_full])
    rfl
  have e2 : lM.view.writes (Elt F) lM.view.junk (runBelow.sl.HS2_1 arg6 arg8 arg9 x1 x3 x4 s) = (below x1 x2 x3 x4 s).l := by
    unfold runBelow.sl.HS2_1
    refine (writes_whole cc0_scratch2 _ _ _ _).trans ?_
    repeat (first | unfold runBelow.sl.HS1_1 | unfold runBelow.sl.HS2_1 | unfold runBelow.sl.HS3_1 | unfold runBelow.sl.r | unfold runBelow.sl.r_1 | unfold runBelow.sl.r_2 | unfold runBelow.sl.r_3 | unfold runBelow.sl.r_4 | unfold runBelow.sl.r_5)
    repeat (first | rewrite [readAt_c0] | rewrite [View.readAt_rep_full] | rewrite [readCov_qs] | rewrite [View.readCov_full] | rewrite [View.readAt_full])
    rfl
  have e3 : accM.view.writes (Elt F) accM.view.junk (runBelow.sl.HS3_1 arg6 arg7 arg8 arg9 x1 x2 x3 x4 s) = (below x1 x2 x3 x4 s).acc := by
    unfold runBelow.sl.HS3_1
    refine (writes_whole cc0_scratch3 _ _ _ _).trans ?_
    repeat (first | unfold runBelow.sl.HS1_1 | unfold runBelow.sl.HS2_1 | unfold runBelow.sl.HS3_1 | unfold runBelow.sl.r | unfold runBelow.sl.r_1 | unfold runBelow.sl.r_2 | unfold runBelow.sl.r_3 | unfold runBelow.sl.r_4 | unfold runBelow.sl.r_5)
    repeat (first | rewrite [readAt_c0] | rewrite [View.readAt_rep_full] | rewrite [readCov_qs] | rewrite [View.readCov_full] | rewrite [View.readAt_full])
    rfl
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _; isplitr; swap
    · iexact HO6
    ipureintro; exact harg11.read_unread _
  isplitl [HS0]; · iexact HS0
  isplitl [HS1]; · rewrite [e1]; iexact HS1
  isplitl [HS2]; · rewrite [e2]; iexact HS2
  rewrite [e3]; iexact HS3

end Cert.KernelIdeal.Fox
-- ==== Proof.Sched.lean ====
module

public import proofs.«01_k».proof.Proof.Block

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two tables

The host hands the kernel two tables of 528 words: at entry `p` the query block and the key block of the `p`-th pair of the
lower triangle of a 32 by 32 grid of blocks. -/

/-- The query block of the `p`-th pair. -/
def ii (p : Fin 528) : ℕ := (lit0 p).toNat
/-- The key block of the `p`-th pair. -/
def jj (p : Fin 528) : ℕ := (lit1 p).toNat

/-- The pairs list the lower triangle row by row. -/
theorem tri : ∀ p : Fin 528, ii p ≤ 31 ∧ jj p ≤ ii p ∧ 2 * p.val = ii p * (ii p + 1) + 2 * jj p := by decide +kernel

theorem ii_le (p : Fin 528) : ii p ≤ 31 := (tri p).1
theorem jj_le (p : Fin 528) : jj p ≤ ii p := (tri p).2.1
theorem jj_le' (p : Fin 528) : jj p ≤ 31 := (jj_le p).trans (ii_le p)
theorem p_eq (p : Fin 528) : 2 * p.val = ii p * (ii p + 1) + 2 * jj p := (tri p).2.2

/-- The contents of the two tables. -/
def pf : pre0.Contents (Elt F) := fun
  | 0 => fun i => lit0 (S528.rowMajor i)
  | 1 => fun i => lit1 (S528.rowMajor i)
  | ⟨_ + 2, h⟩ => absurd h (Nat.not_lt.2 (Nat.le_add_left _ _))

/-- The third grid coordinate. -/
def pOf (i : grid0.Coords) : Fin 528 := i 2

theorem off1_val (i : grid0.Coords) : k0_off1 i 0 = (pOf i).val := by
  have h : (i 2).val < 528 := (i 2).isLt
  show (BitVec.ofNat 32 (i 2).val).toNat = (i 2).val
  rw [BitVec.toNat_ofNat]; exact Nat.mod_eq_of_lt (by omega)

theorem rowMajor_528 (x : S528.Idx) : (S528.rowMajor x).val = (x 0).val := Shape.rowMajor_val_one x

theorem pf0_at (x : S528.Idx) (p : Fin 528) (h : (x 0).val = p.val) : pf (F := F) 0 x = lit0 p :=
  congrArg lit0 (Fin.ext ((rowMajor_528 x).trans h))
theorem pf1_at (x : S528.Idx) (p : Fin 528) (h : (x 0).val = p.val) : pf (F := F) 1 x = lit1 p :=
  congrArg lit1 (Fin.ext ((rowMajor_528 x).trans h))

theorem at0 (i : grid0.Coords) (h) (h1) : (pf (F := F)).at 0 (Rect.unit (s := S528) (k0_off1 i) S1.size h) h1 = lit0 (pOf i) :=
  pf0_at _ _ (by show k0_off1 i 0 + 1 * 0 = _; rw [off1_val]; rfl)
theorem at1 (i : grid0.Coords) (h) (h1) : (pf (F := F)).at 1 (Rect.unit (s := S528) (k0_off1 i) S1.size h) h1 = lit1 (pOf i) :=
  pf1_at _ _ (by show k0_off1 i 0 + 1 * 0 = _; rw [off1_val]; rfl)

/-- The word the kernel reads for the query block. -/
theorem iiW_eq (i : grid0.Coords) : iiW i (pf (F := F) 0) = lit0 (pOf i) := at0 i _ numel1_S1
/-- The word the kernel reads for the key block. -/
theorem jjW_eq (i : grid0.Coords) : jjW i (pf (F := F) 1) = lit1 (pOf i) := at1 i _ numel1_S1

theorem atD0 (i : grid0.Coords) : (pf (F := F)).atD 0 (k0_off1 i) = lit0 (pOf i) := by
  have h : ∀ a : Fin (pre0.ref 0).ty.shape.rank, k0_off1 i a + 1 ≤ (pre0.ref 0).ty.shape.size a := fun a => match a with
    | ⟨0, _⟩ => k0_off1_inb i 0
  exact (dif_pos h).trans (pf0_at _ _ (off1_val i))
theorem atD1 (i : grid0.Coords) : (pf (F := F)).atD 1 (k0_off1 i) = lit1 (pOf i) := by
  have h : ∀ a : Fin (pre0.ref 1).ty.shape.rank, k0_off1 i a + 1 ≤ (pre0.ref 1).ty.shape.size a := fun a => match a with
    | ⟨0, _⟩ => k0_off1_inb i 0
  exact (dif_pos h).trans (pf1_at _ _ (off1_val i))

/-! ## The index maps in closed form -/

/-- The batch and the head pair of a point. -/
def bOf (i : grid0.Coords) : ℕ := (i 0).val
def hOf (i : grid0.Coords) : ℕ := (i 1).val
theorem bOf_lt (i : grid0.Coords) : bOf i < 2 := (i 0).isLt
theorem hOf_lt (i : grid0.Coords) : hOf i < 8 := (i 1).isLt

theorem word_row (b : ℕ) (hb : b < 2) (w : BitVec 32) (hw : w.toNat ≤ 31) :
    (Scalar.addi (Scalar.muli (BitVec.ofNat 32 b) 32#32) w).toNat = b * 32 + w.toNat := by
  show (BitVec.ofNat 32 b * 32#32 + w).toNat = _
  rw [BitVec.toNat_add, BitVec.toNat_mul, BitVec.toNat_ofNat]
  show ((b % 4294967296 * 32) % 4294967296 + w.toNat) % 4294967296 = _
  omega
theorem word_col (k h : ℕ) (hk : k ≤ 100) (hh : h < 8) : (Scalar.addi (BitVec.ofNat 32 k) (BitVec.ofNat 32 h)).toNat = k + h := by
  show (BitVec.ofNat 32 k + BitVec.ofNat 32 h).toNat = _
  rw [BitVec.toNat_add, BitVec.toNat_ofNat, BitVec.toNat_ofNat]
  show (k % 4294967296 + h % 4294967296) % 4294967296 = _
  omega
theorem word_id (h : ℕ) (hh : h < 8) : (BitVec.ofNat 32 h).toNat = h := by
  rw [BitVec.toNat_ofNat]; exact Nat.mod_eq_of_lt (by omega)

theorem tr0 (i : grid0.Coords) : cc0_transform_0 (F := F) k0_off1_inb numel1_S1 pf i = ![bOf i * 32 + ii (pOf i), hOf i] := by
  have e := at0 (F := F) i (k0_off1_inb i) numel1_S1
  have : cc0_transform_0 (F := F) k0_off1_inb numel1_S1 pf i = ![(Scalar.addi (Scalar.muli (BitVec.ofNat 32 (bOf i)) 32#32) ((pf (F := F)).at 0 (Rect.unit (s := S528) (k0_off1 i) S1.size (k0_off1_inb i)) numel1_S1)).toNat, (BitVec.ofNat 32 (hOf i)).toNat] := rfl
  rw [this, e, word_row _ (bOf_lt i) _ (ii_le (pOf i)), word_id _ (hOf_lt i)]; rfl
theorem tr1 (i : grid0.Coords) : cc0_transform_1 (F := F) k0_off1_inb numel1_S1 pf i = ![bOf i * 32 + jj (pOf i), 8 + hOf i] := by
  have e := at1 (F := F) i (k0_off1_inb i) numel1_S1
  have : cc0_transform_1 (F := F) k0_off1_inb numel1_S1 pf i = ![(Scalar.addi (Scalar.muli (BitVec.ofNat 32 (bOf i)) 32#32) ((pf (F := F)).at 1 (Rect.unit (s := S528) (k0_off1 i) S1.size (k0_off1_inb i)) numel1_S1)).toNat, (Scalar.addi (BitVec.ofNat 32 8) (BitVec.ofNat 32 (hOf i))).toNat] := rfl
  rw [this, e, word_row _ (bOf_lt i) _ (jj_le' (pOf i)), word_col _ _ (by decide) (hOf_lt i)]; rfl
theorem tr2 (i : grid0.Coords) : cc0_transform_2 (F := F) k0_off1_inb numel1_S1 pf i = ![bOf i * 32 + jj (pOf i), 16 + hOf i] := by
  have e := at1 (F := F) i (k0_off1_inb i) numel1_S1
  have : cc0_transform_2 (F := F) k0_off1_inb numel1_S1 pf i = ![(Scalar.addi (Scalar.muli (BitVec.ofNat 32 (bOf i)) 32#32) ((pf (F := F)).at 1 (Rect.unit (s := S528) (k0_off1 i) S1.size (k0_off1_inb i)) numel1_S1)).toNat, (Scalar.addi (BitVec.ofNat 32 16) (BitVec.ofNat 32 (hOf i))).toNat] := rfl
  rw [this, e, word_row _ (bOf_lt i) _ (jj_le' (pOf i)), word_col _ _ (by decide) (hOf_lt i)]; rfl
theorem tr3 (i : grid0.Coords) : cc0_transform_3 (F := F) k0_off1_inb numel1_S1 pf i = ![bOf i, hOf i, 0, jj (pOf i)] := by
  have e := at1 (F := F) i (k0_off1_inb i) numel1_S1
  have : cc0_transform_3 (F := F) k0_off1_inb numel1_S1 pf i = ![(BitVec.ofNat 32 (bOf i)).toNat, (BitVec.ofNat 32 (hOf i)).toNat, 0, BitVec.toNat ((pf (F := F)).at 1 (Rect.unit (s := S528) (k0_off1 i) S1.size (k0_off1_inb i)) numel1_S1)] := rfl
  rw [this, e, word_id _ (hOf_lt i), word_id _ ((bOf_lt i).trans (by decide))]; rfl
theorem tr4 (i : grid0.Coords) : cc0_transform_4 (F := F) k0_off1_inb numel1_S1 pf i = ![bOf i, hOf i, 0, ii (pOf i)] := by
  have e := at0 (F := F) i (k0_off1_inb i) numel1_S1
  have : cc0_transform_4 (F := F) k0_off1_inb numel1_S1 pf i = ![(BitVec.ofNat 32 (bOf i)).toNat, (BitVec.ofNat 32 (hOf i)).toNat, 0, BitVec.toNat ((pf (F := F)).at 0 (Rect.unit (s := S528) (k0_off1 i) S1.size (k0_off1_inb i)) numel1_S1)] := rfl
  rw [this, e, word_id _ (hOf_lt i), word_id _ ((bOf_lt i).trans (by decide))]; rfl
theorem tr5 (i : grid0.Coords) : cc0_transform_5 (F := F) k0_off1_inb numel1_S1 pf i = ![bOf i * 32 + ii (pOf i), 24 + hOf i] := by
  have e := at0 (F := F) i (k0_off1_inb i) numel1_S1
  have : cc0_transform_5 (F := F) k0_off1_inb numel1_S1 pf i = ![(Scalar.addi (Scalar.muli (BitVec.ofNat 32 (bOf i)) 32#32) ((pf (F := F)).at 0 (Rect.unit (s := S528) (k0_off1 i) S1.size (k0_off1_inb i)) numel1_S1)).toNat, (Scalar.addi (BitVec.ofNat 32 24) (BitVec.ofNat 32 (hOf i))).toNat] := rfl
  rw [this, e, word_row _ (bOf_lt i) _ (ii_le (pOf i)), word_col _ _ (by decide) (hOf_lt i)]; rfl
theorem tr6 (i : grid0.Coords) : cc0_transform_6 (F := F) k0_off1_inb numel1_S1 pf i = ![bOf i * 32 + ii (pOf i), hOf i] := tr0 i

/-! ## The blocks lie inside the arrays -/

theorem inb0 (i : grid0.Coords) : ∀ a, (cc0_transform_0 (F := F) k0_off1_inb numel1_S1 pf i a + 1) * S512x128.size a ≤ S32768x2048.size a := by
  have h1 := bOf_lt i; have h2 := hOf_lt i; have h3 := ii_le (pOf i)
  rw [tr0]; intro a
  match a with
  | 0 => show (bOf i * 32 + ii (pOf i) + 1) * 512 ≤ 32768; omega
  | 1 => show (hOf i + 1) * 128 ≤ 2048; omega
theorem inb1 (i : grid0.Coords) : ∀ a, (cc0_transform_1 (F := F) k0_off1_inb numel1_S1 pf i a + 1) * S512x128.size a ≤ S32768x2048.size a := by
  have h1 := bOf_lt i; have h2 := hOf_lt i; have h3 := jj_le' (pOf i)
  rw [tr1]; intro a
  match a with
  | 0 => show (bOf i * 32 + jj (pOf i) + 1) * 512 ≤ 32768; omega
  | 1 => show (8 + hOf i + 1) * 128 ≤ 2048; omega
theorem inb2 (i : grid0.Coords) : ∀ a, (cc0_transform_2 (F := F) k0_off1_inb numel1_S1 pf i a + 1) * S512x128.size a ≤ S32768x4096.size a := by
  have h1 := bOf_lt i; have h2 := hOf_lt i; have h3 := jj_le' (pOf i)
  rw [tr2]; intro a
  match a with
  | 0 => show (bOf i * 32 + jj (pOf i) + 1) * 512 ≤ 32768; omega
  | 1 => show (16 + hOf i + 1) * 128 ≤ 4096; omega
theorem inb3 (i : grid0.Coords) : ∀ a, (cc0_transform_3 (F := F) k0_off1_inb numel1_S1 pf i a + 1) * S1x1x2x512.size a ≤ S2x8x2x16384.size a := by
  have h1 := bOf_lt i; have h2 := hOf_lt i; have h3 := jj_le' (pOf i)
  rw [tr3]; intro a
  match a with
  | 0 => show (bOf i + 1) * 1 ≤ 2; omega
  | 1 => show (hOf i + 1) * 1 ≤ 8; omega
  | 2 => show (0 + 1) * 2 ≤ 2; omega
  | 3 => show (jj (pOf i) + 1) * 512 ≤ 16384; omega
theorem inb4 (i : grid0.Coords) : ∀ a, (cc0_transform_4 (F := F) k0_off1_inb numel1_S1 pf i a + 1) * S1x1x2x512.size a ≤ S2x8x2x16384.size a := by
  have h1 := bOf_lt i; have h2 := hOf_lt i; have h3 := ii_le (pOf i)
  rw [tr4]; intro a
  match a with
  | 0 => show (bOf i + 1) * 1 ≤ 2; omega
  | 1 => show (hOf i + 1) * 1 ≤ 8; omega
  | 2 => show (0 + 1) * 2 ≤ 2; omega
  | 3 => show (ii (pOf i) + 1) * 512 ≤ 16384; omega
theorem inb5 (i : grid0.Coords) : ∀ a, (cc0_transform_5 (F := F) k0_off1_inb numel1_S1 pf i a + 1) * S512x128.size a ≤ S32768x4096.size a := by
  have h1 := bOf_lt i; have h2 := hOf_lt i; have h3 := ii_le (pOf i)
  rw [tr5]; intro a
  match a with
  | 0 => show (bOf i * 32 + ii (pOf i) + 1) * 512 ≤ 32768; omega
  | 1 => show (24 + hOf i + 1) * 128 ≤ 4096; omega
theorem inb6 (i : grid0.Coords) : ∀ a, (cc0_transform_6 (F := F) k0_off1_inb numel1_S1 pf i a + 1) * S512x128.size a ≤ S32768x1024.size a := by
  have h1 := bOf_lt i; have h2 := hOf_lt i; have h3 := ii_le (pOf i)
  rw [tr6]; intro a
  match a with
  | 0 => show (bOf i * 32 + ii (pOf i) + 1) * 512 ≤ 32768; omega
  | 1 => show (hOf i + 1) * 128 ≤ 1024; omega

/-- The tables are admissible: every block lies inside its array and moves whole words. -/
theorem ok : ok0 (F := F) pf :=
  ⟨fun i => ⟨inb0 i, .inr (Affine.block_words_dvd (s := S32768x2048) (p := EltTy.packing .bf16) (by decide) (by decide))⟩,
    fun i => ⟨inb1 i, .inr (Affine.block_words_dvd (s := S32768x2048) (p := EltTy.packing .bf16) (by decide) (by decide))⟩,
    fun i => ⟨inb2 i, .inr (Affine.block_words_dvd (s := S32768x4096) (p := EltTy.packing .bf16) (by decide) (by decide))⟩,
    fun i => ⟨inb3 i, .inl rfl⟩, fun i => ⟨inb4 i, .inl rfl⟩,
    fun i => ⟨inb5 i, .inr (Affine.block_words_dvd (s := S32768x4096) (p := EltTy.packing .bf16) (by decide) (by decide))⟩,
    fun i => ⟨inb6 i, .inr (Affine.block_words_dvd (s := S32768x1024) (p := EltTy.packing .bf16) (by decide) (by decide))⟩⟩

/-- The admissible tables, and the pipeline at them. -/
def adm : (pcfg0 (F := F)).Adm := ⟨pf, ok⟩
abbrev cfgA : Pipeline.Cfg sig Λ₀ := cfg0 (F := F) adm

/-! ## The points in order -/

theorem N_A : (cfgA (F := F)).N = 8448 := N_0

/-- Point `t`'s coordinates. -/
abbrev crd (t : Fin (cfgA (F := F)).N) : grid0.Coords := (cfgA (F := F)).grid.coords t

theorem crd0 (t : Fin (cfgA (F := F)).N) : bOf (crd t) = t.val / 4224 % 2 := Pipeline.Grid.coords_val (G := grid0) t 0 (by decide) rfl
theorem crd1 (t : Fin (cfgA (F := F)).N) : hOf (crd t) = t.val / 528 % 8 := Pipeline.Grid.coords_val (G := grid0) t 1 (by decide) rfl
theorem crd2 (t : Fin (cfgA (F := F)).N) : (pOf (crd t)).val = t.val % 528 := by
  have := Pipeline.Grid.coords_val (G := grid0) t 2 (S := 1) (B := 528) (by decide) rfl
  rw [Nat.div_one] at this; exact this

/-- The next pair of blocks in the list: to the right in the same row, or the start of the next row after the diagonal. -/
theorem next_pair : ∀ p p' : Fin 528, p'.val = p.val + 1 →
    (jj p ≠ ii p → ii p' = ii p ∧ jj p' = jj p + 1) ∧ (jj p = ii p → ii p' = ii p + 1 ∧ jj p' = 0) := by
  intro p p' h
  have a := tri p; have b := tri p'
  have key : ∀ x y : Fin 528, y.val = x.val + 1 → (jj x ≠ ii x → ii y = ii x ∧ jj y = jj x + 1) ∧ (jj x = ii x → ii y = ii x + 1 ∧ jj y = 0) := by
    intro x y hxy
    have : ∀ x : Fin 527, (jj x.castSucc ≠ ii x.castSucc → ii x.succ = ii x.castSucc ∧ jj x.succ = jj x.castSucc + 1) ∧ (jj x.castSucc = ii x.castSucc → ii x.succ = ii x.castSucc + 1 ∧ jj x.succ = 0) := by
      decide +kernel
    have hx : x.val < 527 := by have := y.isLt; omega
    have e1 : x = (⟨x.val, hx⟩ : Fin 527).castSucc := rfl
    have e2 : y = (⟨x.val, hx⟩ : Fin 527).succ := Fin.ext hxy
    rw [e1, e2]; exact this _
  exact key p p' h

theorem first_pair : ii 0 = 0 ∧ jj 0 = 0 := by decide +kernel
theorem last_pair : ii 527 = 31 ∧ jj 527 = 31 := by decide +kernel

/-- The result's window is idle at a point exactly when the pair is off the diagonal. -/
theorem idle6 (t : Fin (cfgA (F := F)).N) : (cfgA (F := F)).idle (6 : Fin 7) (crd t) = !decide (jj (pOf (crd t)) = ii (pOf (crd t))) := by
  show (!(k0_cond4 ((pf (F := F)).atD 0 (k0_off1 (crd t))) ((pf (F := F)).atD 1 (k0_off1 (crd t))) == 1#1)) = _
  rw [atD0, atD1]
  have h := cond4_iff (lit0 (pOf (crd t))) (lit1 (pOf (crd t)))
  by_cases e : jj (pOf (crd t)) = ii (pOf (crd t))
  · rw [decide_eq_true e, h.2 (BitVec.eq_of_toNat_eq e)]; rfl
  · rw [decide_eq_false e]
    have : k0_cond4 (lit0 (pOf (crd t))) (lit1 (pOf (crd t))) ≠ 1#1 := fun q => e (congrArg BitVec.toNat (h.1 q))
    rw [beq_eq_false_iff_ne.2 this]

/-- The block of the result moves exactly after a pair on the diagonal. -/
theorem flush6 (t : Fin (cfgA (F := F)).N) : ((cfgA (F := F)).win (6 : Fin 7)).flush t = decide (jj (pOf (crd t)) = ii (pOf (crd t))) := by
  have hN := N_A (F := F)
  have ht := t.isLt
  rw [Pipeline.Window.flush_eq_flushF]
  have hx : ∀ s : Fin (cfgA (F := F)).N, ((cfgA (F := F)).win (6 : Fin 7)).index s = ![bOf (crd s) * 32 + ii (pOf (crd s)), hOf (crd s)] := fun s => tr6 (F := F) (crd s)
  unfold Pipeline.Window.flushF
  rw [show ((cfgA (F := F)).win (6 : Fin 7)).isOut = true from rfl, Bool.true_and]
  rw [Bool.eq_iff_iff]
  simp only [Bool.or_eq_true, decide_eq_true_eq]
  have c2 := crd2 t; have c1 := crd1 t; have c0 := crd0 t
  constructor
  · rintro (h | ⟨h, a, ha⟩)
    · have : pOf (crd t) = 527 := Fin.ext (by rw [c2]; show t.val % 528 = 527; have : t.val + 1 = 8448 := h.trans hN; omega)
      rw [this, last_pair.1, last_pair.2]
    · by_contra hne
      apply ha
      rw [hx, hx]
      have d2 := crd2 ⟨t.val + 1, h⟩; have d1 := crd1 ⟨t.val + 1, h⟩; have d0 := crd0 ⟨t.val + 1, h⟩
      have h527 : t.val % 528 ≠ 527 := fun q => hne (by
        have : pOf (crd t) = 527 := Fin.ext (by rw [c2]; exact q)
        rw [this, last_pair.1, last_pair.2])
      have nx := (next_pair (pOf (crd t)) (pOf (crd ⟨t.val + 1, h⟩)) (by rw [d2, c2]; show (t.val + 1) % 528 = _; omega)).1 hne
      have e1 : hOf (crd ⟨t.val + 1, h⟩) = hOf (crd t) := by rw [d1, c1]; show (t.val + 1) / 528 % 8 = _; omega
      have e0 : bOf (crd ⟨t.val + 1, h⟩) = bOf (crd t) := by rw [d0, c0]; show (t.val + 1) / 4224 % 2 = _; omega
      rw [nx.1, e1, e0]
  · intro he
    by_cases hl : t.val + 1 = (cfgA (F := F)).grid.N
    · exact .inl hl
    · right
      have h : t.val + 1 < (cfgA (F := F)).N := lt_of_le_of_ne ht hl
      have d2 := crd2 ⟨t.val + 1, h⟩; have d1 := crd1 ⟨t.val + 1, h⟩
      refine ⟨h, ?_⟩
      by_cases h527 : t.val % 528 = 527
      · refine ⟨1, ?_⟩
        rw [hx, hx]
        show hOf (crd ⟨t.val + 1, h⟩) ≠ hOf (crd t)
        rw [d1, c1]; show (t.val + 1) / 528 % 8 ≠ _; omega
      · refine ⟨0, ?_⟩
        rw [hx, hx]
        have nx := (next_pair (pOf (crd t)) (pOf (crd ⟨t.val + 1, h⟩)) (by rw [d2, c2]; show (t.val + 1) % 528 = _; omega)).2 he
        have d0 := crd0 ⟨t.val + 1, h⟩
        have e0 : bOf (crd ⟨t.val + 1, h⟩) = bOf (crd t) := by rw [d0, c0]; show (t.val + 1) / 4224 % 2 = _; omega
        show bOf (crd ⟨t.val + 1, h⟩) * 32 + ii (pOf (crd ⟨t.val + 1, h⟩)) ≠ bOf (crd t) * 32 + ii (pOf (crd t))
        rw [nx.1, e0]; omega

/-- The result's staging buffer holds nothing written since its last write-back, before every point. -/
theorem fresh6 : ∀ n, n ≤ (cfgA (F := F)).N → (cfgA (F := F)).fresh (6 : Fin 7) n = true :=
  (cfgA (F := F)).fresh_tab (6 : Fin 7) (fun _ => true) rfl fun t => by
    rw [show (cfgA (F := F)).grid.coords t = crd t from rfl, idle6, flush6]
    cases decide (jj (pOf (crd t)) = ii (pOf (crd t))) <;> rfl

end Cert.KernelIdeal.Fox
-- ==== Proof.Data.lean ====
module

public import proofs.«01_k».proof.Proof.Run
public import proofs.«01_k».proof.Proof.Sched

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The staging buffers and blocks of a point -/

/-- Window 0's staging buffer at point `t`, and its wholeness. -/
abbrev ms0 (t : Fin (cfgA (F := F)).N) : Memref sig .tc .vmem S512x128 .bf16 := spec0_0.stage ((cfgA (F := F)).slots t (0 : Fin 7))
abbrev hs0 (t : Fin (cfgA (F := F)).N) : (ms0 t).IsWhole := hstage0_0 (((cfgA (F := F)).slots t (0 : Fin 7)).cast nbuf0_0)
/-- Window 1's staging buffer at point `t`, and its wholeness. -/
abbrev ms1 (t : Fin (cfgA (F := F)).N) : Memref sig .tc .vmem S512x128 .bf16 := spec0_1.stage ((cfgA (F := F)).slots t (1 : Fin 7))
abbrev hs1 (t : Fin (cfgA (F := F)).N) : (ms1 t).IsWhole := hstage0_1 (((cfgA (F := F)).slots t (1 : Fin 7)).cast nbuf0_1)
/-- Window 2's staging buffer at point `t`, and its wholeness. -/
abbrev ms2 (t : Fin (cfgA (F := F)).N) : Memref sig .tc .vmem S512x128 .bf16 := spec0_2.stage ((cfgA (F := F)).slots t (2 : Fin 7))
abbrev hs2 (t : Fin (cfgA (F := F)).N) : (ms2 t).IsWhole := hstage0_2 (((cfgA (F := F)).slots t (2 : Fin 7)).cast nbuf0_2)
/-- Window 3's staging buffer at point `t`, and its wholeness. -/
abbrev ms3 (t : Fin (cfgA (F := F)).N) : Memref sig .tc .vmem S1x1x2x512 .f32 := spec0_3.stage ((cfgA (F := F)).slots t (3 : Fin 7))
abbrev hs3 (t : Fin (cfgA (F := F)).N) : (ms3 t).IsWhole := hstage0_3 (((cfgA (F := F)).slots t (3 : Fin 7)).cast nbuf0_3)
/-- Window 4's staging buffer at point `t`, and its wholeness. -/
abbrev ms4 (t : Fin (cfgA (F := F)).N) : Memref sig .tc .vmem S1x1x2x512 .f32 := spec0_4.stage ((cfgA (F := F)).slots t (4 : Fin 7))
abbrev hs4 (t : Fin (cfgA (F := F)).N) : (ms4 t).IsWhole := hstage0_4 (((cfgA (F := F)).slots t (4 : Fin 7)).cast nbuf0_4)
/-- Window 5's staging buffer at point `t`, and its wholeness. -/
abbrev ms5 (t : Fin (cfgA (F := F)).N) : Memref sig .tc .vmem S512x128 .bf16 := spec0_5.stage ((cfgA (F := F)).slots t (5 : Fin 7))
abbrev hs5 (t : Fin (cfgA (F := F)).N) : (ms5 t).IsWhole := hstage0_5 (((cfgA (F := F)).slots t (5 : Fin 7)).cast nbuf0_5)
/-- Window 6's staging buffer at point `t`, and its wholeness. -/
abbrev ms6 (t : Fin (cfgA (F := F)).N) : Memref sig .tc .vmem S512x128 .bf16 := spec0_6.stage ((cfgA (F := F)).slots t (6 : Fin 7))
abbrev hs6 (t : Fin (cfgA (F := F)).N) : (ms6 t).IsWhole := hstage0_6 (((cfgA (F := F)).slots t (6 : Fin 7)).cast nbuf0_6)

/-- Window `w`'s block at point `t`, read off its array at entry. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (m (((cfgA (F := F)).win w).arr.view.loc (c : Thread nD τ)))

/-- The pair of blocks at a point. -/
abbrev pt (t : Fin (cfgA (F := F)).N) : Fin 528 := pOf (crd t)

/-! ## The carried state along the grid -/

/-- What a point starts from: a fresh state where the pair is the first of its row, what was carried otherwise. -/
def enter (p : Fin 528) (q : S512x128.Idx → Elt F .bf16) (s : St F) : St F := if jj p = 0 then start q else s

/-- The state after a point. -/
def step (p : Fin 528) (q k v : S512x128.Idx → Elt F .bf16) (ck c0 : S1x1x2x512.Idx → Elt F .f32) (s : St F) : St F :=
  if jj p = ii p then diag k v ck c0 (enter p q s) else below k v ck c0 (enter p q s)

/-- The state before point `n` (before the first point nothing has been computed, and the value here is not used). -/
def stAt (c : Dev nD) : ℕ → St F
  | 0 => start (iblk m c (0 : Fin 7) ⟨0, by rw [N_A]; decide⟩)
  | n + 1 => if h : n < (cfgA (F := F)).N then
      step (pt ⟨n, h⟩) (iblk m c (0 : Fin 7) ⟨n, h⟩) (iblk m c (1 : Fin 7) ⟨n, h⟩) (iblk m c (2 : Fin 7) ⟨n, h⟩) (iblk m c (3 : Fin 7) ⟨n, h⟩) (iblk m c (4 : Fin 7) ⟨n, h⟩) (stAt c n)
    else stAt c n

theorem stAt_succ (c : Dev nD) (t : Fin (cfgA (F := F)).N) : stAt m c (t.val + 1) =
    step (pt t) (iblk m c (0 : Fin 7) t) (iblk m c (1 : Fin 7) t) (iblk m c (2 : Fin 7) t) (iblk m c (3 : Fin 7) t) (iblk m c (4 : Fin 7) t) (stAt m c t.val) := by
  rw [stAt, dif_pos t.isLt]

/-- Every point before which something carried is read comes after the first. -/
theorem enter_of (p : Fin 528) (q : S512x128.Idx → Elt F .bf16) (s s' : St F) (h : jj p ≠ 0 → s = s') : enter p q s = enter p q s' := by
  unfold enter
  by_cases hp : jj p = 0
  · rw [if_pos hp, if_pos hp]
  · rw [if_neg hp, if_neg hp, h hp]

theorem step_of (p : Fin 528) (q k v : S512x128.Idx → Elt F .bf16) (ck c0 : S1x1x2x512.Idx → Elt F .f32) (s s' : St F) (h : jj p ≠ 0 → s = s') :
    step p q k v ck c0 s = step p q k v ck c0 s' := by
  unfold step
  rw [enter_of p q s s' h]

theorem jj_first (t : Fin (cfgA (F := F)).N) (h : t.val = 0) : jj (pt t) = 0 := by
  have : pt t = 0 := Fin.ext (by rw [crd2, h]; rfl)
  rw [this]; exact first_pair.2

attribute [local irreducible] stAt step

/-! ## The proof data -/

/-- What the kernel holds between points: the carried state in the scratch buffers (anything before the first point), its halves
    of the two tables, and the generator's register. -/
def Phi (c : Dev nD) (n : ℕ) : sProp 𝕄 :=
  iprop((∃ s : St F, ⌜n ≠ 0 → s = stAt m c n⌝ ∗ (qsM.view.loc (c : Thread nD τ) ↦{fullShare} s.qs) ∗ (mM.view.loc (c : Thread nD τ) ↦{fullShare} s.m)
      ∗ (lM.view.loc (c : Thread nD τ) ↦{fullShare} s.l) ∗ (accM.view.loc (c : Thread nD τ) ↦{fullShare} s.acc))
    ∗ (iiM.view.loc (c : Thread nD τ) ↦{fullShare.right} (pf (F := F) 0)) ∗ (jjM.view.loc (c : Thread nD τ) ↦{fullShare.right} (pf (F := F) 1))
    ∗ (∃ r, prngReg c r))

/-- The proof data of the pipeline on core `c`. -/
def dats (_ : Fin 1) (c : Dev nD) : Dat τ (Elt F) Unit ℕ (UR sig nD τ) ℕ (cfgA (F := F)) c where
  A w := m (((cfgA (F := F)).win w).arr.view.loc (c : Thread nD τ))
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => outOf (iblk m c (5 : Fin 7) t) (stAt m c (t.val + 1))
  Φ t := Phi m c t.val
  q := Pipeline.shareOf (cfgA (F := F)).spec
  owed _ := 0

/-- What is held before and after point `t`. -/
theorem phi_before (c : Dev nD) (t : Fin (cfgA (F := F)).N) : (dats m 0 c).Φ t.castSucc = Phi m c t.val := congrArg (Phi m c) (Fin.val_castSucc t)
theorem phi_after (c : Dev nD) (t : Fin (cfgA (F := F)).N) : (dats m 0 c).Φ t.succ = Phi m c (t.val + 1) := congrArg (Phi m c) (Fin.val_succ t)

theorem after0 (c : Dev nD) (t : Fin (cfgA (F := F)).N) : (dats m 0 c).after (0 : Fin 7) t = iblk m c (0 : Fin 7) t := rfl
theorem after1 (c : Dev nD) (t : Fin (cfgA (F := F)).N) : (dats m 0 c).after (1 : Fin 7) t = iblk m c (1 : Fin 7) t := rfl
theorem after2 (c : Dev nD) (t : Fin (cfgA (F := F)).N) : (dats m 0 c).after (2 : Fin 7) t = iblk m c (2 : Fin 7) t := rfl
theorem after3 (c : Dev nD) (t : Fin (cfgA (F := F)).N) : (dats m 0 c).after (3 : Fin 7) t = iblk m c (3 : Fin 7) t := rfl
theorem after4 (c : Dev nD) (t : Fin (cfgA (F := F)).N) : (dats m 0 c).after (4 : Fin 7) t = iblk m c (4 : Fin 7) t := rfl
theorem after5 (c : Dev nD) (t : Fin (cfgA (F := F)).N) : (dats m 0 c).after (5 : Fin 7) t = iblk m c (5 : Fin 7) t := rfl
theorem after6 (c : Dev nD) (t : Fin (cfgA (F := F)).N) : (dats m 0 c).after (6 : Fin 7) t = outOf (iblk m c (5 : Fin 7) t) (stAt m c (t.val + 1)) := rfl

/-- Input window 0 holds its block when the point begins. -/
theorem before0 (c : Dev nD) (t : Fin (cfgA (F := F)).N) (d) : (dats m 0 c).before (0 : Fin 7) t d = iblk m c (0 : Fin 7) t :=
  ((dats m 0 c).before_in_eq_fetched (0 : Fin 7) rfl (fun _ => rfl) (fun _ _ _ => rfl) (fun t => by rw [after0]; unfold Dat.blockOf iblk; rfl) t d).trans
    (by unfold Dat.fetched Dat.blockOf iblk; rfl)
/-- Input window 1 holds its block when the point begins. -/
theorem before1 (c : Dev nD) (t : Fin (cfgA (F := F)).N) (d) : (dats m 0 c).before (1 : Fin 7) t d = iblk m c (1 : Fin 7) t :=
  ((dats m 0 c).before_in_eq_fetched (1 : Fin 7) rfl (fun _ => rfl) (fun _ _ _ => rfl) (fun t => by rw [after1]; unfold Dat.blockOf iblk; rfl) t d).trans
    (by unfold Dat.fetched Dat.blockOf iblk; rfl)
/-- Input window 2 holds its block when the point begins. -/
theorem before2 (c : Dev nD) (t : Fin (cfgA (F := F)).N) (d) : (dats m 0 c).before (2 : Fin 7) t d = iblk m c (2 : Fin 7) t :=
  ((dats m 0 c).before_in_eq_fetched (2 : Fin 7) rfl (fun _ => rfl) (fun _ _ _ => rfl) (fun t => by rw [after2]; unfold Dat.blockOf iblk; rfl) t d).trans
    (by unfold Dat.fetched Dat.blockOf iblk; rfl)
/-- Input window 3 holds its block when the point begins. -/
theorem before3 (c : Dev nD) (t : Fin (cfgA (F := F)).N) (d) : (dats m 0 c).before (3 : Fin 7) t d = iblk m c (3 : Fin 7) t :=
  ((dats m 0 c).before_in_eq_fetched (3 : Fin 7) rfl (fun _ => rfl) (fun _ _ _ => rfl) (fun t => by rw [after3]; unfold Dat.blockOf iblk; rfl) t d).trans
    (by unfold Dat.fetched Dat.blockOf iblk; rfl)
/-- Input window 4 holds its block when the point begins. -/
theorem before4 (c : Dev nD) (t : Fin (cfgA (F := F)).N) (d) : (dats m 0 c).before (4 : Fin 7) t d = iblk m c (4 : Fin 7) t :=
  ((dats m 0 c).before_in_eq_fetched (4 : Fin 7) rfl (fun _ => rfl) (fun _ _ _ => rfl) (fun t => by rw [after4]; unfold Dat.blockOf iblk; rfl) t d).trans
    (by unfold Dat.fetched Dat.blockOf iblk; rfl)
/-- Input window 5 holds its block when the point begins. -/
theorem before5 (c : Dev nD) (t : Fin (cfgA (F := F)).N) (d) : (dats m 0 c).before (5 : Fin 7) t d = iblk m c (5 : Fin 7) t :=
  ((dats m 0 c).before_in_eq_fetched (5 : Fin 7) rfl (fun _ => rfl) (fun _ _ _ => rfl) (fun t => by rw [after5]; unfold Dat.blockOf iblk; rfl) t d).trans
    (by unfold Dat.fetched Dat.blockOf iblk; rfl)
/-- The result's staging buffer holds nothing the kernel has determined when a point begins. -/
theorem before6 (c : Dev nD) (t : Fin (cfgA (F := F)).N) (d) : (dats m 0 c).before (6 : Fin 7) t d = d := by
  rw [(dats m 0 c).before_out_traj (6 : Fin 7) rfl (fun _ _ => rfl)
    (fun t _ _ hf => absurd (hf.symm.trans (fresh6 t.val (Nat.le_of_lt t.isLt))) Bool.false_ne_true) t.val t rfl d,
    if_pos (fresh6 t.val (Nat.le_of_lt t.isLt))]

/-! ## A point of the grid -/

/-- The body at point `t` on its staging buffers. -/
abbrev bodyAt (t : Fin (cfgA (F := F)).N) : Prog (TpuEff nD τ sig (Elt F) Λ₀ .tc) PUnit :=
  cc0_fox_attn (crd t) iiM (Memref.isWhole_whole _) jjM (Memref.isWhole_whole _) (ms0 t) (hs0 t) (ms1 t) (hs1 t) (ms2 t) (hs2 t) (ms3 t) (hs3 t) (ms4 t) (hs4 t) (ms5 t) (hs5 t) (ms6 t) (hs6 t) qsM (Memref.isWhole_whole _) mM (Memref.isWhole_whole _) lM (Memref.isWhole_whole _) accM (Memref.isWhole_whole _)

/-- A point runs from the state it finds to the next one, and writes the result's block where the pair is on the diagonal. -/
theorem run_at (c : Dev nD) (t : Fin (cfgA (F := F)).N) (x0 x1 x2 : S512x128.Idx → Elt F .bf16) (x3 x4 : S1x1x2x512.Idx → Elt F .f32)
    (x5 y6 : S512x128.Idx → Elt F .bf16) (s : St F) (K : PUnit → sProp 𝕄) :
    iprop(Holds c (ms0 t) (ms1 t) (ms2 t) (ms3 t) (ms4 t) (ms5 t) (ms6 t) (pf (F := F) 0) (pf (F := F) 1) x0 x1 x2 x3 x4 x5 y6 s
      ∗ (Holds c (ms0 t) (ms1 t) (ms2 t) (ms3 t) (ms4 t) (ms5 t) (ms6 t) (pf (F := F) 0) (pf (F := F) 1) x0 x1 x2 x3 x4 x5
          (if jj (pt t) = ii (pt t) then outOf x5 (step (pt t) x0 x1 x2 x3 x4 s) else y6) (step (pt t) x0 x1 x2 x3 x4 s) -∗ K ⟨⟩))
      ⊢ wp frame (wpE (defs₀ (F := F)) Variants.none c none) Set.univ (bodyAt t) K := by
  have z : jjW (F := F) (crd t) (pf (F := F) 1) = 0#32 ↔ jj (pt t) = 0 := by
    rw [jjW_eq]; exact ⟨fun h => congrArg BitVec.toNat h, fun h => BitVec.eq_of_toNat_eq h⟩
  have e : jjW (F := F) (crd t) (pf (F := F) 1) = iiW (F := F) (crd t) (pf (F := F) 0) ↔ jj (pt t) = ii (pt t) := by
    rw [jjW_eq, iiW_eq]; exact ⟨fun h => congrArg BitVec.toNat h, fun h => BitVec.eq_of_toNat_eq h⟩
  unfold step enter
  by_cases h0 : jj (pt t) = 0 <;> by_cases h1 : jj (pt t) = ii (pt t)
  · rw [if_pos h1, if_pos h1, if_pos h0]
    exact runDiagFirst c (crd t) (ms0 t) (hs0 t) (ms1 t) (hs1 t) (ms2 t) (hs2 t) (ms3 t) (hs3 t) (ms4 t) (hs4 t) (ms5 t) (hs5 t) (ms6 t) (hs6 t) _ _ x0 x1 x2 x3 x4 x5 y6 s (z.2 h0) (e.2 h1) K
  · rw [if_neg h1, if_neg h1, if_pos h0]
    exact runFirst c (crd t) (ms0 t) (hs0 t) (ms1 t) (hs1 t) (ms2 t) (hs2 t) (ms3 t) (hs3 t) (ms4 t) (hs4 t) (ms5 t) (hs5 t) (ms6 t) (hs6 t) _ _ x0 x1 x2 x3 x4 x5 y6 s (z.2 h0) (fun h => h1 (e.1 h)) K
  · rw [if_pos h1, if_pos h1, if_neg h0]
    exact runDiag c (crd t) (ms0 t) (hs0 t) (ms1 t) (hs1 t) (ms2 t) (hs2 t) (ms3 t) (hs3 t) (ms4 t) (hs4 t) (ms5 t) (hs5 t) (ms6 t) (hs6 t) _ _ x0 x1 x2 x3 x4 x5 y6 s (fun h => h0 (z.1 h)) (e.2 h1) K
  · rw [if_neg h1, if_neg h1, if_neg h0]
    exact runBelow c (crd t) (ms0 t) (hs0 t) (ms1 t) (hs1 t) (ms2 t) (hs2 t) (ms3 t) (hs3 t) (ms4 t) (hs4 t) (ms5 t) (hs5 t) (ms6 t) (hs6 t) _ _ x0 x1 x2 x3 x4 x5 y6 s (fun h => h0 (z.1 h)) (fun h => h1 (e.1 h)) K

set_option maxHeartbeats 1000000 in
/-- The obligation at point `t`, its windows listed. -/
theorem sound_body (c : Dev nD) (t : Fin (cfgA (F := F)).N) :
    iprop((dats m 0 c).Φ t.castSucc ∗ (dats m 0 c).owesAt () t.castSucc
        ∗ (∃ d, owns (c : Thread nD τ) (ms0 t) fullShare ((dats m 0 c).before (0 : Fin 7) t d))
        ∗ (∃ d, owns (c : Thread nD τ) (ms1 t) fullShare ((dats m 0 c).before (1 : Fin 7) t d))
        ∗ (∃ d, owns (c : Thread nD τ) (ms2 t) fullShare ((dats m 0 c).before (2 : Fin 7) t d))
        ∗ (∃ d, owns (c : Thread nD τ) (ms3 t) fullShare ((dats m 0 c).before (3 : Fin 7) t d))
        ∗ (∃ d, owns (c : Thread nD τ) (ms4 t) fullShare ((dats m 0 c).before (4 : Fin 7) t d))
        ∗ (∃ d, owns (c : Thread nD τ) (ms5 t) fullShare ((dats m 0 c).before (5 : Fin 7) t d))
        ∗ (∃ d, owns (c : Thread nD τ) (ms6 t) fullShare ((dats m 0 c).before (6 : Fin 7) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  rewrite [idle6 t, flush6 t]
  simp only [before0, before1, before2, before3, before4, before5, before6, after0, after1, after2, after3, after4, after5, after6]
  rewrite [phi_before, phi_after,
    show (dats m 0 c).owesAt () t.succ = (dats m 0 c).owesAt () t.castSucc from rfl]
  unfold Phi
  iintro ⟨⟨⟨%s, %hs, HS0, HS1, HS2, HS3⟩, HT0, HT1, Hr⟩, Ho, ⟨%d0, H0⟩, ⟨%d1, H1⟩, ⟨%d2, H2⟩, ⟨%d3, H3⟩, ⟨%d4, H4⟩, ⟨%d5, H5⟩, ⟨%d6, H6⟩⟩
  have hst : step (pt t) (iblk m c (0 : Fin 7) t) (iblk m c (1 : Fin 7) t) (iblk m c (2 : Fin 7) t) (iblk m c (3 : Fin 7) t) (iblk m c (4 : Fin 7) t) s = stAt m c (t.val + 1) := by
    rw [stAt_succ]
    exact step_of (pt t) _ _ _ _ _ s (stAt m c t.val) fun hj => hs fun h0 => hj (jj_first t h0)
  iapply (run_at c t (iblk m c (0 : Fin 7) t) (iblk m c (1 : Fin 7) t) (iblk m c (2 : Fin 7) t) (iblk m c (3 : Fin 7) t) (iblk m c (4 : Fin 7) t) (iblk m c (5 : Fin 7) t) d6 s _)
  rewrite [hst]
  unfold Holds
  isplitl [H0 H1 H2 H3 H4 H5 HT0 HT1 H6 HS0 HS1 HS2 HS3]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexact H6
    isplitl [HS0]; · iexact HS0
    isplitl [HS1]; · iexact HS1
    isplitl [HS2]; · iexact HS2
    iexact HS3
  iintro ⟨H0, H1, H2, H3, H4, H5, HT0, HT1, H6, HS0, HS1, HS2, HS3⟩
  isplitl [HS0 HS1 HS2 HS3 HT0 HT1 Hr]
  · isplitl [HS0 HS1 HS2 HS3]
    · iexists (stAt m c (t.val + 1)); isplitr
      · ipureintro; intro _; rfl
      isplitl [HS0]; · iexact HS0
      isplitl [HS1]; · iexact HS1
      isplitl [HS2]; · iexact HS2
      iexact HS3
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  by_cases h1 : jj (pt t) = ii (pt t)
  · rw [decide_eq_true h1, if_pos h1]
    rewrite [show (!true) = false from rfl]
    dsimp only
    iexact H6
  · rw [decide_eq_false h1, if_neg h1]
    rewrite [show (!false) = true from rfl]
    dsimp only
    iexists d6; iexact H6

/-- The obligation at every point. -/
theorem body_obligation (c : Dev nD) : BodyObligation (dats m 0 c) (defs₀ (F := F)) Variants.none () Set.univ := fun t => by
  rw [bigSep_W0]
  exact sound_body m c t

end Cert.KernelIdeal.Fox
-- ==== Proof.Launch.lean ====
module

public import proofs.«01_k».proof.Proof.Data

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- What the host operations before the launch leave in each buffer. -/
def V (c : Dev nD) (b : Ref sig .tc) : Buf (Elt F) ((c.tc : Thread nD τ).loc b) :=
  StableHlo.after (Val := Elt F) ([Gen.hostOps0 (F := F)].flatten) (fun b => m (c, b)) b

theorem V_arg0 (c : Dev nD) : V m c main_arg0 = m ((c.tc : Thread nD τ).loc main_arg0) := by
  unfold V; simp only [List.flatten_cons, List.flatten_nil, List.append_nil]; rfl
theorem V_arg1 (c : Dev nD) : V m c main_arg1 = m ((c.tc : Thread nD τ).loc main_arg1) := by
  unfold V; rfl
theorem V_arg2 (c : Dev nD) : V m c main_arg2 = m ((c.tc : Thread nD τ).loc main_arg2) := by
  unfold V; rfl
theorem V_v0 (c : Dev nD) : V m c main_v0 = m ((c.tc : Thread nD τ).loc main_v0) := by
  unfold V; rfl
/-- The two tables hold the printed literals. -/
theorem V_pre (c : Dev nD) (j : Fin 2) : V m c (pre0.ref j) = (adm (F := F)).1 j := by
  fin_cases j
  · unfold V; rfl
  · unfold V; rfl

/-- The arrays of the windows are the arguments and the result. -/
theorem V_arr (c : Dev nD) (w : Fin 7) : (dats m 0 c).A w = V m c (Pipeline.arrRef (cfgA (F := F)).spec w) := by
  fin_cases w
  · exact (V_arg0 m c).symm
  · exact (V_arg0 m c).symm
  · exact (V_arg1 m c).symm
  · exact (V_arg2 m c).symm
  · exact (V_arg2 m c).symm
  · exact (V_arg1 m c).symm
  · exact (V_v0 m c).symm

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc (pre0.ref 0)) ↦{q 0} v 0) ∗ (((c : Thread nD τ).loc (pre0.ref 1)) ↦{q 1} v 1)) := by
  unfold Pipeline.prefHeld
  rw [show (Finset.univ : Finset (Fin 2)) = insert (0 : Fin 2) {(1 : Fin 2)} from by decide,
    bigSep_insert (by decide), bigSep_singleton]
  rfl

/-- What is held before the first point comes from the scratch buffers, the generator's register and the tables. -/
theorem phi_first (c : Dev nD) :
    iprop(Pipeline.ΦA (cfgA (F := F)).spec c ∗ Pipeline.ΦT pre0 (adm (F := F)).1 c) ⊢ (dats m 0 c).Φ 0 := by
  rewrite [show (dats m 0 c).Φ 0 = Phi m c 0 from rfl]
  unfold Pipeline.ΦA Pipeline.ΦT
  rw [prefHeld_eq, show Pipeline.scopedRest (Ix := Unit) (Name := ℕ) (U := UR sig nD τ) (Lvl := ℕ) (Val := Elt F) (cfgA (F := F)).spec c = _ from scopedRest0_eq c]
  unfold Phi
  iintro ⟨⟨⟨⟨%a0, HS0⟩, ⟨%a1, HS1⟩, ⟨%a2, HS2⟩, ⟨%a3, HS3⟩⟩, Hr⟩, ⟨HT0, HT1⟩⟩
  isplitl [HS0 HS1 HS2 HS3]
  · iexists (⟨a0, a1, a2, a3⟩ : St F)
    isplitr
    · ipureintro; intro h; exact absurd rfl h
    isplitl [HS0]; · iexact HS0
    isplitl [HS1]; · iexact HS1
    isplitl [HS2]; · iexact HS2
    iexact HS3
  isplitl [HT0]; · iexact HT0
  isplitl [HT1]; · iexact HT1
  iexact Hr

/-- What is held after the last point gives the scratch buffers and the register back. -/
theorem phi_last (c : Dev nD) : (dats m 0 c).Φ (Fin.last (cfgA (F := F)).N) ⊢ Pipeline.ΦA (cfgA (F := F)).spec c := by
  rewrite [show (dats m 0 c).Φ (Fin.last (cfgA (F := F)).N) = Phi m c (cfgA (F := F)).N from rfl]
  unfold Pipeline.ΦA
  rw [show Pipeline.scopedRest (Ix := Unit) (Name := ℕ) (U := UR sig nD τ) (Lvl := ℕ) (Val := Elt F) (cfgA (F := F)).spec c = _ from scopedRest0_eq c]
  unfold Phi
  iintro ⟨⟨%s, -, HS0, HS1, HS2, HS3⟩, -, -, Hr⟩
  isplitl [HS0 HS1 HS2 HS3]
  · isplitl [HS0]; · iexists s.qs; iexact HS0
    isplitl [HS1]; · iexists s.m; iexact HS1
    isplitl [HS2]; · iexists s.l; iexact HS2
    iexists s.acc; iexact HS3
  iexact Hr

/-- The result of the launch on core `c`: what the pipeline leaves in the result's array. -/
def result (c : Dev nD) : Buf (Elt F) ((c.tc : Thread nD τ).loc main_v0) := (dats m 0 c).arrAt (6 : Fin 7) (cfgA (F := F)).N

set_option backward.isDefEq.respectTransparency.types false in
set_option maxHeartbeats 1000000 in
/-- Every execution of the program terminates with the result's array at `result`, the arguments unchanged and every counter at
    zero. -/
theorem run_main : θ_run (defs (F := F)) (onTc (τ := τ) (main (F := F))) ⟨m, fun _ => 0, g⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frameP_track_shared (pcfgs (F := F)) (fun _ => adm) (dats m) (0 : Fin 1) (launch₀0 (F := F)) (defs₀ (F := F)) Variants.none m g main
    (hbody := fun c => (body_obligation m c).loose)
    (hq := fun _ _ _ => rfl) (howed := fun _ _ => rfl)
    (V := V m)
    (hmain := Pipeline.hmainP_prefixes (pcfgs (F := F)) (0 : Fin 1) (defs₀ (F := F)) Variants.none m main [Gen.hostOps0] Gen.hostOps0_sub
      ⟨rfl, rfl⟩ (fun c => Gen.main_chain c))
    (hA := V_arr m) (hpf := V_pre m) (hin := phi_first m) (hout := phi_last m)
    (Q' := _) (hQ' := fun r h => ⟨fun c =>
      have hw := (h.1 c).1
      ⟨hw (6 : Fin 7), (hw (0 : Fin 7)).trans ((dats m 0 c).arrAt_in (0 : Fin 7) rfl _),
        (hw (5 : Fin 7)).trans ((dats m 0 c).arrAt_in (5 : Fin 7) rfl _), (hw (3 : Fin 7)).trans ((dats m 0 c).arrAt_in (3 : Fin 7) rfl _)⟩, h.2⟩)

end Cert.KernelIdeal.Fox
-- ==== Proof.Softmax.lean ====
module

public import Idealize.ShloMosaic.PureOps.Ideal
public import Idealize.ShloMosaic.PureOps.Ideal.Laws
public import Idealize.ShloMosaic.PureOps.Reduce
public import Idealize.ShloMosaic.Lib.Pointwise
public import Idealize.ShloMosaic.Lib.WordCmp

@[expose] public section

noncomputable section

/-!
# A causal softmax taken block by block

One query row, position `i`, sees the keys `n ≤ i`. Its score against key `n` is the real `σ n`; the keys after it score `⊥`.
The row is folded over blocks of keys, carrying a running maximum `m`, the sum `l` of the exponentials taken off `m`, and the
sum `acc` of the values weighted by them. The maximum itself is never needed: that it is some real is enough, for a shift of
every score by one real leaves the quotients as they are.
-/

namespace Cert.Fox

open Idealize.ShloMosaic

/-- The score of key `n` for the query at `i`: `⊥` past the query. -/
def msk (i : ℕ) (σ : ℕ → ℝ) (n : ℕ) : EReal := if n ≤ i then ((σ n : ℝ) : EReal) else ⊥

/-- The exponential of that score taken off `M`. -/
def ew (i : ℕ) (σ : ℕ → ℝ) (M : ℝ) (n : ℕ) : ℝ := if n ≤ i then Real.exp (σ n - M) else 0

variable {i : ℕ} {σ : ℕ → ℝ} {v : ℕ → EReal}

theorem msk_ne_top (n : ℕ) : msk i σ n ≠ ⊤ := by
  unfold msk; split
  · exact EReal.coe_ne_top _
  · exact bot_ne_top

theorem msk_zero_ne_bot : msk i σ 0 ≠ ⊥ := by
  unfold msk; rw [if_pos (Nat.zero_le _)]; exact EReal.coe_ne_bot _

/-- The exponential of a masked score taken off a real is the real `ew`. -/
theorem exp_msk (M : ℝ) (n : ℕ) : Ideal.exp (msk i σ n - (M : EReal)) = ((ew i σ M n : ℝ) : EReal) := by
  unfold msk ew; split
  · rw [← EReal.coe_sub, Ideal.exp_coe]
  · rw [EReal.bot_sub, Ideal.exp_bot, EReal.coe_zero]

theorem ew_nonneg (M : ℝ) (n : ℕ) : 0 ≤ ew i σ M n := by
  unfold ew; split
  · exact (Real.exp_pos _).le
  · exact le_rfl

/-- Moving the offset from `M` to `M'` multiplies by the exponential of their difference. -/
theorem ew_shift (M M' : ℝ) (n : ℕ) : Real.exp (M - M') * ew i σ M n = ew i σ M' n := by
  unfold ew; split
  · rw [← Real.exp_add]; congr 1; ring
  · rw [mul_zero]

/-- Shifting every score by `δ` multiplies every exponential by one positive real. -/
theorem ew_add (δ M M' : ℝ) (n : ℕ) : ew i (fun n => σ n + δ) M' n = Real.exp (δ + M - M') * ew i σ M n := by
  unfold ew; split
  · rw [← Real.exp_add]; congr 1; ring
  · rw [mul_zero]

/-- A nonnegative real distributes over any finite sum of extended reals. -/
theorem mul_sum {ι : Type} (S : Finset ι) (f : ι → EReal) {r : ℝ} (hr : 0 ≤ r) : (r : EReal) * ∑ x ∈ S, f x = ∑ x ∈ S, (r : EReal) * f x := by
  classical
  induction S using Finset.induction with
  | empty => simp
  | insert a S ha ih =>
    rw [Finset.sum_insert ha, Finset.sum_insert ha, EReal.left_distrib_of_nonneg_of_ne_top (by exact_mod_cast hr) (EReal.coe_ne_top _), ih]

/-- A finite sum of reals, read as an extended real. -/
theorem coe_sum {ι : Type} (S : Finset ι) (f : ι → ℝ) : ((∑ x ∈ S, f x : ℝ) : EReal) = ∑ x ∈ S, (f x : EReal) := by
  classical
  induction S using Finset.induction with
  | empty => simp
  | insert a S ha ih => rw [Finset.sum_insert ha, Finset.sum_insert ha, EReal.coe_add, ih]

/-- A maximum of finitely many extended reals, none of them `⊤` and one of them not `⊥`, is a real. -/
theorem fold_max_real {ι : Type} (S : Finset ι) (f : ι → EReal) (hf : ∀ x ∈ S, f x ≠ ⊤) (a : ι) (ha : a ∈ S) (hb : f a ≠ ⊥) :
    ∃ M : ℝ, S.fold max ⊥ f = (M : EReal) := by
  have h1 : S.fold max ⊥ f ≠ ⊤ := ((Finset.fold_max_lt (⊤ : EReal)).2 ⟨bot_lt_top, fun x hx => lt_top_iff_ne_top.2 (hf x hx)⟩).ne
  have h2 : S.fold max ⊥ f ≠ ⊥ := by
    have := (Finset.le_fold_max (b := (⊥ : EReal)) (s := S) (f := f) (f a)).2 (Or.inr ⟨a, ha, le_rfl⟩)
    exact fun e => hb (le_bot_iff.1 (e ▸ this))
  exact ⟨_, (EReal.coe_toReal h1 h2).symm⟩

/-- The maximum of a real and of finitely many extended reals, none of them `⊤`, is a real. -/
theorem max_fold_real {ι : Type} (S : Finset ι) (f : ι → EReal) (hf : ∀ x ∈ S, f x ≠ ⊤) (M : ℝ) :
    ∃ M' : ℝ, max (M : EReal) (S.fold max ⊥ f) = (M' : EReal) := by
  have h1 : S.fold max ⊥ f ≠ ⊤ := ((Finset.fold_max_lt (⊤ : EReal)).2 ⟨bot_lt_top, fun x hx => lt_top_iff_ne_top.2 (hf x hx)⟩).ne
  have h2 : max (M : EReal) (S.fold max ⊥ f) ≠ ⊤ := (max_lt (EReal.coe_lt_top M) (lt_top_iff_ne_top.2 h1)).ne
  have h3 : max (M : EReal) (S.fold max ⊥ f) ≠ ⊥ := fun e => EReal.coe_ne_bot M (le_bot_iff.1 (e ▸ le_max_left _ _))
  exact ⟨_, (EReal.coe_toReal h2 h3).symm⟩

/-! ## Reals among the extended reals -/

/-- An extended real that is a real. -/
def IsR (x : EReal) : Prop := ∃ r : ℝ, x = (r : EReal)

theorem IsR.of_ne {x : EReal} (ht : x ≠ ⊤) (hb : x ≠ ⊥) : IsR x := ⟨_, (EReal.coe_toReal ht hb).symm⟩
theorem IsR.ne_top {x : EReal} (h : IsR x) : x ≠ ⊤ := by obtain ⟨r, rfl⟩ := h; exact EReal.coe_ne_top r
theorem IsR.ne_bot {x : EReal} (h : IsR x) : x ≠ ⊥ := by obtain ⟨r, rfl⟩ := h; exact EReal.coe_ne_bot r
theorem IsR.coe_toReal {x : EReal} (h : IsR x) : (x.toReal : EReal) = x := EReal.coe_toReal h.ne_top h.ne_bot
theorem IsR.zero : IsR 0 := ⟨0, EReal.coe_zero.symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (S : Finset ι) (f : ι → EReal) (h : ∀ x, IsR (f x)) : IsR (∑ x ∈ S, f x) := by
  choose g hg using h
  exact ⟨∑ x ∈ S, g x, by rw [coe_sum]; exact Finset.sum_congr rfl fun x _ => hg x⟩

/-- Of the 128 lanes of a pair of heads, the 64 of head `e`. -/
theorem sum_lanes (e : ℕ) (he : e < 2) (f : ℕ → EReal) :
    ∑ x : Fin 128, (if e = x.val / 64 then f x.val else 0) = ∑ y : Fin 64, f (e * 64 + y.val) := by
  rw [← Finset.sum_range fun x => if e = x / 64 then f x else 0, ← Finset.sum_range fun y => f (e * 64 + y), show 128 = 64 + 64 from rfl,
    Finset.sum_range_add]
  rcases (by omega : e = 0 ∨ e = 1) with rfl | rfl
  · rw [Finset.sum_congr rfl fun x hx => show (if 0 = x / 64 then f x else 0) = f (0 * 64 + x) by
        rw [Finset.mem_range] at hx; rw [if_pos (by omega)]; congr 1; omega,
      Finset.sum_eq_zero (s := Finset.range 64) (f := fun x => if 0 = (64 + x) / 64 then f (64 + x) else 0) fun x hx => if_neg (by omega), add_zero]
  · rw [Finset.sum_eq_zero (s := Finset.range 64) (f := fun x => if 1 = x / 64 then f x else 0) fun x hx => by
        rw [Finset.mem_range] at hx; exact if_neg (by omega), zero_add]
    exact Finset.sum_congr rfl fun x hx => by rw [Finset.mem_range] at hx; rw [if_pos (by omega)]

/-! ## Words and maxima -/

/-- The word of minus infinity is `⊥`. -/
theorem neg_inf : Ideal.ofBits FTy.f32 4286578688#32 = ⊥ := by simp [Ideal.ofBits, Ideal.ieee]

/-- A choice by the signed comparison of two small numbers' words. -/
theorem select_sge {α : Type} (i j : ℕ) (hi : i < 65536) (hj : j < 65536) (a b : α) :
    Scalar.select (IntOp.cmpi CmpIPredicate.sge (BitVec.ofNat 32 i) (BitVec.ofNat 32 j)) a b = if j ≤ i then a else b := by
  have key : IntOp.cmpi CmpIPredicate.sge (BitVec.ofNat 32 i) (BitVec.ofNat 32 j) = 1#1 ↔ j ≤ i := by
    exact WordCmp.cmpi_sge_ofNat_eq_one_iff (lt_trans hi (by decide)) (lt_trans hj (by decide))
  unfold Scalar.select
  by_cases h : j ≤ i
  · rw [if_pos h]; exact if_pos (key.2 h)
  · rw [if_neg h]; exact if_neg fun e => h (key.1 e)

/-- A choice by their strict signed comparison. -/
theorem select_slt {α : Type} (i j : ℕ) (hi : i < 65536) (hj : j < 65536) (a b : α) :
    Scalar.select (IntOp.cmpi CmpIPredicate.slt (BitVec.ofNat 32 i) (BitVec.ofNat 32 j)) a b = if i < j then a else b := by
  have key : IntOp.cmpi CmpIPredicate.slt (BitVec.ofNat 32 i) (BitVec.ofNat 32 j) = 1#1 ↔ i < j := by
    exact WordCmp.cmpi_slt_ofNat_eq_one_iff (lt_trans hi (by decide)) (lt_trans hj (by decide))
  unfold Scalar.select
  by_cases h : i < j
  · rw [if_pos h]; exact if_pos (key.2 h)
  · rw [if_neg h]; exact if_neg fun e => h (key.1 e)

/-- A reduction by maximum from `⊥` is a real where no element is `⊤` and one that it takes in is not `⊥`. -/
theorem reduce_max_real {s t u : Shape} {axes : List (Fin s.rank)} (x : s.Idx → EReal) (init : u.Idx → EReal) (h : s.ReducesTo axes t)
    (hu : 0 < u.numel) (j : t.Idx) (hinit : init (Shape.Idx.first hu) = ⊥) (hx : ∀ y, x y ≠ ⊤) (i : s.Idx) (hi : h.drop i = j) (hb : x i ≠ ⊥) :
    ∃ M : ℝ, Host.reduce (FloatOps.maximumf (F := Ideal) (φ := .f32)) x init h hu j = (M : EReal) := by
  obtain ⟨M, hM⟩ := fold_max_real (Finset.univ.filter fun y => h.drop y = j) x (fun y _ => hx y) i
    (Finset.mem_filter.2 ⟨Finset.mem_univ _, hi⟩) hb
  refine ⟨M, ?_⟩
  rw [← hM]
  refine (Host.reduce_eq_fold (α := EReal) max x init h hu j).trans ?_
  rw [hinit]

/-! ## Block by block -/

/-- What is carried after the first `N` keys, one offset `M` serving both sums. -/
def Inv (i : ℕ) (σ : ℕ → ℝ) (v : ℕ → EReal) (N : ℕ) (m l acc : EReal) : Prop :=
  ∃ M : ℝ, m = (M : EReal) ∧ l = ∑ n ∈ Finset.range N, ((ew i σ M n : ℝ) : EReal)
    ∧ acc = ∑ n ∈ Finset.range N, ((ew i σ M n : ℝ) : EReal) * v n

/-- The same, or the values a row starts from before any key. -/
def Inv0 (i : ℕ) (σ : ℕ → ℝ) (v : ℕ → EReal) (N : ℕ) (m l acc : EReal) : Prop :=
  (N = 0 ∧ m = ⊥ ∧ l = 0 ∧ acc = 0) ∨ Inv i σ v N m l acc

/-- One block of `T` keys more. -/
theorem step {N T : ℕ} (hT : 0 < T) {m l acc : EReal} (h : Inv0 i σ v N m l acc) (s vals : Fin T → EReal)
    (hs : ∀ x, s x = msk i σ (N + x.val)) (hv : ∀ x, vals x = v (N + x.val)) {m' : EReal} (hm' : m' = max m (Finset.univ.fold max ⊥ s)) :
    Inv i σ v (N + T) m' (Ideal.exp (m - m') * l + ∑ x, Ideal.exp (s x - m')) (Ideal.exp (m - m') * acc + ∑ x, Ideal.exp (s x - m') * vals x) := by
  have htop : ∀ x ∈ (Finset.univ : Finset (Fin T)), s x ≠ ⊤ := fun x _ => by rw [hs]; exact msk_ne_top _
  have hM : ∃ M' : ℝ, m' = (M' : EReal) := by
    rcases h with ⟨hN, hm, -, -⟩ | ⟨M, hm, -, -⟩
    · subst hN; rw [hm', hm, max_eq_right bot_le]
      exact fold_max_real _ _ htop ⟨0, hT⟩ (Finset.mem_univ _) (by rw [hs]; exact msk_zero_ne_bot)
    · rw [hm', hm]; exact max_fold_real _ _ htop M
  obtain ⟨M', e⟩ := hM
  clear hm'; subst e
  have hl : Ideal.exp (m - (M' : EReal)) * l = ∑ n ∈ Finset.range N, ((ew i σ M' n : ℝ) : EReal) := by
    rcases h with ⟨hN, hm, hl, -⟩ | ⟨M, hm, hl, -⟩
    · subst hN; rw [hl, mul_zero, Finset.range_zero, Finset.sum_empty]
    · rw [hm, hl, ← EReal.coe_sub, Ideal.exp_coe, mul_sum _ _ (Real.exp_pos _).le]
      exact Finset.sum_congr rfl fun n _ => by rw [← EReal.coe_mul, ew_shift]
  have ha : Ideal.exp (m - (M' : EReal)) * acc = ∑ n ∈ Finset.range N, ((ew i σ M' n : ℝ) : EReal) * v n := by
    rcases h with ⟨hN, hm, -, ha⟩ | ⟨M, hm, -, ha⟩
    · subst hN; rw [ha, mul_zero, Finset.range_zero, Finset.sum_empty]
    · rw [hm, ha, ← EReal.coe_sub, Ideal.exp_coe, mul_sum _ _ (Real.exp_pos _).le]
      exact Finset.sum_congr rfl fun n _ => by rw [← mul_assoc, ← EReal.coe_mul, ew_shift]
  refine ⟨M', rfl, ?_, ?_⟩
  · rw [hl, Finset.sum_range_add, Finset.sum_range fun x => ((ew i σ M' (N + x) : ℝ) : EReal)]
    exact congrArg _ (Finset.sum_congr rfl fun x _ => by rw [hs, exp_msk])
  · rw [ha, Finset.sum_range_add, Finset.sum_range fun x => ((ew i σ M' (N + x) : ℝ) : EReal) * v (N + x)]
    exact congrArg _ (Finset.sum_congr rfl fun x _ => by rw [hs, exp_msk, hv])

/-- Keys past the query add nothing. -/
theorem sum_ew {M : ℝ} {N : ℕ} (hN : i < N) (g : ℕ → EReal) :
    ∑ n ∈ Finset.range N, ((ew i σ M n : ℝ) : EReal) * g n = ∑ n ∈ Finset.range (i + 1), ((ew i σ M n : ℝ) : EReal) * g n := by
  symm
  refine Finset.sum_subset (fun n hn => ?_) fun n _ hn => ?_
  · rw [Finset.mem_range] at hn ⊢; omega
  · rw [Finset.mem_range] at hn
    rw [ew, if_neg (by omega), EReal.coe_zero, zero_mul]

/-- The sum of the exponentials is a positive real. -/
theorem sum_ew_one {M : ℝ} {N : ℕ} (hN : i < N) :
    ∑ n ∈ Finset.range N, ((ew i σ M n : ℝ) : EReal) = ((∑ n ∈ Finset.range (i + 1), ew i σ M n : ℝ) : EReal) := by
  have := sum_ew (σ := σ) (M := M) hN fun _ => 1
  simp only [mul_one] at this
  rw [this, coe_sum]

theorem sum_ew_pos (M : ℝ) : 0 < ∑ n ∈ Finset.range (i + 1), ew i σ M n :=
  Finset.sum_pos (fun n hn => by
    rw [Finset.mem_range] at hn
    rw [ew, if_pos (by omega)]; exact Real.exp_pos _) ⟨0, Finset.mem_range.2 (Nat.succ_pos _)⟩

/-- The weighted sum taken by the reciprocal of the sum of the exponentials, the scores folded block by block, is the sum of
    the values weighted by the softmax of the scores, each of them shifted by one real `δ`. -/
theorem final {N N' : ℕ} {m l acc : EReal} (h : Inv i σ v N m l acc) (hN : i < N) (hN' : i < N') (δ : ℝ) (s' : Fin N' → EReal)
    (hs' : ∀ x, s' x = msk i (fun n => σ n + δ) x.val) (M' : ℝ) (vals : Fin N' → EReal) (hv : ∀ x, vals x = v x.val) :
    acc * Ideal.div 1 l = ∑ x, Ideal.div (Ideal.exp (s' x - (M' : EReal))) (∑ y, Ideal.exp (s' y - (M' : EReal))) * vals x := by
  obtain ⟨M, -, hl, ha⟩ := h
  set L : ℝ := ∑ n ∈ Finset.range (i + 1), ew i σ M n with hL
  have hLpos : 0 < L := sum_ew_pos M
  set κ : ℝ := Real.exp (δ + M - M') with hκ
  have hκ0 : 0 < κ := Real.exp_pos _
  have hl' : l = (L : EReal) := by rw [hl, sum_ew_one hN]
  have hden : (∑ y, Ideal.exp (s' y - (M' : EReal))) = ((κ * L : ℝ) : EReal) := by
    have e : ∀ y : Fin N', Ideal.exp (s' y - (M' : EReal)) = ((ew i (fun n => σ n + δ) M' y.val : ℝ) : EReal) := fun y => by rw [hs', exp_msk]
    rw [Finset.sum_congr rfl fun y _ => e y, ← Finset.sum_range fun y => ((ew i (fun n => σ n + δ) M' y : ℝ) : EReal), sum_ew_one hN',
      hL, Finset.mul_sum, Finset.sum_congr rfl fun n _ => ew_add δ M M' n]
  have hterm : ∀ x : Fin N', Ideal.div (Ideal.exp (s' x - (M' : EReal))) (∑ y, Ideal.exp (s' y - (M' : EReal))) * vals x
      = ((ew i σ M x.val : ℝ) : EReal) * (((1 / L : ℝ) : EReal) * v x.val) := fun x => by
    rw [hden, Ideal.div_coe (mul_pos hκ0 hLpos).ne', hs', exp_msk, hv, ← mul_assoc, ← EReal.coe_mul, ← EReal.coe_mul]
    congr 2
    rw [ew_add δ M M', ← hκ]
    field_simp
  rw [Finset.sum_congr rfl fun x _ => hterm x, ← Finset.sum_range fun n => ((ew i σ M n : ℝ) : EReal) * (((1 / L : ℝ) : EReal) * v n),
    sum_ew hN' fun n => ((1 / L : ℝ) : EReal) * v n, hl', Ideal.div_coe hLpos.ne', one_mul, ha, sum_ew hN v, mul_comm,
    mul_sum _ _ (by positivity)]
  exact Finset.sum_congr rfl fun n _ => mul_left_comm _ _ _

end Cert.Fox

end
-- ==== Proof.Rows.lean ====
module

public import proofs.«01_k».proof.Proof.Block
public import proofs.«01_k».proof.Proof.Softmax
public import Idealize.ShloMosaic.Lib.Pointwise

@[expose] public section

set_option maxRecDepth 16384

noncomputable section

/-!
# One key block, row by row

The kernel stacks the two heads of a pair: row `512 e + r` of its scores is query `r` of head `e`, whose 64 lanes are
`64 e` to `64 e + 63`. Each of its steps is read at a row.
-/

namespace Cert.KernelIdeal.Fox

open Cert.KernelIdeal Cert.KernelIdeal.Gen
open Idealize.ShloMosaic
open Cert.Fox (Inv Inv0 msk neg_inf select_sge select_slt)

/-- The head of a row. -/
abbrev hd (r : Fin 1024) : Fin 2 := ⟨r.val / 512, by omega⟩
/-- The query of a row, within its block. -/
abbrev qr (r : Fin 1024) : Fin 512 := ⟨r.val % 512, by omega⟩

/-- A packed query row keeps its own head's lanes; the other head's are zero. -/
theorem qsOf_at (q : S512x128.Idx → Elt Ideal .bf16) (r : Fin 1024) (x : Fin 128) :
    qsOf (F := Ideal) q (ix2 r x) = if r.val / 512 = x.val / 64 then q (ix2 (qr r) x) else (0 : EReal) := by
  have hr := r.isLt; have hx := x.isLt
  have e0 : ∀ (r : Fin 512), k0_pay2 (F := Ideal) q (ix2 r x) = if x.val < 64 then q (ix2 r x) else (0 : EReal) := by
    intro r
    pointwise [k0_pay2, k0_pay1]
    exact select_slt x.val 64 (by omega) (by omega) _ _
  have e1 : ∀ (r : Fin 512), k0_pay3 (F := Ideal) q (ix2 r x) = if x.val < 64 then (0 : EReal) else q (ix2 r x) := by
    intro r
    pointwise [k0_pay3, k0_pay1]
    exact select_slt x.val 64 (by omega) (by omega) _ _
  unfold qsOf
  by_cases h : r.val < 512
  · have e : qr r = ⟨r.val, h⟩ := Fin.ext (Nat.mod_eq_of_lt h)
    rw [dif_pos (show ((ix2 r x : S1024x128.Idx) 0).val < 512 from h), e]
    refine (e0 ⟨r.val, h⟩).trans ?_
    by_cases hx' : x.val < 64
    · rw [if_pos hx', if_pos (by omega)]
    · rw [if_neg hx', if_neg (by omega)]
  · have e : qr r = ⟨r.val - 512, by omega⟩ := Fin.ext (by show r.val % 512 = r.val - 512; omega)
    rw [dif_neg (show ¬((ix2 r x : S1024x128.Idx) 0).val < 512 from h), e]
    refine (e1 ⟨r.val - 512, by omega⟩).trans ?_
    by_cases hx' : x.val < 64
    · rw [if_pos hx', if_neg (by omega)]
    · rw [if_neg hx', if_pos (by omega)]

section Payloads

variable (g : Vec Ideal S1x1x2x1 .f32) (ck : Vec Ideal S1x1x2x512 .f32) (qs : Vec Ideal S1024x128 .bf16) (k v : Vec Ideal S512x128 .bf16)
  (mm ll : Vec Ideal S1024x1 .f32) (acc : Vec Ideal S1024x128 .f32) (r : Fin 1024) (c : Fin 512) (d : Fin 128)

/-- A score, unmasked. -/
theorem pay18_at : k0_pay18 g ck qs k (ix2 r c) = (∑ x : Fin 128, qs (ix2 r x) * k (ix2 c x)) + (g (ix4 0 0 (hd r) 0) - ck (ix4 0 0 (hd r) c)) := by
  have hr := r.isLt
  pointwise [k0_pay18]
  by_cases h : r.val < 512
  · have e : hd r = 0 := Fin.ext (by show r.val / 512 = 0; omega)
    rw [dif_pos h, e]
  · have e : hd r = 1 := Fin.ext (by show r.val / 512 = 1; omega)
    have e' : (⟨512 + (r.val - 512), by omega⟩ : Fin 1024) = r := Fin.ext (by show 512 + (r.val - 512) = r.val; omega)
    rw [dif_neg h, e, e']

/-- A score of the diagonal block: `⊥` past the query. -/
theorem pay13_at : k0_pay13 g ck qs k (ix2 r c) = if c.val ≤ r.val % 512 then k0_pay18 g ck qs k (ix2 r c) else ⊥ := by
  have hr := r.isLt; have hc := c.isLt
  rw [show k0_pay13 g ck qs k (ix2 r c) = select (cmpi .sge (select (cmpi .sge (iota .tc S1024x512 32 [0] iota_S1024x512_d0_w32) (broadcast S1024x512 512#32)) (subi (iota .tc S1024x512 32 [0] iota_S1024x512_d0_w32) (broadcast S1024x512 512#32)) (iota .tc S1024x512 32 [0] iota_S1024x512_d0_w32)) (iota .tc S1024x512 32 [1] iota_S1024x512_d1_w32)) (k0_pay18 g ck qs k) (broadcast S1024x512 (Scalar.ofBits .f32 0xFF800000#32)) (ix2 r c) from rfl]
  generalize k0_pay18 g ck qs k = s
  pointwise
  rw [neg_inf]
  have e : Scalar.select (IntOp.cmpi CmpIPredicate.sge (BitVec.ofNat 32 r.val) 512#32) (IntOp.subi (BitVec.ofNat 32 r.val) 512#32) (BitVec.ofNat 32 r.val) = BitVec.ofNat 32 (r.val % 512) := by
    refine (select_sge r.val 512 (by omega) (by omega) _ _).trans ?_
    by_cases h : 512 ≤ r.val
    · rw [if_pos h]
      refine BitVec.eq_of_toNat_eq ?_
      show (BitVec.ofNat 32 r.val - 512#32).toNat = _
      rw [BitVec.toNat_sub, BitVec.toNat_ofNat, BitVec.toNat_ofNat, BitVec.toNat_ofNat]; omega
    · rw [if_neg h, Nat.mod_eq_of_lt (by omega : r.val < 512)]
  rw [e]
  exact select_sge (r.val % 512) c.val (by omega) (by omega) _ _

/-- The new row maximum, off the diagonal. -/
theorem pay19_at : k0_pay19 g ck qs k mm (ix2 r 0) = max (mm (ix2 r 0)) (Finset.univ.fold max ⊥ fun x : Fin 512 => k0_pay18 g ck qs k (ix2 r x)) := by
  generalize hp : k0_pay18 g ck qs k = p
  pointwise [k0_pay19, hp]
  rw [neg_inf]

/-- The new row maximum, on the diagonal. -/
theorem pay14_at : k0_pay14 g ck qs k mm (ix2 r 0) = max (mm (ix2 r 0)) (Finset.univ.fold max ⊥ fun x : Fin 512 => k0_pay13 g ck qs k (ix2 r x)) := by
  generalize hp : k0_pay13 g ck qs k = p
  pointwise [k0_pay14, hp]
  rw [neg_inf]

/-- The factor by which what was carried is scaled, off the diagonal. -/
theorem pay20_at : k0_pay20 g ck qs k mm (ix2 r 0) = Ideal.exp (mm (ix2 r 0) - k0_pay19 g ck qs k mm (ix2 r 0)) := by
  generalize hp : k0_pay19 g ck qs k mm = p
  pointwise [k0_pay20, hp]

/-- The factor by which what was carried is scaled, on the diagonal. -/
theorem pay15_at : k0_pay15 g ck qs k mm (ix2 r 0) = Ideal.exp (mm (ix2 r 0) - k0_pay14 g ck qs k mm (ix2 r 0)) := by
  generalize hp : k0_pay14 g ck qs k mm = p
  pointwise [k0_pay15, hp]

/-- The exponentials, off the diagonal. -/
theorem pay21_at : k0_pay21 g ck qs k mm (ix2 r c) = Ideal.exp (k0_pay18 g ck qs k (ix2 r c) - k0_pay19 g ck qs k mm (ix2 r 0)) := by
  generalize hp : k0_pay19 g ck qs k mm = p
  generalize hs : k0_pay18 g ck qs k = s
  pointwise [k0_pay21, hp, hs]

/-- The exponentials, on the diagonal. -/
theorem pay16_at : k0_pay16 g ck qs k mm (ix2 r c) = Ideal.exp (k0_pay13 g ck qs k (ix2 r c) - k0_pay14 g ck qs k mm (ix2 r 0)) := by
  generalize hp : k0_pay14 g ck qs k mm = p
  generalize hs : k0_pay13 g ck qs k = s
  pointwise [k0_pay16, hp, hs]

/-- The new row sum, off the diagonal. -/
theorem pay22_at : k0_pay22 g ck qs k mm ll (ix2 r 0) = k0_pay20 g ck qs k mm (ix2 r 0) * ll (ix2 r 0) + ∑ x : Fin 512, k0_pay21 g ck qs k mm (ix2 r x) := by
  generalize hp : k0_pay20 g ck qs k mm = p
  generalize hs : k0_pay21 g ck qs k mm = s
  pointwise [k0_pay22, hp, hs]

/-- The carried row sum scaled, on the diagonal. -/
theorem pay17_at : k0_pay17 g ck qs k mm ll (ix2 r 0) = k0_pay15 g ck qs k mm (ix2 r 0) * ll (ix2 r 0) := by
  generalize hp : k0_pay15 g ck qs k mm = p
  pointwise [k0_pay17, hp]

/-- The new row sum, on the diagonal. -/
theorem pay7_at (p : FVec Ideal S1024x512 .f32) (l : FVec Ideal S1024x1 .f32) : k0_pay7 p l (ix2 r 0) = l (ix2 r 0) + ∑ x : Fin 512, p (ix2 r x) := by
  pointwise [k0_pay7]

/-- The new weighted sum, on the diagonal. -/
theorem pay8_at (a : FVec Ideal S1024x1 .f32) (p : FVec Ideal S1024x512 .f32) :
    k0_pay8 a p acc v (ix2 r d) = a (ix2 r 0) * acc (ix2 r d) + ∑ x : Fin 512, p (ix2 r x) * v (ix2 x d) := by
  pointwise [k0_pay8]

/-- The new weighted sum, off the diagonal. -/
theorem pay10_at (a : FVec Ideal S1024x1 .f32) (p : FVec Ideal S1024x512 .f32) :
    k0_pay10 a p acc v (ix2 r d) = a (ix2 r 0) * acc (ix2 r d) + ∑ x : Fin 512, p (ix2 r x) * v (ix2 x d) := by
  pointwise [k0_pay10]

/-- The row maximum is kept as it is, off the diagonal. -/
theorem pay11_at (p : FVec Ideal S1024x1 .f32) : k0_pay11 p (ix2 r 0) = p (ix2 r 0) := by
  pointwise [k0_pay11]

/-- The row maximum is kept as it is, on the diagonal. -/
theorem pay9_at (p : FVec Ideal S1024x1 .f32) : k0_pay9 p (ix2 r 0) = p (ix2 r 0) := by
  pointwise [k0_pay9]

end Payloads

/-- The row of the state that holds query `r` of the head lane `d` belongs to. -/
abbrev rowOf (r : Fin 512) (d : Fin 128) : Fin 1024 := ⟨512 * (d.val / 64) + r.val, by omega⟩

/-- The block written, at an index: the weighted sum over the row sum, gated. -/
theorem outOf_at (gate : S512x128.Idx → Elt Ideal .bf16) (s : St Ideal) (r : Fin 512) (d : Fin 128) :
    outOf gate s (ix2 r d) = (s.acc (ix2 (rowOf r d) d) : EReal) * Ideal.div 1 (s.l (ix2 (rowOf r d) 0)) * Ideal.div 1 (1 + Ideal.exp (0 - gate (ix2 r d))) := by
  have hr := r.isLt; have hd := d.isLt
  unfold outOf
  generalize s.acc = acc
  generalize s.l = l
  pointwise [k0_pay12]
  refine congrArg (· * Ideal.div 1 (1 + Ideal.exp (0 - gate (ix2 r d)))) ((select_slt d.val 64 (by omega) (by omega) _ _).trans ?_)
  by_cases h : d.val < 64
  · have e : rowOf r d = ⟨r.val, by omega⟩ := Fin.ext (by show 512 * (d.val / 64) + r.val = r.val; omega)
    rw [e]; exact if_pos h
  · have e : rowOf r d = ⟨512 + r.val, by omega⟩ := Fin.ext (by show 512 * (d.val / 64) + r.val = 512 + r.val; omega)
    rw [e]; exact if_neg h

/-- The first column of the cumulative gates. -/
theorem c0Of_at (x4 : S1x1x2x512.Idx → Elt Ideal .f32) (e : Fin 2) : c0Of (F := Ideal) x4 (ix4 0 0 e 0) = x4 (ix4 0 0 e 0) := by
  refine congrArg x4 ?_
  funext a
  refine Fin.ext ?_
  rw [Rect.emb_apply]
  fin_cases a
  · rfl
  · rfl
  · show 0 + 1 * e.val = e.val; omega
  · rfl

/-! ## A point, row by row -/

/-- What the state of a query block `I` holds after `N` keys: in row `512 e + r`, the softmax of query `512 I + r` of head `e`
    over the first `N` keys; `σ` gives the scores of a row and `vv` the values of a lane. -/
def Rows (I N : ℕ) (σ : Fin 1024 → ℕ → ℝ) (vv : Fin 128 → ℕ → EReal) (s : St Ideal) : Prop :=
  ∀ (r : Fin 1024) (d : Fin 128), Inv0 (512 * I + r.val % 512) (σ r) (vv d) N (s.m (ix2 r 0)) (s.l (ix2 r 0)) (s.acc (ix2 r d))

/-- A fresh state holds no key. -/
theorem rows_start (I : ℕ) (σ : Fin 1024 → ℕ → ℝ) (vv : Fin 128 → ℕ → EReal) (q : S512x128.Idx → Elt Ideal .bf16) : Rows I 0 σ vv (start q) := fun r d => by
  refine Or.inl ⟨rfl, ?_, ?_, ?_⟩
  · show k0_pay4 (F := Ideal) (ix2 r 0) = ⊥
    pointwise [k0_pay4]; exact neg_inf
  · show k0_pay5 (F := Ideal) (ix2 r 0) = 0
    pointwise [k0_pay5]
  · show k0_pay6 (F := Ideal) (ix2 r d) = 0
    pointwise [k0_pay6]

section Point

variable {I J : ℕ} {σ : Fin 1024 → ℕ → ℝ} {vv : Fin 128 → ℕ → EReal} {k v : S512x128.Idx → Elt Ideal .bf16} {ck c0 : S1x1x2x512.Idx → Elt Ideal .f32} {s : St Ideal}

/-- A key block below the diagonal adds its 512 keys. -/
theorem rows_below (hJ : J < I) (h : Rows I (512 * J) σ vv s)
    (hσ : ∀ (r : Fin 1024) (x : Fin 512), k0_pay18 (c0Of c0) ck s.qs k (ix2 r x) = ((σ r (512 * J + x.val) : ℝ) : EReal))
    (hv : ∀ (x : Fin 512) (d : Fin 128), v (ix2 x d) = vv d (512 * J + x.val)) (r : Fin 1024) (d : Fin 128) :
    Inv (512 * I + r.val % 512) (σ r) (vv d) (512 * J + 512) ((below k v ck c0 s).m (ix2 r 0)) ((below k v ck c0 s).l (ix2 r 0)) ((below k v ck c0 s).acc (ix2 r d)) := by
  have hst := Cert.Fox.step (T := 512) (by decide) (h r d) (fun x => k0_pay18 (c0Of c0) ck s.qs k (ix2 r x)) (fun x => v (ix2 x d))
    (fun x => by rw [hσ, msk, if_pos (by have := x.isLt; omega)]) (fun x => hv x d) (pay19_at (c0Of c0) ck s.qs k s.m r)
  have el : k0_pay22 (c0Of c0) ck s.qs k s.m s.l (ix2 r 0) = Ideal.exp (s.m (ix2 r 0) - k0_pay19 (c0Of c0) ck s.qs k s.m (ix2 r 0)) * s.l (ix2 r 0)
      + ∑ x : Fin 512, Ideal.exp (k0_pay18 (c0Of c0) ck s.qs k (ix2 r x) - k0_pay19 (c0Of c0) ck s.qs k s.m (ix2 r 0)) := by
    rw [pay22_at, pay20_at]; exact congrArg _ (Finset.sum_congr rfl fun x _ => pay21_at _ _ _ _ _ _ _)
  have ea : k0_pay10 (k0_pay20 (c0Of c0) ck s.qs k s.m) (k0_pay21 (c0Of c0) ck s.qs k s.m) s.acc v (ix2 r d)
      = Ideal.exp (s.m (ix2 r 0) - k0_pay19 (c0Of c0) ck s.qs k s.m (ix2 r 0)) * s.acc (ix2 r d)
      + ∑ x : Fin 512, Ideal.exp (k0_pay18 (c0Of c0) ck s.qs k (ix2 r x) - k0_pay19 (c0Of c0) ck s.qs k s.m (ix2 r 0)) * v (ix2 x d) := by
    rw [pay10_at, pay20_at]; exact congrArg _ (Finset.sum_congr rfl fun x _ => by rw [pay21_at])
  unfold below
  dsimp only
  rw [el, ea, pay11_at]
  exact hst

/-- The key block on the diagonal adds its 512 keys, those past the query masked. -/
theorem rows_diag (hJ : J = I) (h : Rows I (512 * J) σ vv s)
    (hσ : ∀ (r : Fin 1024) (x : Fin 512), k0_pay18 (c0Of c0) ck s.qs k (ix2 r x) = ((σ r (512 * J + x.val) : ℝ) : EReal))
    (hv : ∀ (x : Fin 512) (d : Fin 128), v (ix2 x d) = vv d (512 * J + x.val)) (r : Fin 1024) (d : Fin 128) :
    Inv (512 * I + r.val % 512) (σ r) (vv d) (512 * J + 512) ((diag k v ck c0 s).m (ix2 r 0)) ((diag k v ck c0 s).l (ix2 r 0)) ((diag k v ck c0 s).acc (ix2 r d)) := by
  have hst := Cert.Fox.step (T := 512) (by decide) (h r d) (fun x => k0_pay13 (c0Of c0) ck s.qs k (ix2 r x)) (fun x => v (ix2 x d))
    (fun x => by
      rw [pay13_at, hσ, msk]
      by_cases hx : x.val ≤ r.val % 512
      · rw [if_pos hx, if_pos (by omega)]
      · rw [if_neg hx, if_neg (by omega)]) (fun x => hv x d) (pay14_at (c0Of c0) ck s.qs k s.m r)
  have el : k0_pay7 (k0_pay16 (c0Of c0) ck s.qs k s.m) (k0_pay17 (c0Of c0) ck s.qs k s.m s.l) (ix2 r 0) = Ideal.exp (s.m (ix2 r 0) - k0_pay14 (c0Of c0) ck s.qs k s.m (ix2 r 0)) * s.l (ix2 r 0)
      + ∑ x : Fin 512, Ideal.exp (k0_pay13 (c0Of c0) ck s.qs k (ix2 r x) - k0_pay14 (c0Of c0) ck s.qs k s.m (ix2 r 0)) := by
    rw [pay7_at, pay17_at, pay15_at]; exact congrArg _ (Finset.sum_congr rfl fun x _ => pay16_at _ _ _ _ _ _ _)
  have ea : k0_pay8 (k0_pay15 (c0Of c0) ck s.qs k s.m) (k0_pay16 (c0Of c0) ck s.qs k s.m) s.acc v (ix2 r d)
      = Ideal.exp (s.m (ix2 r 0) - k0_pay14 (c0Of c0) ck s.qs k s.m (ix2 r 0)) * s.acc (ix2 r d)
      + ∑ x : Fin 512, Ideal.exp (k0_pay13 (c0Of c0) ck s.qs k (ix2 r x) - k0_pay14 (c0Of c0) ck s.qs k s.m (ix2 r 0)) * v (ix2 x d) := by
    rw [pay8_at, pay15_at]; exact congrArg _ (Finset.sum_congr rfl fun x _ => by rw [pay16_at])
  unfold diag
  dsimp only
  rw [el, ea, pay9_at]
  exact hst

end Point

end Cert.KernelIdeal.Fox

end
-- ==== Proof.Cells.lean ====
module

public import proofs.«01_k».proof.Proof.Softmax

@[expose] public section

noncomputable section

/-!
# The arrays by row and column numbers

Queries and keys, projections, and cumulative log gates, read at plain numbers; the two forms of a score, the reference's and the
kernel's, and the real by which they differ.
-/

namespace Cert.Fox

open Idealize.ShloMosaic

variable (A0 : (⟨2, ![32768, 2048]⟩ : Shape).Idx → EReal) (A1 : (⟨2, ![32768, 4096]⟩ : Shape).Idx → EReal) (A2 : (⟨4, ![2, 8, 2, 16384]⟩ : Shape).Idx → EReal)

/-- Queries (columns below 1024) and keys (the others). -/
def qn (r c : ℕ) : EReal := if h : r < 32768 ∧ c < 2048 then A0 (ix2 ⟨r, h.1⟩ ⟨c, h.2⟩) else 0
/-- The projections: values from column 2048, gates from column 3072. -/
def pn (r c : ℕ) : EReal := if h : r < 32768 ∧ c < 4096 then A1 (ix2 ⟨r, h.1⟩ ⟨c, h.2⟩) else 0
/-- The cumulative log gate of head `hh` at position `n`. -/
def cn (b hh n : ℕ) : EReal := if h : b < 2 ∧ hh < 16 ∧ n < 16384 then A2 (ix4 ⟨b, h.1⟩ ⟨hh / 2, by omega⟩ ⟨hh % 2, by omega⟩ ⟨n, h.2.2⟩) else 0

theorem qn_at (r c : ℕ) (hr : r < 32768) (hc : c < 2048) : qn A0 r c = A0 (ix2 ⟨r, hr⟩ ⟨c, hc⟩) := dif_pos ⟨hr, hc⟩
theorem pn_at (r c : ℕ) (hr : r < 32768) (hc : c < 4096) : pn A1 r c = A1 (ix2 ⟨r, hr⟩ ⟨c, hc⟩) := dif_pos ⟨hr, hc⟩
theorem cn_at (b hh n : ℕ) (hb : b < 2) (hh' : hh < 16) (hn : n < 16384) :
    cn A2 b hh n = A2 (ix4 ⟨b, hb⟩ ⟨hh / 2, by omega⟩ ⟨hh % 2, by omega⟩ ⟨n, hn⟩) := dif_pos ⟨hb, hh', hn⟩

/-- Query `n` of head `hh` against key `x`, over the head's 64 lanes. -/
def dotp (b hh n x : ℕ) : EReal := ∑ y : Fin 64, qn A0 (b * 16384 + n) (hh * 64 + y.val) * qn A0 (b * 16384 + x) (1024 + (hh * 64 + y.val))

/-- The reference's score: biased by the gates' difference from the query itself. -/
def sRef (b hh n x : ℕ) : EReal := dotp A0 b hh n x + cn A2 b hh n - cn A2 b hh x

/-- The kernel's score: biased by the gates' difference from position `n0`, the first of the query's block. -/
def sKer (b hh n0 n x : ℕ) : EReal := dotp A0 b hh n x + (cn A2 b hh n0 - cn A2 b hh x)

section Finite

variable {A0 A2} (h0 : ∀ y, IsR (A0 y)) (h2 : ∀ y, IsR (A2 y))
include h0

theorem qn_real (r c : ℕ) : IsR (qn A0 r c) := by
  unfold qn; split
  · exact h0 _
  · exact IsR.zero

theorem dotp_real (b hh n x : ℕ) : IsR (dotp A0 b hh n x) := IsR.sum _ _ fun y => (qn_real h0 _ _).mul (qn_real h0 _ _)

omit h0
include h2

theorem cn_real (b hh n : ℕ) : IsR (cn A2 b hh n) := by
  unfold cn; split
  · exact h2 _
  · exact IsR.zero

include h0

theorem sRef_real (b hh n x : ℕ) : IsR (sRef A0 A2 b hh n x) := ((dotp_real h0 _ _ _ _).add (cn_real h2 _ _ _)).sub (cn_real h2 _ _ _)

theorem sKer_real (b hh n0 n x : ℕ) : IsR (sKer A0 A2 b hh n0 n x) := (dotp_real h0 _ _ _ _).add ((cn_real h2 _ _ _).sub (cn_real h2 _ _ _))

/-- The two scores of a row differ by one real, whatever the key. -/
theorem sRef_eq (b hh n0 n x : ℕ) : sRef A0 A2 b hh n x = (((sKer A0 A2 b hh n0 n x).toReal + (cn A2 b hh n - cn A2 b hh n0).toReal : ℝ) : EReal) := by
  rw [EReal.coe_add, (sKer_real h0 h2 b hh n0 n x).coe_toReal, ((cn_real h2 b hh n).sub (cn_real h2 b hh n0)).coe_toReal]
  unfold sRef sKer
  obtain ⟨a, ha⟩ := dotp_real h0 b hh n x
  obtain ⟨p, hp⟩ := cn_real h2 b hh n
  obtain ⟨q, hq⟩ := cn_real h2 b hh n0
  obtain ⟨r, hr⟩ := cn_real h2 b hh x
  rw [ha, hp, hq, hr, ← EReal.coe_add, ← EReal.coe_sub, ← EReal.coe_sub, ← EReal.coe_add, ← EReal.coe_sub, ← EReal.coe_add]
  congr 1; ring

end Finite

end Cert.Fox

end
-- ==== Proof.Blocks.lean ====
module

public import proofs.«01_k».proof.Proof.Launch
public import proofs.«01_k».proof.Proof.Rows
public import proofs.«01_k».proof.Proof.Cells
public import Idealize.ShloMosaic.Lib.Pipeline.Value

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Fox (qn pn cn qn_at pn_at cn_at)

variable (m : (ℓ : Loc nD τ sig) → Buf (Elt Ideal) ℓ) (c : Dev nD)

/-! ## The blocks a point reads, element by element -/

/-- The arguments as arrays: queries and keys, projections, cumulative log gates. -/
def A0 : (⟨2, ![32768, 2048]⟩ : Shape).Idx → EReal := m ((c.tc : Thread nD τ).loc main_arg0)
def A1 : (⟨2, ![32768, 4096]⟩ : Shape).Idx → EReal := m ((c.tc : Thread nD τ).loc main_arg1)
def A2 : (⟨4, ![2, 8, 2, 16384]⟩ : Shape).Idx → EReal := m ((c.tc : Thread nD τ).loc main_arg2)

variable (t : Fin (cfgA (F := Ideal)).N)

/-- The query block. -/
theorem iblk0_at (r : Fin 512) (d : Fin 128) : (iblk m c (0 : Fin 7) t (ix2 r d) : EReal)
    = qn (A0 m c) ((bOf (crd t) * 32 + ii (pt t)) * 512 + r.val) ((hOf (crd t)) * 128 + d.val) := by
  have h1 := bOf_lt (crd t); have h2 := hOf_lt (crd t); have h3 := ii_le (pt t)
  rw [qn_at _ _ _ (by omega) (by omega)]
  refine congrArg (A0 m c) (funext fun a => Fin.ext ?_)
  refine (Pipeline.Window.rect_emb_val ((cfgA (F := Ideal)).win (0 : Fin 7)) t (ix2 r d) a).trans ?_
  have e : ((cfgA (F := Ideal)).win (0 : Fin 7)).index t = ![bOf (crd t) * 32 + ii (pt t), hOf (crd t)] := tr0 (F := Ideal) (crd t)
  rw [e]
  fin_cases a <;> rfl

/-- The key block. -/
theorem iblk1_at (r : Fin 512) (d : Fin 128) : (iblk m c (1 : Fin 7) t (ix2 r d) : EReal)
    = qn (A0 m c) ((bOf (crd t) * 32 + jj (pt t)) * 512 + r.val) ((8 + hOf (crd t)) * 128 + d.val) := by
  have h1 := bOf_lt (crd t); have h2 := hOf_lt (crd t); have h3 := jj_le' (pt t)
  rw [qn_at _ _ _ (by omega) (by omega)]
  refine congrArg (A0 m c) (funext fun a => Fin.ext ?_)
  refine (Pipeline.Window.rect_emb_val ((cfgA (F := Ideal)).win (1 : Fin 7)) t (ix2 r d) a).trans ?_
  have e : ((cfgA (F := Ideal)).win (1 : Fin 7)).index t = ![bOf (crd t) * 32 + jj (pt t), 8 + hOf (crd t)] := tr1 (F := Ideal) (crd t)
  rw [e]
  fin_cases a <;> rfl

/-- The value block. -/
theorem iblk2_at (r : Fin 512) (d : Fin 128) : (iblk m c (2 : Fin 7) t (ix2 r d) : EReal)
    = pn (A1 m c) ((bOf (crd t) * 32 + jj (pt t)) * 512 + r.val) ((16 + hOf (crd t)) * 128 + d.val) := by
  have h1 := bOf_lt (crd t); have h2 := hOf_lt (crd t); have h3 := jj_le' (pt t)
  rw [pn_at _ _ _ (by omega) (by omega)]
  refine congrArg (A1 m c) (funext fun a => Fin.ext ?_)
  refine (Pipeline.Window.rect_emb_val ((cfgA (F := Ideal)).win (2 : Fin 7)) t (ix2 r d) a).trans ?_
  have e : ((cfgA (F := Ideal)).win (2 : Fin 7)).index t = ![bOf (crd t) * 32 + jj (pt t), 16 + hOf (crd t)] := tr2 (F := Ideal) (crd t)
  rw [e]
  fin_cases a <;> rfl

/-- The cumulative gates of the key block. -/
theorem iblk3_at (e : Fin 2) (x : Fin 512) : (iblk m c (3 : Fin 7) t (ix4 0 0 e x) : EReal)
    = cn (A2 m c) (bOf (crd t)) (2 * hOf (crd t) + e.val) (512 * jj (pt t) + x.val) := by
  have h1 := bOf_lt (crd t); have h2 := hOf_lt (crd t); have h3 := jj_le' (pt t)
  rw [cn_at _ _ _ _ (by omega) (by omega) (by omega)]
  refine congrArg (A2 m c) (funext fun a => Fin.ext ?_)
  refine (Pipeline.Window.rect_emb_val ((cfgA (F := Ideal)).win (3 : Fin 7)) t (ix4 0 0 e x) a).trans ?_
  have i : ((cfgA (F := Ideal)).win (3 : Fin 7)).index t = ![bOf (crd t), hOf (crd t), 0, jj (pt t)] := tr3 (F := Ideal) (crd t)
  rw [i]
  fin_cases a
  · show bOf (crd t) * 1 + 0 = bOf (crd t); omega
  · show hOf (crd t) * 1 + 0 = (2 * hOf (crd t) + e.val) / 2; omega
  · show 0 * 2 + e.val = (2 * hOf (crd t) + e.val) % 2; omega
  · show jj (pt t) * 512 + x.val = 512 * jj (pt t) + x.val; omega

/-- The cumulative gates of the query block. -/
theorem iblk4_at (e : Fin 2) (x : Fin 512) : (iblk m c (4 : Fin 7) t (ix4 0 0 e x) : EReal)
    = cn (A2 m c) (bOf (crd t)) (2 * hOf (crd t) + e.val) (512 * ii (pt t) + x.val) := by
  have h1 := bOf_lt (crd t); have h2 := hOf_lt (crd t); have h3 := ii_le (pt t)
  rw [cn_at _ _ _ _ (by omega) (by omega) (by omega)]
  refine congrArg (A2 m c) (funext fun a => Fin.ext ?_)
  refine (Pipeline.Window.rect_emb_val ((cfgA (F := Ideal)).win (4 : Fin 7)) t (ix4 0 0 e x) a).trans ?_
  have i : ((cfgA (F := Ideal)).win (4 : Fin 7)).index t = ![bOf (crd t), hOf (crd t), 0, ii (pt t)] := tr4 (F := Ideal) (crd t)
  rw [i]
  fin_cases a
  · show bOf (crd t) * 1 + 0 = bOf (crd t); omega
  · show hOf (crd t) * 1 + 0 = (2 * hOf (crd t) + e.val) / 2; omega
  · show 0 * 2 + e.val = (2 * hOf (crd t) + e.val) % 2; omega
  · show ii (pt t) * 512 + x.val = 512 * ii (pt t) + x.val; omega

/-- The gate block. -/
theorem iblk5_at (r : Fin 512) (d : Fin 128) : (iblk m c (5 : Fin 7) t (ix2 r d) : EReal)
    = pn (A1 m c) ((bOf (crd t) * 32 + ii (pt t)) * 512 + r.val) ((24 + hOf (crd t)) * 128 + d.val) := by
  have h1 := bOf_lt (crd t); have h2 := hOf_lt (crd t); have h3 := ii_le (pt t)
  rw [pn_at _ _ _ (by omega) (by omega)]
  refine congrArg (A1 m c) (funext fun a => Fin.ext ?_)
  refine (Pipeline.Window.rect_emb_val ((cfgA (F := Ideal)).win (5 : Fin 7)) t (ix2 r d) a).trans ?_
  have e : ((cfgA (F := Ideal)).win (5 : Fin 7)).index t = ![bOf (crd t) * 32 + ii (pt t), 24 + hOf (crd t)] := tr5 (F := Ideal) (crd t)
  rw [e]
  fin_cases a <;> rfl

end Cert.KernelIdeal.Fox

end
-- ==== Proof.State.lean ====
module

public import proofs.«01_k».proof.Proof.Blocks

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Fox (qn pn cn dotp sKer sum_lanes IsR Inv Inv0)

variable (m : (ℓ : Loc nD τ sig) → Buf (Elt Ideal) ℓ) (c : Dev nD)

/-! ## The state after every point -/

/-- The score of key `x` in row `r` of the state of batch `b`, head pair `h` and query block `I`. -/
def scr (b h I : ℕ) (r : Fin 1024) (x : ℕ) : ℝ :=
  (sKer (A0 m c) (A2 m c) b (2 * h + r.val / 512) (512 * I) (512 * I + r.val % 512) x).toReal

/-- The value of key `x` in lane `d`. -/
def vals (b h : ℕ) (d : Fin 128) (x : ℕ) : EReal := pn (A1 m c) (b * 16384 + x) (2048 + (h * 128 + d.val))

/-- The packed queries are those of query block `I`, each row's other head zeroed. -/
def Packed (b h I : ℕ) (s : St Ideal) : Prop := ∀ (r : Fin 1024) (x : Fin 128),
  (s.qs (ix2 r x) : EReal) = if r.val / 512 = x.val / 64 then qn (A0 m c) ((b * 32 + I) * 512 + r.val % 512) (h * 128 + x.val) else 0

/-- What the state holds after key block `J` of query block `I`: the packed queries, and in every row the softmax over the keys
    of the blocks up to `J`. -/
def Good (b h I J : ℕ) (s : St Ideal) : Prop := Packed m c b h I s ∧ ∀ (r : Fin 1024) (d : Fin 128),
  Inv (512 * I + r.val % 512) (scr m c b h I r) (vals m c b h d) (512 * J + 512) (s.m (ix2 r 0)) (s.l (ix2 r 0)) (s.acc (ix2 r d))

variable (h0 : ∀ y, IsR (A0 m c y)) (h2 : ∀ y, IsR (A2 m c y))
include h0 h2

/-- The kernel's score of a row against a key of the block. -/
theorem pay18_scr (b h I J : ℕ) (qs : S1024x128.Idx → Elt Ideal .bf16) (k : S512x128.Idx → Elt Ideal .bf16) (ck x4 : S1x1x2x512.Idx → Elt Ideal .f32)
    (hq : ∀ (r : Fin 1024) (x : Fin 128), (qs (ix2 r x) : EReal) = if r.val / 512 = x.val / 64 then qn (A0 m c) ((b * 32 + I) * 512 + r.val % 512) (h * 128 + x.val) else 0)
    (hk : ∀ (r : Fin 512) (d : Fin 128), (k (ix2 r d) : EReal) = qn (A0 m c) ((b * 32 + J) * 512 + r.val) ((8 + h) * 128 + d.val))
    (hck : ∀ (e : Fin 2) (x : Fin 512), (ck (ix4 0 0 e x) : EReal) = cn (A2 m c) b (2 * h + e.val) (512 * J + x.val))
    (hx4 : ∀ (e : Fin 2) (x : Fin 512), (x4 (ix4 0 0 e x) : EReal) = cn (A2 m c) b (2 * h + e.val) (512 * I + x.val))
    (r : Fin 1024) (x : Fin 512) : k0_pay18 (c0Of x4) ck qs k (ix2 r x) = ((scr m c b h I r (512 * J + x.val) : ℝ) : EReal) := by
  have hr := r.isLt
  have hs : (∑ y : Fin 128, (qs (ix2 r y) : EReal) * k (ix2 x y)) = dotp (A0 m c) b (2 * h + r.val / 512) (512 * I + r.val % 512) (512 * J + x.val) := by
    have e : ∀ y : Fin 128, (qs (ix2 r y) : EReal) * k (ix2 x y) = if r.val / 512 = y.val / 64 then
        (fun z => qn (A0 m c) ((b * 32 + I) * 512 + r.val % 512) (h * 128 + z) * qn (A0 m c) ((b * 32 + J) * 512 + x.val) ((8 + h) * 128 + z)) y.val else 0 := fun y => by
      rw [hq, hk]
      by_cases q : r.val / 512 = y.val / 64
      · rw [if_pos q, if_pos q]
      · rw [if_neg q, if_neg q, zero_mul]
    refine (Finset.sum_congr rfl fun y _ => e y).trans ((sum_lanes (r.val / 512) (by omega)
      (fun z => qn (A0 m c) ((b * 32 + I) * 512 + r.val % 512) (h * 128 + z) * qn (A0 m c) ((b * 32 + J) * 512 + x.val) ((8 + h) * 128 + z))).trans ?_)
    unfold dotp
    refine Finset.sum_congr rfl fun y _ => ?_
    rw [show (b * 32 + I) * 512 + r.val % 512 = b * 16384 + (512 * I + r.val % 512) by omega,
      show (b * 32 + J) * 512 + x.val = b * 16384 + (512 * J + x.val) by omega,
      show h * 128 + (r.val / 512 * 64 + y.val) = (2 * h + r.val / 512) * 64 + y.val by omega,
      show (8 + h) * 128 + (r.val / 512 * 64 + y.val) = 1024 + ((2 * h + r.val / 512) * 64 + y.val) by omega]
  rw [pay18_at, hs, c0Of_at, hx4, hck]
  unfold scr
  rw [(Cert.Fox.sKer_real h0 h2 _ _ _ _ _).coe_toReal]
  rfl

/-- A point takes what it enters with to what it should leave. -/
theorem good_step (t : Fin (cfgA (F := Ideal)).N) (s : St Ideal) (hP : Packed m c (bOf (crd t)) (hOf (crd t)) (ii (pt t)) s)
    (hR : Rows (ii (pt t)) (512 * jj (pt t)) (scr m c (bOf (crd t)) (hOf (crd t)) (ii (pt t))) (vals m c (bOf (crd t)) (hOf (crd t))) s) :
    Good m c (bOf (crd t)) (hOf (crd t)) (ii (pt t)) (jj (pt t))
      (if jj (pt t) = ii (pt t) then diag (iblk m c (1 : Fin 7) t) (iblk m c (2 : Fin 7) t) (iblk m c (3 : Fin 7) t) (iblk m c (4 : Fin 7) t) s
        else below (iblk m c (1 : Fin 7) t) (iblk m c (2 : Fin 7) t) (iblk m c (3 : Fin 7) t) (iblk m c (4 : Fin 7) t) s) := by
  have hσ := pay18_scr m c h0 h2 (bOf (crd t)) (hOf (crd t)) (ii (pt t)) (jj (pt t)) s.qs (iblk m c (1 : Fin 7) t) (iblk m c (3 : Fin 7) t) (iblk m c (4 : Fin 7) t)
    hP (iblk1_at m c t) (iblk3_at m c t) (iblk4_at m c t)
  have hv : ∀ (x : Fin 512) (d : Fin 128), (iblk m c (2 : Fin 7) t (ix2 x d) : EReal) = vals m c (bOf (crd t)) (hOf (crd t)) d (512 * jj (pt t) + x.val) := fun x d => by
    refine (iblk2_at m c t x d).trans ?_
    unfold vals
    rw [show (bOf (crd t) * 32 + jj (pt t)) * 512 + x.val = bOf (crd t) * 16384 + (512 * jj (pt t) + x.val) by omega,
      show (16 + hOf (crd t)) * 128 + d.val = 2048 + (hOf (crd t) * 128 + d.val) by omega]
  by_cases e : jj (pt t) = ii (pt t)
  · rw [if_pos e]
    exact ⟨hP, fun r d => rows_diag e hR hσ hv r d⟩
  · rw [if_neg e]
    exact ⟨hP, fun r d => rows_below (lt_of_le_of_ne (jj_le _) e) hR hσ hv r d⟩

/-- After point `n` the state holds what it should. -/
theorem good (n : ℕ) : ∀ (h : n < (cfgA (F := Ideal)).N), Good m c (bOf (crd ⟨n, h⟩)) (hOf (crd ⟨n, h⟩)) (ii (pt ⟨n, h⟩)) (jj (pt ⟨n, h⟩)) (stAt m c (n + 1)) := by
  induction n with
  | zero =>
    intro h
    have hj : jj (pt (F := Ideal) ⟨0, h⟩) = 0 := jj_first ⟨0, h⟩ rfl
    rw [show stAt m c (0 + 1) = _ from stAt_succ m c ⟨0, h⟩]
    unfold step enter
    rw [if_pos hj]
    refine good_step m c h0 h2 ⟨0, h⟩ _ (fun r x => ?_) ?_
    · refine (qsOf_at _ r x).trans ?_
      rw [iblk0_at]
    · rw [hj]; exact rows_start _ _ _ _
  | succ n ih =>
    intro h
    have hn : n < (cfgA (F := Ideal)).N := Nat.lt_of_succ_lt h
    rw [show stAt m c (n + 1 + 1) = _ from stAt_succ m c ⟨n + 1, h⟩]
    unfold step enter
    by_cases hj : jj (pt (F := Ideal) ⟨n + 1, h⟩) = 0
    · rw [if_pos hj]
      refine good_step m c h0 h2 ⟨n + 1, h⟩ _ (fun r x => ?_) ?_
      · refine (qsOf_at _ r x).trans ?_
        rw [iblk0_at]
      · rw [hj]; exact rows_start _ _ _ _
    · rw [if_neg hj]
      have g := ih hn
      have c2 := crd2 (F := Ideal) ⟨n + 1, h⟩; have c1 := crd1 (F := Ideal) ⟨n + 1, h⟩; have c0 := crd0 (F := Ideal) ⟨n + 1, h⟩
      have d2 := crd2 (F := Ideal) ⟨n, hn⟩; have d1 := crd1 (F := Ideal) ⟨n, hn⟩; have d0 := crd0 (F := Ideal) ⟨n, hn⟩
      dsimp only at c2 c1 c0 d2 d1 d0
      have hm : (n + 1) % 528 ≠ 0 := fun q => hj (by
        have : pt (F := Ideal) ⟨n + 1, h⟩ = 0 := Fin.ext (c2.trans q)
        rw [this]; exact first_pair.2)
      have nx := next_pair (pt (F := Ideal) ⟨n, hn⟩) (pt (F := Ideal) ⟨n + 1, h⟩) (by rw [c2, d2]; omega)
      have hne : jj (pt (F := Ideal) ⟨n, hn⟩) ≠ ii (pt (F := Ideal) ⟨n, hn⟩) := fun q => hj (nx.2 q).2
      have e1 := (nx.1 hne).1; have e2 := (nx.1 hne).2
      have eh : hOf (crd (F := Ideal) ⟨n, hn⟩) = hOf (crd (F := Ideal) ⟨n + 1, h⟩) := by rw [c1, d1]; omega
      have eb : bOf (crd (F := Ideal) ⟨n, hn⟩) = bOf (crd (F := Ideal) ⟨n + 1, h⟩) := by rw [c0, d0]; omega
      rw [eh, eb, ← e1] at g
      refine good_step m c h0 h2 ⟨n + 1, h⟩ _ g.1 fun r d => Or.inr ?_
      have := g.2 r d
      rw [e2, Nat.mul_succ]
      exact this

end Cert.KernelIdeal.Fox

end
-- ==== Proof.Reference.lean ====
module

public import proofs.«01_k».proof.Proof.Gen.ReferenceIdeal.Run
public import proofs.«01_k».proof.Proof.Cells
public import Idealize.ShloMosaic.Lib.Pointwise

@[expose] public section

set_option maxRecDepth 16384

noncomputable section

/-!
# The reference, element by element

The reference's term is cut into its own steps (mask, scores, masked scores, row maximum, exponentials, the rest), and each of
them is read at an index.
-/

namespace Cert.ReferenceIdeal.Fox

open Cert.ReferenceIdeal Cert.ReferenceIdeal.Gen
open Idealize.ShloMosaic
open Idealize.ShloMosaic.TcCoe
open Cert.Fox (neg_inf select_sge reduce_max_real)

/-- Which keys a query sees. -/
def mask : IVec S16384x16384 1 := cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))

/-- The scores: query by key, plus the query's cumulative log gate, minus the key's. -/
def score (qk : FVec Ideal S32768x2048 .bf16) (cum : FVec Ideal S2x8x2x16384 .f32) : FVec Ideal S2x16x16384x16384 .f32 :=
  subf (addf (Host.dotGeneral dot_S2x16x16384x64_S2x16x16384x64_S2x16x16384x16384_3_3_2_2_01_01 none (transpose S2x16x16384x64 [0, 2, 1, 3] (shapeCast _ (extf .f32 (extractStridedSlice S32768x1024 ![0, 0] qk slices_S32768x2048_S32768x1024_0_0) bitsLt_bf16_f32) shapeCasts_S32768x1024_S2x16384x16x64) transposes_S2x16384x16x64_S2x16x16384x64_0_2_1_3) (transpose S2x16x16384x64 [0, 2, 1, 3] (shapeCast _ (extf .f32 (extractStridedSlice S32768x1024 ![0, 1024] qk slices_S32768x2048_S32768x1024_0_1024) bitsLt_bf16_f32) shapeCasts_S32768x1024_S2x16384x16x64) transposes_S2x16384x16x64_S2x16x16384x64_0_2_1_3)) (broadcastInDim S2x16x16384x16384 ![0, 1, 2, 3] bcast_S2x16x16384x1_S2x16x16384x16384_0_1_2_3 (broadcastInDim S2x16x16384x1 ![0, 1, 2] bcast_S2x16x16384_S2x16x16384x1_0_1_2 (shapeCast _ cum shapeCasts_S2x8x2x16384_S2x16x16384)))) (broadcastInDim S2x16x16384x16384 ![0, 1, 2, 3] bcast_S2x16x1x16384_S2x16x16384x16384_0_1_2_3 (broadcastInDim S2x16x1x16384 ![0, 1, 3] bcast_S2x16x16384_S2x16x1x16384_0_1_3 (shapeCast _ cum shapeCasts_S2x8x2x16384_S2x16x16384)))

/-- The scores, the unseen keys' replaced. -/
def masked (s : FVec Ideal S2x16x16384x16384 .f32) : FVec Ideal S2x16x16384x16384 .f32 :=
  select (broadcastInDim S2x16x16384x16384 ![2, 3] bcast_S16384x16384_S2x16x16384x16384_2_3 mask) s (broadcastInDim S2x16x16384x16384 ![] bcast_S_S2x16x16384x16384 (id (constant S_ .f32 0xFF800000#32)))

/-- The row maximum. -/
def top (s : FVec Ideal S2x16x16384x16384 .f32) : FVec Ideal S2x16x16384 .f32 :=
  maximumf (broadcastInDim S2x16x16384 ![] bcast_S_S2x16x16384 (constant S_ .f32 0xFF800000#32)) (Host.reduce FloatOps.maximumf s (constant S_ .f32 0xFF800000#32) reducesTo_S2x16x16384x16384_S2x16x16384_d3 h_S_)

/-- The exponentials of the scores off the row's offset. -/
def expo (s : FVec Ideal S2x16x16384x16384 .f32) (t : FVec Ideal S2x16x16384 .f32) : FVec Ideal S2x16x16384x16384 .f32 :=
  Host.exp (subf s (broadcastInDim S2x16x16384x16384 ![0, 1, 2, 3] bcast_S2x16x16384x1_S2x16x16384x16384_0_1_2_3 (broadcastInDim S2x16x16384x1 ![0, 1, 2] bcast_S2x16x16384_S2x16x16384x1_0_1_2 t)))

/-- The values weighted by the exponentials over their sum, and gated. -/
def weigh (proj : FVec Ideal S32768x4096 .bf16) (e : FVec Ideal S2x16x16384x16384 .f32) : FVec Ideal S32768x1024 .bf16 :=
  truncf .bf16 (mulf (shapeCast _ (transpose S2x16384x16x64 [0, 2, 1, 3] (Host.dotGeneral dot_S2x16x16384x16384_S2x16x16384x64_S2x16x16384x64_3_2_2_3_01_01 none (Host.divf e (broadcastInDim S2x16x16384x16384 ![0, 1, 2, 3] bcast_S2x16x16384x1_S2x16x16384x16384_0_1_2_3 (broadcastInDim S2x16x16384x1 ![0, 1, 2] bcast_S2x16x16384_S2x16x16384x1_0_1_2 (Host.reduceAdd e (constant S_ .f32 0x00000000#32) reducesTo_S2x16x16384x16384_S2x16x16384_d3 h_S_)))) (transpose S2x16x16384x64 [0, 2, 1, 3] (shapeCast _ (extf .f32 (extractStridedSlice S32768x1024 ![0, 2048] proj slices_S32768x4096_S32768x1024_0_2048) bitsLt_bf16_f32) shapeCasts_S32768x1024_S2x16384x16x64) transposes_S2x16384x16x64_S2x16x16384x64_0_2_1_3)) transposes_S2x16x16384x64_S2x16384x16x64_0_2_1_3) shapeCasts_S2x16384x16x64_S32768x1024) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 3072] proj slices_S32768x4096_S32768x1024_0_3072) bitsLt_bf16_f32)))))) bitsLt_bf16_f32

/-- The reference's result is these steps in turn. -/
theorem res_eq (m : (ℓ : Loc nD τ sig) → Buf (Elt Ideal) ℓ) (c : Dev nD) :
    Value.res_out0 m c = weigh (m ((c.tc : Thread nD τ).loc main_arg1))
      (expo (masked (score (m ((c.tc : Thread nD τ).loc main_arg0)) (m ((c.tc : Thread nD τ).loc main_arg2))))
        (top (masked (score (m ((c.tc : Thread nD τ).loc main_arg0)) (m ((c.tc : Thread nD τ).loc main_arg2)))))) := rfl

/-- A score at an index. Head `h` has lanes `64 h` to `64 h + 63`. -/
theorem score_at (qk : FVec Ideal S32768x2048 .bf16) (cum : FVec Ideal S2x8x2x16384 .f32) (b : Fin 2) (h : Fin 16) (i j : Fin 16384) :
    score qk cum (ix4 b h i j) =
      (∑ x : Fin 64, qk (ix2 ⟨b.val * 16384 + i.val, by omega⟩ ⟨h.val * 64 + x.val, by omega⟩)
          * qk (ix2 ⟨b.val * 16384 + j.val, by omega⟩ ⟨1024 + (h.val * 64 + x.val), by omega⟩))
        + cum (ix4 b ⟨h.val / 2, by omega⟩ ⟨h.val % 2, by omega⟩ i) - cum (ix4 b ⟨h.val / 2, by omega⟩ ⟨h.val % 2, by omega⟩ j) := by
  pointwise [score]

/-- A masked score at an index. -/
theorem masked_at (s : FVec Ideal S2x16x16384x16384 .f32) (b : Fin 2) (h : Fin 16) (i j : Fin 16384) :
    masked s (ix4 b h i j) = if j.val ≤ i.val then s (ix4 b h i j) else ⊥ := by
  pointwise [masked, mask]
  rw [show (id (constant (F := Ideal) S_ FTy.f32 4286578688#32) ix0 : EReal) = ⊥ from neg_inf]
  exact select_sge i.val j.val (by omega) (by omega) _ _

/-- A row maximum takes in every key of the row. -/
theorem drop_at (b : Fin 2) (h : Fin 16) (i j : Fin 16384) :
    (reducesTo_S2x16x16384x16384_S2x16x16384_d3 : S2x16x16384x16384.ReducesTo [3] S2x16x16384).drop (ix4 b h i j) = ix3 b h i := by
  funext a
  refine Fin.ext ?_
  fin_cases a
  · exact Shape.ReducesTo.drop_apply_val_of_eq (s := S2x16x16384x16384) (t := S2x16x16384) (axes := [3]) _ _ 0 0 (by decide) (by decide)
  · exact Shape.ReducesTo.drop_apply_val_of_eq (s := S2x16x16384x16384) (t := S2x16x16384) (axes := [3]) _ _ 1 1 (by decide) (by decide)
  · exact Shape.ReducesTo.drop_apply_val_of_eq (s := S2x16x16384x16384) (t := S2x16x16384) (axes := [3]) _ _ 2 2 (by decide) (by decide)

/-- The row maximum is a real where the scores are. -/
theorem top_real (s : FVec Ideal S2x16x16384x16384 .f32) (b : Fin 2) (h : Fin 16) (i : Fin 16384) (ht : ∀ y, s y ≠ (⊤ : EReal))
    (hb : s (ix4 b h i 0) ≠ (⊥ : EReal)) : ∃ M : ℝ, top s (ix3 b h i) = (M : EReal) := by
  obtain ⟨M, hM⟩ := reduce_max_real s (constant (F := Ideal) S_ .f32 0xFF800000#32) reducesTo_S2x16x16384x16384_S2x16x16384_d3 h_S_ (ix3 b h i)
    neg_inf ht (ix4 b h i 0) (drop_at b h i 0) hb
  refine ⟨M, ?_⟩
  unfold top
  rw [maximumf_apply, hM]
  exact (congrArg (max · (M : EReal)) neg_inf).trans (max_eq_right bot_le)

/-- An exponential at an index. -/
theorem expo_at (s : FVec Ideal S2x16x16384x16384 .f32) (t : FVec Ideal S2x16x16384 .f32) (b : Fin 2) (h : Fin 16) (i j : Fin 16384) :
    expo s t (ix4 b h i j) = Ideal.exp (s (ix4 b h i j) - t (ix3 b h i)) := by
  pointwise [expo]

/-- The result at an index, from the exponentials. -/
theorem weigh_at (proj : FVec Ideal S32768x4096 .bf16) (e : FVec Ideal S2x16x16384x16384 .f32) (i : Fin 32768) (j : Fin 1024) :
    weigh proj e (ix2 i j) =
      (∑ x : Fin 16384, Ideal.div (e (ix4 ⟨i.val / 16384, by omega⟩ ⟨j.val / 64, by omega⟩ ⟨i.val % 16384, by omega⟩ x))
            (∑ y : Fin 16384, e (ix4 ⟨i.val / 16384, by omega⟩ ⟨j.val / 64, by omega⟩ ⟨i.val % 16384, by omega⟩ y))
          * proj (ix2 ⟨i.val / 16384 * 16384 + x.val, by omega⟩ ⟨2048 + j.val, by omega⟩))
        * Ideal.div 1 (1 + Ideal.exp (-proj (ix2 i ⟨3072 + j.val, by omega⟩))) := by
  pointwise [weigh]

/-- A score, by plain numbers. -/
theorem score_sRef (A0 : FVec Ideal S32768x2048 .bf16) (A2 : FVec Ideal S2x8x2x16384 .f32) (b : Fin 2) (h : Fin 16) (i j : Fin 16384) :
    score A0 A2 (ix4 b h i j) = Cert.Fox.sRef A0 A2 b.val h.val i.val j.val := by
  rw [score_at]
  unfold Cert.Fox.sRef Cert.Fox.dotp
  rw [Cert.Fox.cn_at A2 b.val h.val i.val b.isLt h.isLt i.isLt, Cert.Fox.cn_at A2 b.val h.val j.val b.isLt h.isLt j.isLt]
  refine congrArg (fun z : EReal => z + _ - _) (Finset.sum_congr rfl fun x _ => ?_)
  rw [Cert.Fox.qn_at A0 _ _ (by omega) (by omega), Cert.Fox.qn_at A0 _ _ (by omega) (by omega)]

/-- The reference's result from its arguments. -/
def refOut (A0 : FVec Ideal S32768x2048 .bf16) (A1 : FVec Ideal S32768x4096 .bf16) (A2 : FVec Ideal S2x8x2x16384 .f32) : FVec Ideal S32768x1024 .bf16 :=
  weigh A1 (expo (masked (score A0 A2)) (top (masked (score A0 A2))))

/-- The reference's result at row `16384 b + n` and a column of head `hh`: the softmax of the seen keys' scores, over the values,
    gated. The offset of the exponentials is some real `M`. -/
theorem ref_at (A0 : FVec Ideal S32768x2048 .bf16) (A1 : FVec Ideal S32768x4096 .bf16) (A2 : FVec Ideal S2x8x2x16384 .f32)
    (h0 : ∀ y, Cert.Fox.IsR (A0 y)) (h2 : ∀ y, Cert.Fox.IsR (A2 y)) (b : Fin 2) (hh : Fin 16) (n : Fin 16384) (i : Fin 32768) (j : Fin 1024)
    (hi : i.val = b.val * 16384 + n.val) (hj : j.val / 64 = hh.val) :
    ∃ M : ℝ, refOut A0 A1 A2 (ix2 i j) =
      (∑ x : Fin 16384, Ideal.div (Ideal.exp ((if x.val ≤ n.val then Cert.Fox.sRef A0 A2 b.val hh.val n.val x.val else ⊥) - (M : EReal)))
          (∑ y : Fin 16384, Ideal.exp ((if y.val ≤ n.val then Cert.Fox.sRef A0 A2 b.val hh.val n.val y.val else ⊥) - (M : EReal)))
          * Cert.Fox.pn A1 (b.val * 16384 + x.val) (2048 + j.val))
        * Ideal.div 1 (1 + Ideal.exp (-Cert.Fox.pn A1 i.val (3072 + j.val))) := by
  have eta : ∀ y : S2x16x16384x16384.Idx, ∃ (a : Fin 2) (b : Fin 16) (c d : Fin 16384), y = ix4 a b c d := fun y => ⟨y 0, y 1, y 2, y 3, eq_ix4 y⟩
  have hr : ∀ y, Cert.Fox.IsR (score A0 A2 y) := fun y => by
    obtain ⟨a, b, c, d, rfl⟩ := eta y
    rw [score_sRef]; exact Cert.Fox.sRef_real h0 h2 _ _ _ _
  have ht : ∀ y, masked (score A0 A2) y ≠ (⊤ : EReal) := fun y => by
    obtain ⟨a, b, c, d, rfl⟩ := eta y
    rw [masked_at]
    split
    · exact (hr _).ne_top
    · exact bot_ne_top
  have hb : masked (score A0 A2) (ix4 b hh n 0) ≠ (⊥ : EReal) := by
    rw [masked_at]
    split
    · exact (hr _).ne_bot
    · exact absurd (Nat.zero_le _) ‹_›
  obtain ⟨M, hM⟩ := top_real (masked (score A0 A2)) b hh n ht hb
  refine ⟨M, ?_⟩
  have hn := n.isLt
  have eb : (⟨i.val / 16384, by omega⟩ : Fin 2) = b := Fin.ext (by show i.val / 16384 = b.val; omega)
  have eh : (⟨j.val / 64, by omega⟩ : Fin 16) = hh := Fin.ext hj
  have en : (⟨i.val % 16384, by omega⟩ : Fin 16384) = n := Fin.ext (by show i.val % 16384 = n.val; omega)
  have ex : ∀ x : Fin 16384, expo (masked (score A0 A2)) (top (masked (score A0 A2))) (ix4 b hh n x)
      = Ideal.exp ((if x.val ≤ n.val then Cert.Fox.sRef A0 A2 b.val hh.val n.val x.val else ⊥) - (M : EReal)) := fun x => by
    rw [expo_at, hM, masked_at, score_sRef]
  have hp : ∀ x : Fin 16384, Cert.Fox.pn A1 (b.val * 16384 + x.val) (2048 + j.val)
      = A1 (ix2 ⟨i.val / 16384 * 16384 + x.val, by omega⟩ ⟨2048 + j.val, by omega⟩) := fun x => by
    have er : b.val * 16384 + x.val = i.val / 16384 * 16384 + x.val := by omega
    rw [er]; exact Cert.Fox.pn_at A1 _ _ (by omega) (by omega)
  have hg : Cert.Fox.pn A1 i.val (3072 + j.val) = A1 (ix2 i ⟨3072 + j.val, by omega⟩) := Cert.Fox.pn_at A1 _ _ i.isLt (by omega)
  unfold refOut
  rw [weigh_at, eb, eh, en]
  simp only [ex, hp, hg]

end Cert.ReferenceIdeal.Fox

end
-- ==== Proof.Value.lean ====
module

public import proofs.«01_k».proof.Proof.State
public import proofs.«01_k».proof.Proof.Reference
public import Idealize.ShloMosaic.Lib.Pipeline.ValueKit

@[expose] public section

set_option maxRecDepth 16384

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Fox (qn pn cn sRef sKer msk IsR Inv)
open Cert.ReferenceIdeal.Fox (refOut ref_at)

variable (m : (ℓ : Loc nD τ sig) → Buf (Elt Ideal) ℓ) (c : Dev nD)

/-! ## The kernel's result is the reference's -/

/-- The reference's result from the kernel's arguments. -/
def ref : (⟨2, ![32768, 1024]⟩ : Shape).Idx → EReal := refOut (A0 m c) (A1 m c) (A2 m c)

/-- The row and the column of the result at element `(r, d)` of point `t`'s block. -/
theorem row_lt (t : Fin (cfgA (F := Ideal)).N) (r : Fin 512) : (bOf (crd t) * 32 + ii (pt t)) * 512 + r.val < 32768 := by
  have h1 := bOf_lt (crd t); have h3 := ii_le (pt t); omega
theorem col_lt (t : Fin (cfgA (F := Ideal)).N) (d : Fin 128) : hOf (crd t) * 128 + d.val < 1024 := by
  have h2 := hOf_lt (crd t); omega

/-- The block written after a pair on the diagonal is the reference's. -/
theorem out_at (h0 : ∀ y, IsR (A0 m c y)) (h2 : ∀ y, IsR (A2 m c y)) (t : Fin (cfgA (F := Ideal)).N) (hj : jj (pt t) = ii (pt t)) (r : Fin 512) (d : Fin 128) :
    (outOf (iblk m c (5 : Fin 7) t) (stAt m c (t.val + 1)) (ix2 r d) : EReal) = ref m c (ix2 ⟨_, row_lt t r⟩ ⟨_, col_lt t d⟩) := by
  have b1 := bOf_lt (crd t); have b2 := hOf_lt (crd t); have b3 := ii_le (pt t)
  have gt : Good m c (bOf (crd t)) (hOf (crd t)) (ii (pt t)) (jj (pt t)) (stAt m c (t.val + 1)) := good m c h0 h2 t.val t.isLt
  have g := gt.2 (rowOf r d) d
  rw [outOf_at, iblk5_at]
  clear gt
  generalize stAt m c (t.val + 1) = s at g ⊢
  obtain ⟨M, hM⟩ := ref_at (A0 m c) (A1 m c) (A2 m c) h0 h2 ⟨bOf (crd t), b1⟩ ⟨2 * hOf (crd t) + d.val / 64, by omega⟩ ⟨512 * ii (pt t) + r.val, by omega⟩
    ⟨_, row_lt t r⟩ ⟨_, col_lt t d⟩ (by show (bOf (crd t) * 32 + ii (pt t)) * 512 + r.val = bOf (crd t) * 16384 + (512 * ii (pt t) + r.val); omega)
    (by show (hOf (crd t) * 128 + d.val) / 64 = 2 * hOf (crd t) + d.val / 64; omega)
  unfold ref
  rw [hM]
  have er : (rowOf r d).val % 512 = r.val := by show (512 * (d.val / 64) + r.val) % 512 = r.val; omega
  have eh : (rowOf r d).val / 512 = d.val / 64 := by show (512 * (d.val / 64) + r.val) / 512 = d.val / 64; omega
  have f := Cert.Fox.final (N' := 16384) g (by have hr := r.isLt; show 512 * ii (pt t) + (rowOf r d).val % 512 < 512 * jj (pt t) + 512; rw [er, hj]; omega)
    (by rw [er]; omega)
    (cn (A2 m c) (bOf (crd t)) (2 * hOf (crd t) + d.val / 64) (512 * ii (pt t) + r.val) - cn (A2 m c) (bOf (crd t)) (2 * hOf (crd t) + d.val / 64) (512 * ii (pt t))).toReal
    (fun x => if x.val ≤ 512 * ii (pt t) + r.val then sRef (A0 m c) (A2 m c) (bOf (crd t)) (2 * hOf (crd t) + d.val / 64) (512 * ii (pt t) + r.val) x.val else ⊥)
    (fun x => by
      unfold msk scr
      rw [er, eh]
      by_cases q : x.val ≤ 512 * ii (pt t) + r.val
      · rw [if_pos q, if_pos q]; exact Cert.Fox.sRef_eq h0 h2 _ _ _ _ _
      · rw [if_neg q, if_neg q])
    M (fun x => pn (A1 m c) (bOf (crd t) * 16384 + x.val) (2048 + (hOf (crd t) * 128 + d.val)))
    (fun x => rfl)
  rw [f, zero_sub]
  rw [show (24 + hOf (crd t)) * 128 + d.val = 3072 + (hOf (crd t) * 128 + d.val) by omega]

/-- Every pair on the diagonal is in the list. -/
theorem diag_pair : ∀ I : Fin 32, ∃ p : Fin 528, ii p = I.val ∧ jj p = I.val := by
  have h : ∀ I : Fin 32, ii ⟨(I.val * I.val + 3 * I.val) / 2, by have := I.isLt; have := Nat.mul_le_mul (Nat.le_of_lt_succ I.isLt) (Nat.le_of_lt_succ I.isLt); omega⟩ = I.val
      ∧ jj ⟨(I.val * I.val + 3 * I.val) / 2, by have := I.isLt; have := Nat.mul_le_mul (Nat.le_of_lt_succ I.isLt) (Nat.le_of_lt_succ I.isLt); omega⟩ = I.val := by
    decide +kernel
  exact fun I => ⟨_, h I⟩

/-- The blocks written cover the result. -/
theorem cover (x : (⟨2, ![32768, 1024]⟩ : Shape).Idx) : ∃ t : Fin (cfgA (F := Ideal)).N,
    ((cfgA (F := Ideal)).win (6 : Fin 7)).flush t = true ∧ x ∈ (((cfgA (F := Ideal)).win (6 : Fin 7)).blk t).view.set := by
  have x0 : (x 0).val < 32768 := (x 0).isLt
  have x1 : (x 1).val < 1024 := (x 1).isLt
  obtain ⟨p, hi, hj⟩ := diag_pair ⟨(x 0).val % 16384 / 512, by omega⟩
  have hp := p.isLt
  have hN := N_A (F := Ideal)
  let t : Fin (cfgA (F := Ideal)).N := ⟨(x 0).val / 16384 * 4224 + (x 1).val / 128 * 528 + p.val, by rw [hN]; omega⟩
  have c2 : pt t = p := Fin.ext ((crd2 t).trans (by show ((x 0).val / 16384 * 4224 + (x 1).val / 128 * 528 + p.val) % 528 = p.val; omega))
  have c1 : hOf (crd t) = (x 1).val / 128 := (crd1 t).trans (by show ((x 0).val / 16384 * 4224 + (x 1).val / 128 * 528 + p.val) / 528 % 8 = _; omega)
  have c0 : bOf (crd t) = (x 0).val / 16384 := (crd0 t).trans (by show ((x 0).val / 16384 * 4224 + (x 1).val / 128 * 528 + p.val) / 4224 % 2 = _; omega)
  refine ⟨t, (flush6 t).trans (decide_eq_true ?_), ?_⟩
  · rw [show pOf (crd t) = p from c2, hi, hj]
  · have e : ((cfgA (F := Ideal)).win (6 : Fin 7)).index t = ![bOf (crd t) * 32 + ii (pt t), hOf (crd t)] := tr6 (F := Ideal) (crd t)
    refine (Pipeline.Window.emb_mem_blk_iff ((cfgA (F := Ideal)).win (6 : Fin 7)) t x).mpr fun a => ?_
    rw [e, c2, c1, c0, hi]
    match a with
    | ⟨0, _⟩ =>
      show ((x 0).val / 16384 * 32 + (x 0).val % 16384 / 512) * 512 ≤ (x 0).val ∧ (x 0).val < ((x 0).val / 16384 * 32 + (x 0).val % 16384 / 512) * 512 + 512
      omega
    | ⟨1, _⟩ =>
      show (x 1).val / 128 * 128 ≤ (x 1).val ∧ (x 1).val < (x 1).val / 128 * 128 + 128
      omega

/-- What the pipeline leaves in the result's array is the reference's result. -/
theorem result_eq (h0 : ∀ y, IsR (A0 m c y)) (h2 : ∀ y, IsR (A2 m c y)) : result m c = ref m c := by
  unfold result
  refine (dats m 0 c).arrAt_eq_of_emb (6 : Fin 7) (ref m c) (fun t hf y => ?_) cover
  have hj : jj (pt t) = ii (pt t) := of_decide_eq_true ((flush6 t).symm.trans hf)
  have eta : ∀ y : S512x128.Idx, ∃ (r : Fin 512) (d : Fin 128), y = ix2 r d := fun y => ⟨y 0, y 1, eq_ix2 y⟩
  obtain ⟨r, d, rfl⟩ := eta y
  refine (out_at m c h0 h2 t hj r d).trans (congrArg (ref m c) (funext fun a => Fin.ext ?_))
  refine Eq.trans ?_ (Pipeline.Window.rect_emb_val ((cfgA (F := Ideal)).win (6 : Fin 7)) t (ix2 r d) a).symm
  have e : ((cfgA (F := Ideal)).win (6 : Fin 7)).index t = ![bOf (crd t) * 32 + ii (pt t), hOf (crd t)] := tr6 (F := Ideal) (crd t)
  rw [e]
  fin_cases a <;> rfl

end Cert.KernelIdeal.Fox

end
-- ==== Proof.Finite.lean ====
module

public import proofs.«01_k».proof.Pre_scores_finite
public import proofs.«01_k».proof.Proof.Softmax
public import Idealize.ShloMosaic.Lib.ReduceAll
public import Idealize.ShloMosaic.Lib.Affine

@[expose] public section

set_option maxRecDepth 16384

noncomputable section

/-!
# What the precondition says

Its shape facts, and that where it holds every query, key and cumulative log gate is a real.
-/

namespace Cert.Fox

open Idealize.ShloMosaic

/-- The precondition's shape facts. -/
theorem pre_facts : Cert.Pre_scores_finite.Facts where
  bcast_S_S32768x2048 := by decide
  reducesTo_S32768x2048_S_d0_1 := by decide
  h_S_ := by decide
  bcast_S_S2x8x2x16384 := by decide
  reducesTo_S2x8x2x16384_S_d0_1_2_3 := by decide

/-- The words of infinity are `⊤`. -/
theorem inf_f32 : Ideal.ofBits FTy.f32 0x7F800000#32 = ⊤ := by simp [Ideal.ofBits, Ideal.ieee]
theorem inf_bf16 : Ideal.ofBits FTy.bf16 0x7F80#16 = ⊤ := by simp [Ideal.ofBits, Ideal.ieee]

/-- An extended real whose absolute value is below `⊤` is a real. -/
theorem IsR.of_abs {x y : EReal} (hy : y = ⊤) (h : Ideal.cmp .olt (max x (-x)) y = 1#1) : IsR x := by
  subst hy
  have hlt : max x (-x) < ⊤ := by
    by_contra hn
    have e : Ideal.cmp .olt (max x (-x)) ⊤ = BitVec.ofBool (decide (max x (-x) < ⊤)) := rfl
    rw [e, decide_eq_false hn] at h
    exact absurd h (by decide)
  refine IsR.of_ne (fun e => ?_) (fun e => ?_)
  · rw [e] at hlt; exact absurd (lt_of_le_of_lt (le_max_left _ _) hlt) (lt_irrefl _)
  · rw [e] at hlt; exact absurd (lt_of_le_of_lt (le_max_right _ _) hlt) (by rw [EReal.neg_bot]; exact lt_irrefl _)

/-- Where the precondition holds, the queries and keys and the cumulative log gates are reals. -/
theorem reals_of_pre [hF : Cert.Pre_scores_finite.Facts] (a0 : FVec Ideal Cert.Pre_scores_finite.S32768x2048 .bf16) (a1 : FVec Ideal Cert.Pre_scores_finite.S32768x4096 .bf16)
    (a2 : FVec Ideal Cert.Pre_scores_finite.S2x8x2x16384 .f32) (h : Cert.Pre_scores_finite.fn (F := Ideal) a0 a1 a2 = fun _ => 1#1) :
    (∀ y, IsR (a0 y)) ∧ ∀ y, IsR (a2 y) := by
  haveI : Subsingleton Cert.Pre_scores_finite.S_.Idx := ⟨fun a b => funext fun i => absurd i.isLt (Nat.not_lt_zero _)⟩
  have h' := IntOp.andi_eq_one.1 (congrFun h ix0)
  refine ⟨fun y => ?_, fun y => ?_⟩
  · exact IsR.of_abs inf_bf16 (Host.reduce_andi_all _ _ _ _ _ h'.1 y)
  · exact IsR.of_abs inf_f32 (Host.reduce_andi_all _ _ _ _ _ h'.2 y)

end Cert.Fox

end
-- ==== Proof.Experts.Run.lean ====
module

public import proofs.«01_k».proof.Proof.Gen.Kernel2Ideal.Skeleton
public import proofs.«01_k».proof.Proof.Gen.Kernel2Ideal.Launch
public import Idealize.ShloMosaic.Lib.Tactic
public import Idealize.ShloMosaic.Lib.Ring
public import Idealize.ShloMosaic.Lib.Writes
public import Idealize.ShloMosaic.Lib.Exec
public import Idealize.ShloMosaic.Lib.Affine
public import Idealize.ShloMosaic.Lib.VecWindow
public import Idealize.ShloMosaic.Lib.Pointwise.Index
public import Idealize.ShloMosaic.Lib.Pipeline.Quiescent
public import Idealize.ShloMosaic.Lib.Pipeline.TableIdle
public import Idealize.ShloMosaic.Lib.Pipeline.FrameBody
public import Idealize.ShloMosaic.Lib.Pipeline.Frame

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one block of rows computes

The kernel carries the two weight matrices of the current block's expert, in the narrow format. -/

/-- What is carried: the gate-and-up matrix and the down matrix. -/
structure St (F : FTy → Type) where
  /-- the gate-and-up matrix -/
  wgu : S1024x2048.Idx → Elt F .bf16
  /-- the down matrix -/
  wd : S1024x1024.Idx → Elt F .bf16

/-- The two matrices of one expert, as loaded. -/
def load (x1 : S1x1024x2048.Idx → Elt F .f32) (x3 : S1x1024x1024.Idx → Elt F .f32) : St F := ⟨k0_pay1 x1, k0_pay2 x3⟩

/-- The block of rows written, from the rows, the two biases and the matrices. -/
def outOf (x0 : S256x1024.Idx → Elt F .f32) (x2 : S1x1x2048.Idx → Elt F .f32) (x4 : S1x1x1024.Idx → Elt F .f32) (s : St F) :
    S256x1024.Idx → Elt F .f32 := k0_pay4 x0 s.wgu x2 s.wd x4

abbrev beM : Memref sig .tc .smem S544 .i32 := Memref.whole main_arg1
abbrev nuM : Memref sig .tc .smem S1 .i32 := Memref.whole main_arg2
abbrev guM : Memref sig .tc .vmem S1024x2048 .bf16 := Memref.whole cc0_scratch0
abbrev dnM : Memref sig .tc .vmem S1024x1024 .bf16 := Memref.whole cc0_scratch1

/-- The expert of the block. -/
abbrev beW (i : grid0.Coords) (T : S544.Idx → Elt F .i32) : Elt F .i32 :=
  View.readAt (Elt F) beM.view (Rect.unit (s := S544) (k0_off1 i) S1.size (k0_off1_inb i)).toLoadRect T (Shape.Idx.first (numel1_S1.symm ▸ Nat.one_pos))
/-- The expert of the block before (of the first block, for the first). -/
abbrev bpW (i : grid0.Coords) (T : S544.Idx → Elt F .i32) : Elt F .i32 :=
  View.readAt (Elt F) beM.view (Rect.unit (s := S544) (k0_off2 i) S1.size (k0_off2_inb i)).toLoadRect T (Shape.Idx.first (numel1_S1.symm ▸ Nat.one_pos))
/-- The number of blocks used. -/
abbrev nuW (T : S1.Idx → Elt F .i32) : Elt F .i32 :=
  View.readAt (Elt F) nuM.view (Rect.unit (s := S1) ![0] S1.size inb_S1_S1_0).toLoadRect T (Shape.Idx.first (numel1_S1.symm ▸ Nat.one_pos))

/-- Whether the weights are loaded at a block: the block is used, and it is the first or its expert is not the one before's. -/
abbrev loads (i : grid0.Coords) (b p n : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne b p))) : BitVec 32) 0#32

/-- A store of a whole buffer leaves the payload. -/
theorem writes_whole (b : Ref sig .tc) (f : b.ty.Contents (Elt F)) {off : Fin b.ty.shape.rank → ℕ} (inb : ∀ a, off a + b.ty.shape.size a ≤ b.ty.shape.size a)
    (w : b.ty.shape.Idx → Elt F b.ty.elt) (L : List (View.Piece (Elt F) b.ty.shape b.ty.elt)) :
    (Memref.whole b).view.writes (Elt F) f (⟨Rect.unit off b.ty.shape.size inb, w⟩ :: L) = w :=
  (View.read_whole (Val := Elt F) _ _).symm.trans (View.read_writes_full (Memref.whole b).view f inb w L)

/-- The value the output buffer holds after one whole store. -/
theorem read_out (v : View sig .tc .vmem S256x1024 .f32) (f : v.ty.Contents (Elt F)) (w : S256x1024.Idx → Elt F .f32) :
    v.read (Elt F) (v.writes (Elt F) f [⟨Rect.unit (s := S256x1024) ![0, 0] S256x1024.size inb_S256x1024_S256x1024_0_0, w⟩]) = w :=
  View.read_writes_full v f _ w []

/-- A load of a whole buffer. -/
theorem readAt_whole (b : Ref sig .tc) (f : b.ty.Contents (Elt F)) {off : Fin b.ty.shape.rank → ℕ} (inb : ∀ a, off a + b.ty.shape.size a ≤ b.ty.shape.size a) :
    (Memref.whole b).view.readAt (Elt F) (Rect.unit off b.ty.shape.size inb).toLoadRect f = f :=
  (View.readAt_full (Memref.whole b).view f inb).trans (View.read_whole (Val := Elt F) _ _)

/-- What a point holds: the five input blocks, the two tables, the output block, and the carried matrices. -/
def Holds (c : Dev nD) (arg3 : Memref sig .tc .vmem S256x1024 .f32) (arg4 : Memref sig .tc .vmem S1x1024x2048 .f32) (arg5 : Memref sig .tc .vmem S1x1x2048 .f32)
    (arg6 : Memref sig .tc .vmem S1x1024x1024 .f32) (arg7 : Memref sig .tc .vmem S1x1x1024 .f32) (arg8 : Memref sig .tc .vmem S256x1024 .f32)
    (T0 : S544.Idx → Elt F .i32) (T1 : S1.Idx → Elt F .i32) (x0 : S256x1024.Idx → Elt F .f32) (x1 : S1x1024x2048.Idx → Elt F .f32)
    (x2 : S1x1x2048.Idx → Elt F .f32) (x3 : S1x1024x1024.Idx → Elt F .f32) (x4 : S1x1x1024.Idx → Elt F .f32) (y5 : S256x1024.Idx → Elt F .f32) (s : St F) : sProp 𝕄 :=
  iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (beM.view.loc (c : Thread nD τ) ↦{fullShare.right} T0)
      ∗ (nuM.view.loc (c : Thread nD τ) ↦{fullShare.right} T1)
      ∗ owns (c : Thread nD τ) arg8 fullShare y5
      ∗ (guM.view.loc (c : Thread nD τ) ↦{fullShare} s.wgu)
      ∗ (dnM.view.loc (c : Thread nD τ) ↦{fullShare} s.wd))

set_option backward.proofsInPublic true in
set_option maxHeartbeats 1000000 in
/-- A used block whose expert is new: the weights are loaded. -/
theorem runLoad (c : Dev nD) (i : grid0.Coords)
    (arg3 : Memref sig .tc .vmem S256x1024 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S256x1024 .f32) (harg8 : arg8.IsWhole)
    (T0 : S544.Idx → Elt F .i32) (T1 : S1.Idx → Elt F .i32) (x0 : S256x1024.Idx → Elt F .f32) (x1 : S1x1024x2048.Idx → Elt F .f32)
    (x2 : S1x1x2048.Idx → Elt F .f32) (x3 : S1x1024x1024.Idx → Elt F .f32) (x4 : S1x1x1024.Idx → Elt F .f32) (y5 : S256x1024.Idx → Elt F .f32) (s : St F)
    (h1 : (loads i (beW (F := F) i T0) (bpW (F := F) i T0) (nuW (F := F) T1) = 1#1)) (h2 : (k0_cond2 i (nuW (F := F) T1) = 1#1))
    (h3 : ¬ (k0_cond3 i (nuW (F := F) T1) = 1#1)) (K : PUnit → sProp 𝕄) :
    iprop(Holds c arg3 arg4 arg5 arg6 arg7 arg8 T0 T1 x0 x1 x2 x3 x4 y5 s ∗ (Holds c arg3 arg4 arg5 arg6 arg7 arg8 T0 T1 x0 x1 x2 x3 x4 (outOf x0 x2 x4 (load x1 x3)) (load x1 x3) -∗ K ⟨⟩))
      ⊢ wp frame (wpE (defs₀ (F := F)) Variants.none c none) Set.univ (cc0_moe_experts i beM (Memref.isWhole_whole _) nuM (Memref.isWhole_whole _) arg3 harg3 arg4 harg4 arg5 harg5 arg6 harg6 arg7 harg7 arg8 harg8 guM (Memref.isWhole_whole _) dnM (Memref.isWhole_whole _)) K := by
  unfold Holds owns
  rw [cc0_moe_experts_eq_skeleton]; unfold cc0_moe_experts_skel
  rewrite [k0_part1_eq_skeleton]; unfold k0_part1_skel
  iintro ⟨⟨H0, H1, H2, H3, H4, HT0, HT1, ⟨%f5, %hf5, HO5⟩, HS0, HS1⟩, Hk⟩
  obtain rfl := harg8.eq_unread hf5
  have hS0 : guM.IsWhole := Memref.isWhole_whole _
  have hS1 : dnM.IsWhole := Memref.isWhole_whole _
  have hT0 : beM.IsWhole := Memref.isWhole_whole _
  have hT1 : nuM.IsWhole := Memref.isWhole_whole _
  sl_exec! (disch := first | (guard_target = Scalar.cmpi _ _ _ = _; exact h1) | (guard_target = k0_cond2 _ _ = _; exact h2) | (guard_target = ¬(k0_cond3 _ _ = _); exact h3))
  sl_step
  have e0 : guM.view.writes (Elt F) guM.view.junk (runLoad.sl.HS0_1 arg4 x1) = (load x1 x3).wgu := by
    unfold runLoad.sl.HS0_1
    refine (writes_whole cc0_scratch0 _ _ _ _).trans ?_
    repeat (first | unfold runLoad.sl.HS0_1 | unfold runLoad.sl.HS1_1 | unfold runLoad.sl.r | unfold runLoad.sl.r_1 | unfold runLoad.sl.r_2 | unfold runLoad.sl.r_3 | unfold runLoad.sl.r_4 | unfold runLoad.sl.r_5 | unfold runLoad.sl.v22 | unfold runLoad.sl.v24 | unfold runLoad.sl.v26 | unfold runLoad.sl.v28 | unfold runLoad.sl.v52 | unfold runLoad.sl.v54 | unfold runLoad.sl.v57)
    repeat (first | rewrite [View.readAt_rep_full] | rewrite [View.readCov_full] | rewrite [readAt_whole] | rewrite [View.readAt_full])
    rfl
  have e1 : dnM.view.writes (Elt F) dnM.view.junk (runLoad.sl.HS1_1 arg6 x3) = (load x1 x3).wd := by
    unfold runLoad.sl.HS1_1
    refine (writes_whole cc0_scratch1 _ _ _ _).trans ?_
    repeat (first | unfold runLoad.sl.HS0_1 | unfold runLoad.sl.HS1_1 | unfold runLoad.sl.r | unfold runLoad.sl.r_1 | unfold runLoad.sl.r_2 | unfold runLoad.sl.r_3 | unfold runLoad.sl.r_4 | unfold runLoad.sl.r_5 | unfold runLoad.sl.v22 | unfold runLoad.sl.v24 | unfold runLoad.sl.v26 | unfold runLoad.sl.v28 | unfold runLoad.sl.v52 | unfold runLoad.sl.v54 | unfold runLoad.sl.v57)
    repeat (first | rewrite [View.readAt_rep_full] | rewrite [View.readCov_full] | rewrite [readAt_whole] | rewrite [View.readAt_full])
    rfl
  have e5 : arg8.view.read (Elt F) (arg8.view.writes (Elt F) arg8.view.junk (runLoad.sl.HO5_1 arg3 arg4 arg5 arg6 arg7 x0 x1 x2 x3 x4)) = outOf x0 x2 x4 (load x1 x3) := by
    unfold runLoad.sl.HO5_1
    refine (read_out _ _ _).trans ?_
    repeat (first | unfold runLoad.sl.HS0_1 | unfold runLoad.sl.HS1_1 | unfold runLoad.sl.r | unfold runLoad.sl.r_1 | unfold runLoad.sl.r_2 | unfold runLoad.sl.r_3 | unfold runLoad.sl.r_4 | unfold runLoad.sl.r_5 | unfold runLoad.sl.v22 | unfold runLoad.sl.v24 | unfold runLoad.sl.v26 | unfold runLoad.sl.v28 | unfold runLoad.sl.v52 | unfold runLoad.sl.v54 | unfold runLoad.sl.v57)
    repeat (first | rewrite [View.readAt_rep_full] | rewrite [View.readCov_full] | rewrite [readAt_whole] | rewrite [View.readAt_full])
    rfl
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    ipureintro; exact e5
  isplitl [HS0]; · rewrite [e0]; iexact HS0
  rewrite [e1]; iexact HS1

set_option backward.proofsInPublic true in
set_option maxHeartbeats 1000000 in
/-- A used block of the same expert as the one before. -/
theorem runKeep (c : Dev nD) (i : grid0.Coords)
    (arg3 : Memref sig .tc .vmem S256x1024 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S256x1024 .f32) (harg8 : arg8.IsWhole)
    (T0 : S544.Idx → Elt F .i32) (T1 : S1.Idx → Elt F .i32) (x0 : S256x1024.Idx → Elt F .f32) (x1 : S1x1024x2048.Idx → Elt F .f32)
    (x2 : S1x1x2048.Idx → Elt F .f32) (x3 : S1x1024x1024.Idx → Elt F .f32) (x4 : S1x1x1024.Idx → Elt F .f32) (y5 : S256x1024.Idx → Elt F .f32) (s : St F)
    (h1 : ¬ (loads i (beW (F := F) i T0) (bpW (F := F) i T0) (nuW (F := F) T1) = 1#1)) (h2 : (k0_cond2 i (nuW (F := F) T1) = 1#1))
    (h3 : ¬ (k0_cond3 i (nuW (F := F) T1) = 1#1)) (K : PUnit → sProp 𝕄) :
    iprop(Holds c arg3 arg4 arg5 arg6 arg7 arg8 T0 T1 x0 x1 x2 x3 x4 y5 s ∗ (Holds c arg3 arg4 arg5 arg6 arg7 arg8 T0 T1 x0 x1 x2 x3 x4 (outOf x0 x2 x4 s) s -∗ K ⟨⟩))
      ⊢ wp frame (wpE (defs₀ (F := F)) Variants.none c none) Set.univ (cc0_moe_experts i beM (Memref.isWhole_whole _) nuM (Memref.isWhole_whole _) arg3 harg3 arg4 harg4 arg5 harg5 arg6 harg6 arg7 harg7 arg8 harg8 guM (Memref.isWhole_whole _) dnM (Memref.isWhole_whole _)) K := by
  unfold Holds owns
  rw [cc0_moe_experts_eq_skeleton]; unfold cc0_moe_experts_skel
  rewrite [k0_part1_eq_skeleton]; unfold k0_part1_skel
  iintro ⟨⟨H0, H1, H2, H3, H4, HT0, HT1, ⟨%f5, %hf5, HO5⟩, HS0, HS1⟩, Hk⟩
  obtain rfl := harg8.eq_unread hf5
  have hS0 : guM.IsWhole := Memref.isWhole_whole _
  have hS1 : dnM.IsWhole := Memref.isWhole_whole _
  have hT0 : beM.IsWhole := Memref.isWhole_whole _
  have hT1 : nuM.IsWhole := Memref.isWhole_whole _
  sl_exec! (disch := first | (guard_target = ¬(Scalar.cmpi _ _ _ = _); exact h1) | (guard_target = k0_cond2 _ _ = _; exact h2) | (guard_target = ¬(k0_cond3 _ _ = _); exact h3))
  sl_step
  have e5 : arg8.view.read (Elt F) (arg8.view.writes (Elt F) arg8.view.junk (runKeep.sl.HO5_1 arg3 arg5 arg7 x0 x2 x4 s)) = outOf x0 x2 x4 s := by
    unfold runKeep.sl.HO5_1
    refine (read_out _ _ _).trans ?_
    repeat (first | unfold runKeep.sl.HS0_1 | unfold runKeep.sl.HS1_1 | unfold runKeep.sl.r | unfold runKeep.sl.r_1 | unfold runKeep.sl.r_2 | unfold runKeep.sl.r_3 | unfold runKeep.sl.r_4 | unfold runKeep.sl.r_5 | unfold runKeep.sl.v22 | unfold runKeep.sl.v24 | unfold runKeep.sl.v26 | unfold runKeep.sl.v28 | unfold runKeep.sl.v52 | unfold runKeep.sl.v54 | unfold runKeep.sl.v57)
    repeat (first | rewrite [View.readAt_rep_full] | rewrite [View.readCov_full] | rewrite [readAt_whole] | rewrite [View.readAt_full])
    rfl
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    ipureintro; exact e5
  isplitl [HS0]; · iexact HS0
  iexact HS1

set_option backward.proofsInPublic true in
set_option maxHeartbeats 1000000 in
/-- A block that is not used: zeros are written. -/
theorem runZero (c : Dev nD) (i : grid0.Coords)
    (arg3 : Memref sig .tc .vmem S256x1024 .f32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S256x1024 .f32) (harg8 : arg8.IsWhole)
    (T0 : S544.Idx → Elt F .i32) (T1 : S1.Idx → Elt F .i32) (x0 : S256x1024.Idx → Elt F .f32) (x1 : S1x1024x2048.Idx → Elt F .f32)
    (x2 : S1x1x2048.Idx → Elt F .f32) (x3 : S1x1024x1024.Idx → Elt F .f32) (x4 : S1x1x1024.Idx → Elt F .f32) (y5 : S256x1024.Idx → Elt F .f32) (s : St F)
    (h1 : ¬ (loads i (beW (F := F) i T0) (bpW (F := F) i T0) (nuW (F := F) T1) = 1#1)) (h2 : ¬ (k0_cond2 i (nuW (F := F) T1) = 1#1))
    (h3 : (k0_cond3 i (nuW (F := F) T1) = 1#1)) (K : PUnit → sProp 𝕄) :
    iprop(Holds c arg3 arg4 arg5 arg6 arg7 arg8 T0 T1 x0 x1 x2 x3 x4 y5 s ∗ (Holds c arg3 arg4 arg5 arg6 arg7 arg8 T0 T1 x0 x1 x2 x3 x4 (k0_pay3 (F := F)) s -∗ K ⟨⟩))
      ⊢ wp frame (wpE (defs₀ (F := F)) Variants.none c none) Set.univ (cc0_moe_experts i beM (Memref.isWhole_whole _) nuM (Memref.isWhole_whole _) arg3 harg3 arg4 harg4 arg5 harg5 arg6 harg6 arg7 harg7 arg8 harg8 guM (Memref.isWhole_whole _) dnM (Memref.isWhole_whole _)) K := by
  unfold Holds owns
  rw [cc0_moe_experts_eq_skeleton]; unfold cc0_moe_experts_skel
  rewrite [k0_part1_eq_skeleton]; unfold k0_part1_skel
  iintro ⟨⟨H0, H1, H2, H3, H4, HT0, HT1, ⟨%f5, %hf5, HO5⟩, HS0, HS1⟩, Hk⟩
  obtain rfl := harg8.eq_unread hf5
  have hS0 : guM.IsWhole := Memref.isWhole_whole _
  have hS1 : dnM.IsWhole := Memref.isWhole_whole _
  have hT0 : beM.IsWhole := Memref.isWhole_whole _
  have hT1 : nuM.IsWhole := Memref.isWhole_whole _
  sl_exec! (disch := first | (guard_target = ¬(Scalar.cmpi _ _ _ = _); exact h1) | (guard_target = ¬(k0_cond2 _ _ = _); exact h2) | (guard_target = k0_cond3 _ _ = _; exact h3))
  sl_step
  have e5 : arg8.view.read (Elt F) (arg8.view.writes (Elt F) arg8.view.junk (runZero.sl.HO5_1)) = k0_pay3 (F := F) := by
    unfold runZero.sl.HO5_1
    refine (read_out _ _ _).trans ?_
    repeat (first | unfold runZero.sl.HS0_1 | unfold runZero.sl.HS1_1 | unfold runZero.sl.r | unfold runZero.sl.r_1 | unfold runZero.sl.r_2 | unfold runZero.sl.r_3 | unfold runZero.sl.r_4 | unfold runZero.sl.r_5 | unfold runZero.sl.v22 | unfold runZero.sl.v24 | unfold runZero.sl.v26 | unfold runZero.sl.v28 | unfold runZero.sl.v52 | unfold runZero.sl.v54 | unfold runZero.sl.v57)
    repeat (first | rewrite [View.readAt_rep_full] | rewrite [View.readCov_full] | rewrite [readAt_whole] | rewrite [View.readAt_full])
    rfl
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    ipureintro; exact e5
  isplitl [HS0]; · iexact HS0
  iexact HS1

end Cert.Kernel2Ideal.Experts

end
-- ==== Proof.Experts.Data.lean ====
module

public import proofs.«01_k».proof.Proof.Gen.Kernel2Ideal.Skeleton
public import proofs.«01_k».proof.Proof.Gen.Kernel2Ideal.Launch
public import proofs.«01_k».proof.Proof.Experts.Run
public import Idealize.ShloMosaic.Lib.Pipeline.ValueKit.Geometry

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two tables

The kernel is handed, with its arguments, the expert of each block and the number of blocks used. -/

variable (a : (pcfg0 (F := F)).Adm)

/-- The pipeline at the tables' contents. -/
abbrev cfgA : Pipeline.Cfg sig Λ₀ := cfg0 (F := F) a

/-- The block of a point. -/
def nOf (i : grid0.Coords) : Fin 544 := i 0

/-- The expert of a block, and the number of blocks used. -/
def be (n : Fin 544) : BitVec 32 := a.1 0 (ix1 n)
def nu : BitVec 32 := a.1 1 (ix1 (0 : Fin 1))

theorem word_val (n : Fin 544) : (BitVec.ofNat 32 n.val).toNat = n.val := by
  have := n.isLt
  rw [BitVec.toNat_ofNat]; exact Nat.mod_eq_of_lt (by omega)
theorem word_int (n : Fin 544) : (BitVec.ofNat 32 n.val).toInt = (n.val : Int) := by
  have := n.isLt
  rw [BitVec.toInt_eq_toNat_of_lt (by rw [word_val]; omega), word_val]

theorem off1_val (i : grid0.Coords) : k0_off1 i 0 = (nOf i).val := word_val (nOf i)

theorem off2_all : ∀ n : Fin 544, (Scalar.maxsi (Scalar.subi (BitVec.ofNat 32 n.val) 1#32) 0#32).toNat = n.val - 1 := by decide +kernel
theorem off2_val (i : grid0.Coords) : k0_off2 i 0 = (nOf i).val - 1 := off2_all (nOf i)

theorem ix_ext {n : ℕ} (x y : (⟨1, ![n]⟩ : Shape).Idx) (h : (x 0).val = (y 0).val) : x = y := by
  funext k
  have hk : k = 0 := Subsingleton.elim (α := Fin 1) k 0
  subst hk
  exact Fin.ext h

theorem at0 (i : grid0.Coords) (h) (h1) : a.1.at 0 (Rect.unit (s := S544) (k0_off1 i) S1.size h) h1 = be a (nOf i) :=
  congrArg (a.1 0) (ix_ext (n := 544) _ _ (by show k0_off1 i 0 + 1 * 0 = _; rw [off1_val]; rfl))
theorem at0' (i : grid0.Coords) (h) (h1) : a.1.at 0 (Rect.unit (s := S544) (k0_off2 i) S1.size h) h1 = be a ⟨(nOf i).val - 1, by have := (nOf i).isLt; omega⟩ :=
  congrArg (a.1 0) (ix_ext (n := 544) _ _ (by show k0_off2 i 0 + 1 * 0 = _; rw [off2_val]; rfl))

/-- The words the kernel reads. -/
theorem beW_eq (i : grid0.Coords) : beW (F := F) i (a.1 0) = be a (nOf i) := at0 a i _ numel1_S1
theorem bpW_eq (i : grid0.Coords) : bpW (F := F) i (a.1 0) = be a ⟨(nOf i).val - 1, by have := (nOf i).isLt; omega⟩ := at0' a i _ numel1_S1
theorem nuW_eq : nuW (F := F) (a.1 1) = nu a := congrArg (a.1 1) (ix_ext (n := 1) _ _ rfl)
theorem atD1 : a.1.atD 1 ![0] = nu a := by
  have h : ∀ x : Fin (pre0.ref 1).ty.shape.rank, (![0] : Fin 1 → ℕ) x + 1 ≤ (pre0.ref 1).ty.shape.size x := fun x => match x with
    | ⟨0, _⟩ => Nat.le_refl 1
  exact (dif_pos h).trans (congrArg (a.1 1) (ix_ext (n := 1) _ _ rfl))

/-! ## The branches -/

/-- Whether a block is used. -/
def used (n : Fin 544) : Prop := (n.val : Int) < (nu a).toInt

theorem cond2_iff (i : grid0.Coords) (w : BitVec 32) : k0_cond2 i w = 1#1 ↔ ((nOf i).val : Int) < w.toInt := by
  rw [← word_int (nOf i)]
  unfold k0_cond2 Scalar.cmpi Scalar.extui
  show (IntOp.cmpi .ne (BitVec.setWidth 32 (BitVec.ofBool ((BitVec.ofNat 32 (nOf i).val).slt w))) 0#32 = 1#1) ↔ _
  rw [BitVec.slt]
  by_cases h : (BitVec.ofNat 32 (nOf i).val).toInt < w.toInt
  · rw [decide_eq_true h]; exact ⟨fun _ => h, fun _ => by decide⟩
  · rw [decide_eq_false h]; exact ⟨fun e => absurd e (by decide), fun e => absurd e h⟩

theorem cond3_iff (i : grid0.Coords) (w : BitVec 32) : k0_cond3 i w = 1#1 ↔ ¬ ((nOf i).val : Int) < w.toInt := by
  rw [← word_int (nOf i)]
  unfold k0_cond3 Scalar.cmpi Scalar.extui
  show (IntOp.cmpi .ne (BitVec.setWidth 32 (BitVec.ofBool (w.sle (BitVec.ofNat 32 (nOf i).val)))) 0#32 = 1#1) ↔ _
  rw [BitVec.sle]
  by_cases h : (BitVec.ofNat 32 (nOf i).val).toInt < w.toInt
  · rw [decide_eq_false (by omega)]; exact ⟨fun e => absurd e (by decide), fun e => absurd h e⟩
  · rw [decide_eq_true (by omega)]; exact ⟨fun _ => h, fun _ => by decide⟩

theorem branch3 (p q r : Bool) : IntOp.cmpi .ne (BitVec.setWidth 32 (BitVec.ofBool p &&& (BitVec.ofBool q ||| BitVec.ofBool r))) 0#32 = 1#1
    ↔ (p = true ∧ (q = true ∨ r = true)) := by
  cases p <;> cases q <;> cases r <;> decide

theorem loads_iff (i : grid0.Coords) (b p w : BitVec 32) :
    loads i b p w = 1#1 ↔ (((nOf i).val : Int) < w.toInt ∧ ((nOf i).val = 0 ∨ b ≠ p)) := by
  rw [← word_int (nOf i)]
  unfold loads Scalar.cmpi Scalar.extui
  have z : BitVec.ofNat 32 (nOf i).val = 0#32 ↔ (nOf i).val = 0 :=
    ⟨fun e => (word_val (nOf i)).symm.trans (congrArg BitVec.toNat e), fun e => by rw [e]⟩
  refine (branch3 ((BitVec.ofNat 32 (nOf i).val).slt w) (BitVec.ofNat 32 (nOf i).val == 0#32) (b != p)).trans ?_
  rw [← z, BitVec.slt, decide_eq_true_iff, beq_iff_eq, bne_iff_ne]

/-! ## The blocks a point reads and writes -/

theorem tr0 (i : grid0.Coords) : cc0_transform_0 i = ![(nOf i).val, 0] := by
  show ![(BitVec.ofNat 32 (nOf i).val).toNat, 0] = _
  rw [word_val]
theorem tr1 (i : grid0.Coords) : cc0_transform_1 (F := F) k0_off1_inb numel1_S1 a.1 i = ![(be a (nOf i)).toNat, 0, 0] := by
  have e := at0 a i (k0_off1_inb i) numel1_S1
  have : cc0_transform_1 (F := F) k0_off1_inb numel1_S1 a.1 i = ![BitVec.toNat (a.1.at 0 (Rect.unit (s := S544) (k0_off1 i) S1.size (k0_off1_inb i)) numel1_S1), 0, 0] := rfl
  rw [this, e]

theorem N_A : (cfgA a).N = 544 := N_0

/-- Point `t`'s coordinates and its block. -/
abbrev crd (t : Fin (cfgA a).N) : grid0.Coords := (cfgA a).grid.coords t
abbrev pt (t : Fin (cfgA a).N) : Fin 544 := nOf (crd a t)

theorem pt_val (t : Fin (cfgA a).N) : (pt a t).val = t.val := by
  have := Pipeline.Grid.coords_val (G := grid0) t 0 (S := 1) (B := 544) (by decide) rfl
  rw [Nat.div_one] at this
  exact this.trans (Nat.mod_eq_of_lt (lt_of_lt_of_eq t.isLt (N_A a)))

theorem index0 (t : Fin (cfgA a).N) : ((cfgA a).win (0 : Fin 6)).index t = ![t.val, 0] := (tr0 (crd a t)).trans (by rw [pt_val])
theorem index1 (t : Fin (cfgA a).N) : ((cfgA a).win (1 : Fin 6)).index t = ![(be a (pt a t)).toNat, 0, 0] := tr1 a (crd a t)
theorem index2 (t : Fin (cfgA a).N) : ((cfgA a).win (2 : Fin 6)).index t = ![(be a (pt a t)).toNat, 0, 0] := tr1 a (crd a t)
theorem index3 (t : Fin (cfgA a).N) : ((cfgA a).win (3 : Fin 6)).index t = ![(be a (pt a t)).toNat, 0, 0] := tr1 a (crd a t)
theorem index4 (t : Fin (cfgA a).N) : ((cfgA a).win (4 : Fin 6)).index t = ![(be a (pt a t)).toNat, 0, 0] := tr1 a (crd a t)
theorem index5 (t : Fin (cfgA a).N) : ((cfgA a).win (5 : Fin 6)).index t = ![t.val, 0] := (tr0 (crd a t)).trans (by rw [pt_val])

/-- The result's block is written at every point. -/
theorem idle5 (t : Fin (cfgA a).N) : (cfgA a).idle (5 : Fin 6) (crd a t) = false := by
  show (!(k0_cond2 (crd a t) (a.1.atD 1 ![0]) == 1#1) && !(k0_cond3 (crd a t) (a.1.atD 1 ![0]) == 1#1)) = false
  by_cases h : ((nOf (crd a t)).val : Int) < (a.1.atD 1 ![0] : BitVec 32).toInt
  · rw [(cond2_iff _ _).2 h]; rfl
  · rw [(cond3_iff _ _).2 h, Bool.and_comm]; rfl

/-- Every point's block of the result is another. -/
theorem flush5 (t : Fin (cfgA a).N) : ((cfgA a).win (5 : Fin 6)).flush t = true := by
  rw [Pipeline.Window.flush_eq_flushF]
  unfold Pipeline.Window.flushF
  rw [show ((cfgA a).win (5 : Fin 6)).isOut = true from rfl, Bool.true_and]
  simp only [Bool.or_eq_true, decide_eq_true_eq]
  by_cases hl : t.val + 1 = (cfgA a).grid.N
  · exact .inl hl
  · have h : t.val + 1 < (cfgA a).N := lt_of_le_of_ne t.isLt hl
    refine .inr ⟨h, 0, ?_⟩
    rw [index5, index5]
    show t.val + 1 ≠ t.val
    omega

variable (m : (ℓ : Loc nD τ sig) → Buf (Elt F) ℓ)

/-- What the host operations before the launch leave in each buffer. -/
def V (c : Dev nD) (b : Ref sig .tc) : Buf (Elt F) ((c.tc : Thread nD τ).loc b) :=
  StableHlo.after (Val := Elt F) ([Gen.hostOps0 (F := F)].flatten) (fun b => m (c, b)) b

/-! ## The staging buffers and blocks of a point -/

/-- Window 0's staging buffer at point `t`, and its wholeness. -/
abbrev ms0 (t : Fin (cfgA a).N) : Memref sig .tc .vmem S256x1024 .f32 := spec0_0.stage ((cfgA a).slots t (0 : Fin 6))
abbrev hs0 (t : Fin (cfgA a).N) : (ms0 a t).IsWhole := hstage0_0 (((cfgA a).slots t (0 : Fin 6)).cast nbuf0_0)
/-- Window 1's staging buffer at point `t`, and its wholeness. -/
abbrev ms1 (t : Fin (cfgA a).N) : Memref sig .tc .vmem S1x1024x2048 .f32 := spec0_1.stage ((cfgA a).slots t (1 : Fin 6))
abbrev hs1 (t : Fin (cfgA a).N) : (ms1 a t).IsWhole := hstage0_1 (((cfgA a).slots t (1 : Fin 6)).cast nbuf0_1)
/-- Window 2's staging buffer at point `t`, and its wholeness. -/
abbrev ms2 (t : Fin (cfgA a).N) : Memref sig .tc .vmem S1x1x2048 .f32 := spec0_2.stage ((cfgA a).slots t (2 : Fin 6))
abbrev hs2 (t : Fin (cfgA a).N) : (ms2 a t).IsWhole := hstage0_2 (((cfgA a).slots t (2 : Fin 6)).cast nbuf0_2)
/-- Window 3's staging buffer at point `t`, and its wholeness. -/
abbrev ms3 (t : Fin (cfgA a).N) : Memref sig .tc .vmem S1x1024x1024 .f32 := spec0_3.stage ((cfgA a).slots t (3 : Fin 6))
abbrev hs3 (t : Fin (cfgA a).N) : (ms3 a t).IsWhole := hstage0_3 (((cfgA a).slots t (3 : Fin 6)).cast nbuf0_3)
/-- Window 4's staging buffer at point `t`, and its wholeness. -/
abbrev ms4 (t : Fin (cfgA a).N) : Memref sig .tc .vmem S1x1x1024 .f32 := spec0_4.stage ((cfgA a).slots t (4 : Fin 6))
abbrev hs4 (t : Fin (cfgA a).N) : (ms4 a t).IsWhole := hstage0_4 (((cfgA a).slots t (4 : Fin 6)).cast nbuf0_4)
/-- Window 5's staging buffer at point `t`, and its wholeness. -/
abbrev ms5 (t : Fin (cfgA a).N) : Memref sig .tc .vmem S256x1024 .f32 := spec0_5.stage ((cfgA a).slots t (5 : Fin 6))
abbrev hs5 (t : Fin (cfgA a).N) : (ms5 a t).IsWhole := hstage0_5 (((cfgA a).slots t (5 : Fin 6)).cast nbuf0_5)

/-- The block of window `w`'s array at a point. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef (cfgA a).spec w))

/-- The weights' blocks at two points of one expert are the same. -/
theorem iblk1_congr (c : Dev nD) (t u : Fin (cfgA a).N) (h : be a (pt a t) = be a (pt a u)) : iblk a m c (1 : Fin 6) t = iblk a m c (1 : Fin 6) u := by
  funext y
  refine congrArg (V m c main_arg3) (funext fun x => Fin.ext ?_)
  refine (Pipeline.Window.rect_emb_val ((cfgA a).win (1 : Fin 6)) t y x).trans ((Pipeline.Window.rect_emb_val ((cfgA a).win (1 : Fin 6)) u y x).trans ?_).symm
  rw [index1, index1, h]
theorem iblk3_congr (c : Dev nD) (t u : Fin (cfgA a).N) (h : be a (pt a t) = be a (pt a u)) : iblk a m c (3 : Fin 6) t = iblk a m c (3 : Fin 6) u := by
  funext y
  refine congrArg (V m c main_arg5) (funext fun x => Fin.ext ?_)
  refine (Pipeline.Window.rect_emb_val ((cfgA a).win (3 : Fin 6)) t y x).trans ((Pipeline.Window.rect_emb_val ((cfgA a).win (3 : Fin 6)) u y x).trans ?_).symm
  rw [index3, index3, h]

/-! ## The proof data -/

/-- The matrices of a point's expert. -/
def mats (c : Dev nD) (t : Fin (cfgA a).N) : St F := load (iblk a m c (1 : Fin 6) t) (iblk a m c (3 : Fin 6) t)

open Classical in
/-- The block written at a point: the expert's output where the block is used, zeros where not. -/
def wrote (c : Dev nD) (t : Fin (cfgA a).N) : S256x1024.Idx → Elt F .f32 :=
  if used a (pt a t) then outOf (iblk a m c (0 : Fin 6) t) (iblk a m c (2 : Fin 6) t) (iblk a m c (4 : Fin 6) t) (mats a m c t) else k0_pay3 (F := F)

/-- What the carried matrices are known to be before point `n`: those of the block before, where it is used. -/
def Known (c : Dev nD) (n : ℕ) (s : St F) : Prop := ∀ t : Fin (cfgA a).N, n = t.val + 1 → used a (pt a t) → s = mats a m c t

/-- What the kernel holds between points: the carried matrices in the scratch buffers, its halves of the two tables, and the
    generator's register. -/
def Phi (c : Dev nD) (n : ℕ) : sProp 𝕄 :=
  iprop((∃ s : St F, ⌜Known a m c n s⌝ ∗ (guM.view.loc (c : Thread nD τ) ↦{fullShare} s.wgu) ∗ (dnM.view.loc (c : Thread nD τ) ↦{fullShare} s.wd))
    ∗ (beM.view.loc (c : Thread nD τ) ↦{fullShare.right} (a.1 0)) ∗ (nuM.view.loc (c : Thread nD τ) ↦{fullShare.right} (a.1 1))
    ∗ (∃ r, prngReg c r))

/-- The proof data of the pipeline on core `c`. -/
def dats (_ : Fin 1) (c : Dev nD) : Dat τ (Elt F) Unit ℕ (UR sig nD τ) ℕ (cfgA a) c where
  A w := V m c (Pipeline.arrRef (cfgA a).spec w)
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => wrote a m c t
  Φ t := Phi a m c t.val
  q := Pipeline.shareOf (cfgA a).spec
  owed _ := 0

/-- What is held before and after point `t`. -/
theorem phi_before (c : Dev nD) (t : Fin (cfgA a).N) : (dats a m 0 c).Φ t.castSucc = Phi a m c t.val := congrArg (Phi a m c) (Fin.val_castSucc t)
theorem phi_after (c : Dev nD) (t : Fin (cfgA a).N) : (dats a m 0 c).Φ t.succ = Phi a m c (t.val + 1) := congrArg (Phi a m c) (Fin.val_succ t)

theorem after0 (c : Dev nD) (t : Fin (cfgA a).N) : (dats a m 0 c).after (0 : Fin 6) t = iblk a m c (0 : Fin 6) t := rfl
theorem after1 (c : Dev nD) (t : Fin (cfgA a).N) : (dats a m 0 c).after (1 : Fin 6) t = iblk a m c (1 : Fin 6) t := rfl
theorem after2 (c : Dev nD) (t : Fin (cfgA a).N) : (dats a m 0 c).after (2 : Fin 6) t = iblk a m c (2 : Fin 6) t := rfl
theorem after3 (c : Dev nD) (t : Fin (cfgA a).N) : (dats a m 0 c).after (3 : Fin 6) t = iblk a m c (3 : Fin 6) t := rfl
theorem after4 (c : Dev nD) (t : Fin (cfgA a).N) : (dats a m 0 c).after (4 : Fin 6) t = iblk a m c (4 : Fin 6) t := rfl
theorem after5 (c : Dev nD) (t : Fin (cfgA a).N) : (dats a m 0 c).after (5 : Fin 6) t = wrote a m c t := rfl

/-- Input window 0 holds its block when the point begins. -/
theorem before0 (c : Dev nD) (t : Fin (cfgA a).N) (d) : (dats a m 0 c).before (0 : Fin 6) t d = iblk a m c (0 : Fin 6) t :=
  ((dats a m 0 c).before_in_eq_fetched (0 : Fin 6) rfl (fun _ => rfl) (fun _ _ _ => rfl) (fun t => by rw [after0]; unfold Dat.blockOf iblk; rfl) t d).trans
    (by unfold Dat.fetched Dat.blockOf iblk; rfl)
/-- Input window 1 holds its block when the point begins. -/
theorem before1 (c : Dev nD) (t : Fin (cfgA a).N) (d) : (dats a m 0 c).before (1 : Fin 6) t d = iblk a m c (1 : Fin 6) t :=
  ((dats a m 0 c).before_in_eq_fetched (1 : Fin 6) rfl (fun _ => rfl) (fun _ _ _ => rfl) (fun t => by rw [after1]; unfold Dat.blockOf iblk; rfl) t d).trans
    (by unfold Dat.fetched Dat.blockOf iblk; rfl)
/-- Input window 2 holds its block when the point begins. -/
theorem before2 (c : Dev nD) (t : Fin (cfgA a).N) (d) : (dats a m 0 c).before (2 : Fin 6) t d = iblk a m c (2 : Fin 6) t :=
  ((dats a m 0 c).before_in_eq_fetched (2 : Fin 6) rfl (fun _ => rfl) (fun _ _ _ => rfl) (fun t => by rw [after2]; unfold Dat.blockOf iblk; rfl) t d).trans
    (by unfold Dat.fetched Dat.blockOf iblk; rfl)
/-- Input window 3 holds its block when the point begins. -/
theorem before3 (c : Dev nD) (t : Fin (cfgA a).N) (d) : (dats a m 0 c).before (3 : Fin 6) t d = iblk a m c (3 : Fin 6) t :=
  ((dats a m 0 c).before_in_eq_fetched (3 : Fin 6) rfl (fun _ => rfl) (fun _ _ _ => rfl) (fun t => by rw [after3]; unfold Dat.blockOf iblk; rfl) t d).trans
    (by unfold Dat.fetched Dat.blockOf iblk; rfl)
/-- Input window 4 holds its block when the point begins. -/
theorem before4 (c : Dev nD) (t : Fin (cfgA a).N) (d) : (dats a m 0 c).before (4 : Fin 6) t d = iblk a m c (4 : Fin 6) t :=
  ((dats a m 0 c).before_in_eq_fetched (4 : Fin 6) rfl (fun _ => rfl) (fun _ _ _ => rfl) (fun t => by rw [after4]; unfold Dat.blockOf iblk; rfl) t d).trans
    (by unfold Dat.fetched Dat.blockOf iblk; rfl)

/-! ## A point of the grid -/

/-- The body at point `t` on its staging buffers. -/
abbrev bodyAt (t : Fin (cfgA a).N) : Prog (TpuEff nD τ sig (Elt F) Λ₀ .tc) PUnit :=
  cc0_moe_experts (crd a t) beM (Memref.isWhole_whole _) nuM (Memref.isWhole_whole _) (ms0 a t) (hs0 a t) (ms1 a t) (hs1 a t) (ms2 a t) (hs2 a t) (ms3 a t) (hs3 a t) (ms4 a t) (hs4 a t) (ms5 a t) (hs5 a t) guM (Memref.isWhole_whole _) dnM (Memref.isWhole_whole _)

open Classical in
/-- A point runs from the matrices it finds to the next ones, and writes its block of the result. -/
theorem run_at (c : Dev nD) (t : Fin (cfgA a).N) (x0 : S256x1024.Idx → Elt F .f32) (x1 : S1x1024x2048.Idx → Elt F .f32)
    (x2 : S1x1x2048.Idx → Elt F .f32) (x3 : S1x1024x1024.Idx → Elt F .f32) (x4 : S1x1x1024.Idx → Elt F .f32) (y5 : S256x1024.Idx → Elt F .f32)
    (s : St F) (hs : used a (pt a t) → ¬ ((pt a t).val = 0 ∨ be a (pt a t) ≠ be a ⟨(pt a t).val - 1, by have := (pt a t).isLt; omega⟩) → s = load x1 x3)
    (K : PUnit → sProp 𝕄) :
    iprop(Holds c (ms0 a t) (ms1 a t) (ms2 a t) (ms3 a t) (ms4 a t) (ms5 a t) (a.1 0) (a.1 1) x0 x1 x2 x3 x4 y5 s ∗ (Holds c (ms0 a t) (ms1 a t) (ms2 a t) (ms3 a t) (ms4 a t) (ms5 a t) (a.1 0) (a.1 1) x0 x1 x2 x3 x4
        (if used a (pt a t) then outOf x0 x2 x4 (load x1 x3) else k0_pay3 (F := F)) (if used a (pt a t) then load x1 x3 else s) -∗ K ⟨⟩))
      ⊢ wp frame (wpE (defs₀ (F := F)) Variants.none c none) Set.univ (bodyAt a t) K := by
  have c1 := loads_iff (crd a t) (beW (F := F) (crd a t) (a.1 0)) (bpW (F := F) (crd a t) (a.1 0)) (nuW (F := F) (a.1 1))
  have c2 := cond2_iff (crd a t) (nuW (F := F) (a.1 1))
  have c3 := cond3_iff (crd a t) (nuW (F := F) (a.1 1))
  rw [nuW_eq] at c1 c2 c3
  rw [beW_eq, bpW_eq] at c1
  by_cases hu : used a (pt a t)
  · rw [if_pos hu, if_pos hu]
    by_cases hf : (pt a t).val = 0 ∨ be a (pt a t) ≠ be a ⟨(pt a t).val - 1, by have := (pt a t).isLt; omega⟩
    · exact runLoad c (crd a t) (ms0 a t) (hs0 a t) (ms1 a t) (hs1 a t) (ms2 a t) (hs2 a t) (ms3 a t) (hs3 a t) (ms4 a t) (hs4 a t) (ms5 a t) (hs5 a t) _ _ x0 x1 x2 x3 x4 y5 s
        (by rw [beW_eq, bpW_eq, nuW_eq]; exact c1.2 ⟨hu, hf⟩) (by rw [nuW_eq]; exact c2.2 hu) (by rw [nuW_eq]; exact fun e => (c3.1 e) hu) K
    · obtain rfl := hs hu hf
      exact runKeep c (crd a t) (ms0 a t) (hs0 a t) (ms1 a t) (hs1 a t) (ms2 a t) (hs2 a t) (ms3 a t) (hs3 a t) (ms4 a t) (hs4 a t) (ms5 a t) (hs5 a t) _ _ x0 x1 x2 x3 x4 y5 (load x1 x3)
        (by rw [beW_eq, bpW_eq, nuW_eq]; exact fun e => hf (c1.1 e).2) (by rw [nuW_eq]; exact c2.2 hu) (by rw [nuW_eq]; exact fun e => (c3.1 e) hu) K
  · rw [if_neg hu, if_neg hu]
    exact runZero c (crd a t) (ms0 a t) (hs0 a t) (ms1 a t) (hs1 a t) (ms2 a t) (hs2 a t) (ms3 a t) (hs3 a t) (ms4 a t) (hs4 a t) (ms5 a t) (hs5 a t) _ _ x0 x1 x2 x3 x4 y5 s
      (by rw [beW_eq, bpW_eq, nuW_eq]; exact fun e => hu (c1.1 e).1) (by rw [nuW_eq]; exact fun e => hu (c2.1 e)) (by rw [nuW_eq]; exact c3.2 hu) K

/-- Where a used block keeps the matrices it finds, they are its expert's. -/
theorem kept (c : Dev nD) (t : Fin (cfgA a).N) (s : St F) (hs : Known a m c t.val s) (hu : used a (pt a t))
    (hf : ¬ ((pt a t).val = 0 ∨ be a (pt a t) ≠ be a ⟨(pt a t).val - 1, by have := (pt a t).isLt; omega⟩)) : s = mats a m c t := by
  have h0 : (pt a t).val ≠ 0 := fun e => hf (.inl e)
  have hb : be a (pt a t) = be a ⟨(pt a t).val - 1, by have := (pt a t).isLt; omega⟩ := not_not.1 fun e => hf (.inr e)
  rw [pt_val] at h0
  have ht := t.isLt
  let u : Fin (cfgA a).N := ⟨t.val - 1, by omega⟩
  have hp : pt a u = ⟨(pt a t).val - 1, by have := (pt a t).isLt; omega⟩ := Fin.ext ((pt_val a u).trans (by show t.val - 1 = (pt a t).val - 1; rw [pt_val]))
  have huu : used a (pt a u) := by
    unfold used at hu ⊢
    rw [pt_val] at hu ⊢
    have : u.val = t.val - 1 := rfl
    omega
  rw [hs u (by show t.val = t.val - 1 + 1; omega) huu]
  unfold mats
  rw [iblk1_congr a m c u t (by rw [hp]; exact hb.symm), iblk3_congr a m c u t (by rw [hp]; exact hb.symm)]

open Classical in
/-- What is known of the matrices after a point. -/
theorem known_next (c : Dev nD) (t : Fin (cfgA a).N) (s : St F) : Known a m c (t.val + 1) (if used a (pt a t) then mats a m c t else s) := by
  intro u h hu
  obtain rfl : t = u := Fin.ext (by omega)
  rw [if_pos hu]

set_option maxHeartbeats 1000000 in
/-- The obligation at point `t`, its windows listed. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 6) t d))
        ∗ (∃ d, owns (c : Thread nD τ) (ms1 a t) fullShare ((dats a m 0 c).before (1 : Fin 6) t d))
        ∗ (∃ d, owns (c : Thread nD τ) (ms2 a t) fullShare ((dats a m 0 c).before (2 : Fin 6) t d))
        ∗ (∃ d, owns (c : Thread nD τ) (ms3 a t) fullShare ((dats a m 0 c).before (3 : Fin 6) t d))
        ∗ (∃ d, owns (c : Thread nD τ) (ms4 a t) fullShare ((dats a m 0 c).before (4 : Fin 6) t d))
        ∗ (∃ d, owns (c : Thread nD τ) (ms5 a t) fullShare ((dats a m 0 c).before (5 : Fin 6) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  classical
  rw [bigSep_W0]
  rewrite [idle5 a t]
  simp only [before0, before1, before2, before3, before4, after0, after1, after2, after3, after4, after5]
  rewrite [phi_before, phi_after,
    show (dats a m 0 c).owesAt () t.succ = (dats a m 0 c).owesAt () t.castSucc from rfl]
  unfold Phi
  iintro ⟨⟨⟨%s, %hs, HS0, HS1⟩, HT0, HT1, Hr⟩, Ho, ⟨%d0, H0⟩, ⟨%d1, H1⟩, ⟨%d2, H2⟩, ⟨%d3, H3⟩, ⟨%d4, H4⟩, ⟨%d5, H5⟩⟩
  iapply (run_at a c t (iblk a m c (0 : Fin 6) t) (iblk a m c (1 : Fin 6) t) (iblk a m c (2 : Fin 6) t) (iblk a m c (3 : Fin 6) t) (iblk a m c (4 : Fin 6) t) ((dats a m 0 c).before (5 : Fin 6) t d5) s (fun hu hf => kept a m c t s hs hu hf) _)
  unfold Holds
  isplitl [H0 H1 H2 H3 H4 HT0 HT1 H5 HS0 HS1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    iexact HS1
  iintro ⟨H0, H1, H2, H3, H4, HT0, HT1, H5, HS0, HS1⟩
  isplitl [HS0 HS1 HT0 HT1 Hr]
  · isplitl [HS0 HS1]
    · iexists (if used a (pt a t) then mats a m c t else s); isplitr
      · ipureintro; exact known_next a m c t s
      isplitl [HS0]; · iexact HS0
      iexact HS1
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  unfold wrote mats
  iexact H5

/-- The obligation at every point. -/
theorem body_obligation (c : Dev nD) : BodyObligation (dats a m 0 c) (defs₀ (F := F)) Variants.none () Set.univ := fun t => by
  rw [bigSep_W0]
  exact sound_body a m c t

end Cert.Kernel2Ideal.Experts

end
-- ==== Proof.Experts.Launch.lean ====
module

public import proofs.«01_k».proof.Proof.Gen.Kernel2Ideal.Skeleton
public import proofs.«01_k».proof.Proof.Gen.Kernel2Ideal.Launch
public import proofs.«01_k».proof.Proof.Experts.Data

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (g : Dev nD → PrngReg)

/-! ## The tables as arguments -/

/-- The tables the launch finds in memory. -/
def tabs : pre0.Contents (Elt F) := fun j => m (((0 : Dev nD).tc : Thread nD τ).loc (pre0.ref j))

/-- Every block's expert is one of the thirty-two. -/
def Exist : Prop := ∀ x : S544.Idx, (m (((0 : Dev nD).tc : Thread nD τ).loc main_arg1) x : BitVec 32).toNat < 32

theorem word_lt (h : Exist m) (i : grid0.Coords) (h0) (h1) : ((tabs m).at 0 (Rect.unit (s := S544) (k0_off1 i) S1.size h0) h1 : BitVec 32).toNat < 32 := h _

/-- Such tables are admissible: every block lies inside its array. -/
theorem ok (h : Exist m) : ok0 (F := F) (tabs m) := by
  refine ⟨fun i => ⟨fun x => ?_, .inl rfl⟩, fun i => ⟨fun x => ?_, .inl rfl⟩, fun i => ⟨fun x => ?_, .inl rfl⟩, fun i => ⟨fun x => ?_, .inl rfl⟩⟩
  all_goals
    have hw := word_lt m h i (k0_off1_inb i) numel1_S1
    revert x
  · rw [show cc0_transform_1 (F := F) k0_off1_inb numel1_S1 (tabs m) i = ![BitVec.toNat ((tabs m).at 0 (Rect.unit (s := S544) (k0_off1 i) S1.size (k0_off1_inb i)) numel1_S1), 0, 0] from rfl]
    generalize ((tabs m).at 0 (Rect.unit (s := S544) (k0_off1 i) S1.size (k0_off1_inb i)) numel1_S1 : BitVec 32).toNat = e at hw ⊢
    intro x
    match x with
    | 0 => show (e + 1) * 1 ≤ 32; omega
    | 1 => show (0 + 1) * 1024 ≤ 1024; omega
    | 2 => show (0 + 1) * 2048 ≤ 2048; omega
  · rw [show cc0_transform_2 (F := F) k0_off1_inb numel1_S1 (tabs m) i = ![BitVec.toNat ((tabs m).at 0 (Rect.unit (s := S544) (k0_off1 i) S1.size (k0_off1_inb i)) numel1_S1), 0, 0] from rfl]
    generalize ((tabs m).at 0 (Rect.unit (s := S544) (k0_off1 i) S1.size (k0_off1_inb i)) numel1_S1 : BitVec 32).toNat = e at hw ⊢
    intro x
    match x with
    | 0 => show (e + 1) * 1 ≤ 32; omega
    | 1 => show (0 + 1) * 1 ≤ 1; omega
    | 2 => show (0 + 1) * 2048 ≤ 2048; omega
  · rw [show cc0_transform_3 (F := F) k0_off1_inb numel1_S1 (tabs m) i = ![BitVec.toNat ((tabs m).at 0 (Rect.unit (s := S544) (k0_off1 i) S1.size (k0_off1_inb i)) numel1_S1), 0, 0] from rfl]
    generalize ((tabs m).at 0 (Rect.unit (s := S544) (k0_off1 i) S1.size (k0_off1_inb i)) numel1_S1 : BitVec 32).toNat = e at hw ⊢
    intro x
    match x with
    | 0 => show (e + 1) * 1 ≤ 32; omega
    | 1 => show (0 + 1) * 1024 ≤ 1024; omega
    | 2 => show (0 + 1) * 1024 ≤ 1024; omega
  · rw [show cc0_transform_4 (F := F) k0_off1_inb numel1_S1 (tabs m) i = ![BitVec.toNat ((tabs m).at 0 (Rect.unit (s := S544) (k0_off1 i) S1.size (k0_off1_inb i)) numel1_S1), 0, 0] from rfl]
    generalize ((tabs m).at 0 (Rect.unit (s := S544) (k0_off1 i) S1.size (k0_off1_inb i)) numel1_S1 : BitVec 32).toNat = e at hw ⊢
    intro x
    match x with
    | 0 => show (e + 1) * 1 ≤ 32; omega
    | 1 => show (0 + 1) * 1 ≤ 1; omega
    | 2 => show (0 + 1) * 1024 ≤ 1024; omega

/-- The tables, admissible. -/
def adm (h : Exist m) : (pcfg0 (F := F)).Adm := ⟨tabs m, ok m h⟩

theorem V_arg0 (c : Dev nD) : V m c main_arg0 = m ((c.tc : Thread nD τ).loc main_arg0) := by
  unfold V; simp only [List.flatten_cons, List.flatten_nil, List.append_nil]; rfl
theorem V_arg1 (c : Dev nD) : V m c main_arg1 = m ((c.tc : Thread nD τ).loc main_arg1) := by
  unfold V; simp only [List.flatten_cons, List.flatten_nil, List.append_nil]; rfl
theorem V_arg2 (c : Dev nD) : V m c main_arg2 = m ((c.tc : Thread nD τ).loc main_arg2) := by
  unfold V; simp only [List.flatten_cons, List.flatten_nil, List.append_nil]; rfl
theorem V_arg3 (c : Dev nD) : V m c main_arg3 = m ((c.tc : Thread nD τ).loc main_arg3) := by
  unfold V; simp only [List.flatten_cons, List.flatten_nil, List.append_nil]; rfl
theorem V_arg4 (c : Dev nD) : V m c main_arg4 = m ((c.tc : Thread nD τ).loc main_arg4) := by
  unfold V; simp only [List.flatten_cons, List.flatten_nil, List.append_nil]; rfl
theorem V_arg5 (c : Dev nD) : V m c main_arg5 = m ((c.tc : Thread nD τ).loc main_arg5) := by
  unfold V; simp only [List.flatten_cons, List.flatten_nil, List.append_nil]; rfl
theorem V_arg6 (c : Dev nD) : V m c main_arg6 = m ((c.tc : Thread nD τ).loc main_arg6) := by
  unfold V; simp only [List.flatten_cons, List.flatten_nil, List.append_nil]; rfl

/-- The two tables hold the arguments. -/
theorem V_pre (h : Exist m) (c : Dev nD) (j : Fin 2) : V m c (pre0.ref j) = (adm m h).1 j := by
  obtain rfl : c = 0 := Subsingleton.elim (α := Fin 1) c 0
  fin_cases j
  · exact V_arg1 m 0
  · exact V_arg2 m 0

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc (pre0.ref 0)) ↦{q 0} v 0) ∗ (((c : Thread nD τ).loc (pre0.ref 1)) ↦{q 1} v 1)) := by
  unfold Pipeline.prefHeld
  rw [show (Finset.univ : Finset (Fin 2)) = insert (0 : Fin 2) {(1 : Fin 2)} from by decide,
    bigSep_insert (by decide), bigSep_singleton]
  rfl

/-- What is held before the first point comes from the scratch buffers, the generator's register and the tables. -/
theorem phi_first (c : Dev nD) :
    iprop(Pipeline.ΦA (cfgA a).spec c ∗ Pipeline.ΦT pre0 a.1 c) ⊢ (dats a m 0 c).Φ 0 := by
  rewrite [show (dats a m 0 c).Φ 0 = Phi a m c 0 from rfl]
  unfold Pipeline.ΦA Pipeline.ΦT
  rw [prefHeld_eq, show Pipeline.scopedRest (Ix := Unit) (Name := ℕ) (U := UR sig nD τ) (Lvl := ℕ) (Val := Elt F) (cfgA a).spec c = _ from scopedRest0_eq c]
  unfold Phi
  iintro ⟨⟨⟨⟨%a0, HS0⟩, ⟨%a1, HS1⟩⟩, Hr⟩, ⟨HT0, HT1⟩⟩
  isplitl [HS0 HS1]
  · iexists (⟨a0, a1⟩ : St F)
    isplitr
    · ipureintro; intro t h; exact absurd h (Nat.succ_ne_zero _).symm
    isplitl [HS0]; · iexact HS0
    iexact HS1
  isplitl [HT0]; · iexact HT0
  isplitl [HT1]; · iexact HT1
  iexact Hr

/-- What is held after the last point gives the scratch buffers and the register back. -/
theorem phi_last (c : Dev nD) : (dats a m 0 c).Φ (Fin.last (cfgA a).N) ⊢ Pipeline.ΦA (cfgA a).spec c := by
  rewrite [show (dats a m 0 c).Φ (Fin.last (cfgA a).N) = Phi a m c (cfgA a).N from rfl]
  unfold Pipeline.ΦA
  rw [show Pipeline.scopedRest (Ix := Unit) (Name := ℕ) (U := UR sig nD τ) (Lvl := ℕ) (Val := Elt F) (cfgA a).spec c = _ from scopedRest0_eq c]
  unfold Phi
  iintro ⟨⟨%s, -, HS0, HS1⟩, -, -, Hr⟩
  isplitl [HS0 HS1]
  · isplitl [HS0]; · iexists s.wgu; iexact HS0
    iexists s.wd; iexact HS1
  iexact Hr

/-- The result of the launch on core `c`: what the pipeline leaves in the result's array. -/
def result (c : Dev nD) : Buf (Elt F) ((c.tc : Thread nD τ).loc main_v2) := (dats a m 0 c).arrAt (5 : Fin 6) (cfgA a).N

set_option backward.isDefEq.respectTransparency.types false in
set_option maxHeartbeats 1000000 in
/-- Every execution of the program terminates with the result's array at `result`, the arguments unchanged and every counter at
    zero. -/
theorem run_main (h : Exist m) : θ_run (defs (F := F)) (onTc (τ := τ) (main (F := F))) ⟨m, fun _ => 0, g⟩ (fun r => (∀ c : Dev nD,
      r.2.mem ((c.tc : Thread nD τ).loc main_v2) = result (adm m h) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frameP_track_shared (pcfgs (F := F)) (fun _ => adm m h) (dats (adm m h) m) (0 : Fin 1) (launch0 (F := F)).to₀ (defs₀ (F := F)) Variants.none m g main
    (hbody := fun c => (body_obligation (adm m h) m c).loose)
    (hq := fun _ _ _ => rfl) (howed := fun _ _ => rfl)
    (V := V m)
    (hmain := Pipeline.hmainP_prefixes (pcfgs (F := F)) (0 : Fin 1) (defs₀ (F := F)) Variants.none m main [Gen.hostOps0] Gen.hostOps0_sub
      ⟨rfl, rfl⟩ (fun c => Gen.main_chain c))
    (hA := fun _ _ => rfl) (hpf := V_pre m h) (hin := phi_first (adm m h) m) (hout := phi_last (adm m h) m)
    (Q' := _) (hQ' := fun r h' => ⟨fun c =>
      have hw := (h'.1 c).1
      have hr := (h'.1 c).2
      ⟨hw (5 : Fin 6), ((hw (0 : Fin 6)).trans ((dats (adm m h) m 0 c).arrAt_in (0 : Fin 6) rfl _)).trans (V_arg0 m c), (hr main_arg1 (Pipeline.mem_restRefs_of main_arg1 rfl (fun w => by fin_cases w <;> exact fun e => by cases e))).trans (V_arg1 m c), (hr main_arg2 (Pipeline.mem_restRefs_of main_arg2 rfl (fun w => by fin_cases w <;> exact fun e => by cases e))).trans (V_arg2 m c),
        ((hw (1 : Fin 6)).trans ((dats (adm m h) m 0 c).arrAt_in (1 : Fin 6) rfl _)).trans (V_arg3 m c), (hr main_arg4 (Pipeline.mem_restRefs_of main_arg4 rfl (fun w => by fin_cases w <;> exact fun e => by cases e))).trans (V_arg4 m c), ((hw (3 : Fin 6)).trans ((dats (adm m h) m 0 c).arrAt_in (3 : Fin 6) rfl _)).trans (V_arg5 m c), (hr main_arg6 (Pipeline.mem_restRefs_of main_arg6 rfl (fun w => by fin_cases w <;> exact fun e => by cases e))).trans (V_arg6 m c)⟩, h'.2⟩)

end Cert.Kernel2Ideal.Experts

end
-- ==== Proof.Experts.Reference.lean ====
module

public import proofs.«01_k».proof.Proof.Gen.Reference2Ideal.Run
public import Idealize.ShloMosaic.Lib.Pipeline.Value
public import Idealize.ShloMosaic.Lib.Affine
public import Idealize.ShloMosaic.Lib.Pointwise
public import proofs.«01_k».proof.Proof.Cells

@[expose] public section

set_option maxRecDepth 16384

noncomputable section

/-!
# The experts' reference, element by element
-/

namespace Cert.Reference2Ideal.Experts

open Cert.Reference2Ideal Cert.Reference2Ideal.Gen
open Idealize.ShloMosaic
open Idealize.ShloMosaic.TcCoe

/-- The blocks' experts as gather indices: a negative one counts from the end. -/
def pick (be : IVec S544 32) : IVec S544x1 32 := broadcastInDim S544x1 ![0] bcast_S544_S544x1_0 (select (cmpi .slt be (broadcastInDim S544 ![] bcast_S_S544 (constantI S_ 32 0#32))) (addi be (broadcastInDim S544 ![] bcast_S_S544 (constantI S_ 32 32#32))) be)

/-- The blocks' gate and up matrices and biases, and down matrices and biases. -/
def takeW (wg : FVec Ideal S32x1024x2048 .f32) (be : IVec S544 32) : FVec Ideal S544x1024x2048 .f32 := Host.gather gather_S32x1024x2048_S544x1_S544x1024x2048_12_0_n_n_0_1_110242048 wg (pick be)
def takeB (bg : FVec Ideal S32x2048 .f32) (be : IVec S544 32) : FVec Ideal S544x2048 .f32 := Host.gather gather_S32x2048_S544x1_S544x2048_1_0_n_n_0_1_12048 bg (pick be)
def takeV (wd : FVec Ideal S32x1024x1024 .f32) (be : IVec S544 32) : FVec Ideal S544x1024x1024 .f32 := Host.gather gather_S32x1024x1024_S544x1_S544x1024x1024_12_0_n_n_0_1_110241024 wd (pick be)
def takeD (bd : FVec Ideal S32x1024 .f32) (be : IVec S544 32) : FVec Ideal S544x1024 .f32 := Host.gather gather_S32x1024_S544x1_S544x1024_1_0_n_n_0_1_11024 bd (pick be)

/-- The gate and up lanes. -/
def hidden (x : FVec Ideal S139264x1024 .f32) (w : FVec Ideal S544x1024x2048 .f32) (b : FVec Ideal S544x2048 .f32) : FVec Ideal S544x256x2048 .f32 :=
  addf (Host.dotGeneral dot_S544x256x1024_S544x1024x2048_S544x256x2048_2_1_1_2_0_0 none (shapeCast S544x256x1024 x shapeCasts_S139264x1024_S544x256x1024) w) (broadcastInDim S544x256x2048 ![0, 1, 2] bcast_S544x1x2048_S544x256x2048_0_1_2 (broadcastInDim S544x1x2048 ![0, 2] bcast_S544x2048_S544x1x2048_0_2 b))

/-- The gated activations. -/
def acts (h : FVec Ideal S544x256x2048 .f32) : FVec Ideal S544x256x1024 .f32 :=
  mulf (mulf (minimumf (extractStridedSlice S544x256x1024 ![0, 0, 0] h slices_S544x256x2048_S544x256x1024_0_0_0) (broadcastInDim S544x256x1024 ![] bcast_S_S544x256x1024 (constant S_ .f32 0x40E00000#32))) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32)) (minimumf (extractStridedSlice S544x256x1024 ![0, 0, 0] h slices_S544x256x2048_S544x256x1024_0_0_0) (broadcastInDim S544x256x1024 ![] bcast_S_S544x256x1024 (constant S_ .f32 0x40E00000#32))))))))) (addf (minimumf (broadcastInDim S544x256x1024 ![] bcast_S_S544x256x1024 (id (constant S_ .f32 0x40E00000#32))) (maximumf (broadcastInDim S544x256x1024 ![] bcast_S_S544x256x1024 (id (constant S_ .f32 0xC0E00000#32))) (extractStridedSlice S544x256x1024 ![0, 0, 1024] h slices_S544x256x2048_S544x256x1024_0_0_1024))) (broadcastInDim S544x256x1024 ![] bcast_S_S544x256x1024 (constant S_ .f32 0x3F800000#32)))

/-- The rows out, zeros in the blocks not used. -/
def rows (y : FVec Ideal S544x256x1024 .f32) (w : FVec Ideal S544x1024x1024 .f32) (b : FVec Ideal S544x1024 .f32) (nu : IVec S1 32) : FVec Ideal S139264x1024 .f32 :=
  shapeCast S139264x1024 (select (broadcastInDim S544x256x1024 ![0, 1, 2] bcast_S544x1x1_S544x256x1024_0_1_2 (broadcastInDim S544x1x1 ![0] bcast_S544_S544x1x1_0 (cmpi .slt (iotaInDim S544 32 0) (broadcastInDim S544 ![] bcast_S_S544 (shapeCast S_ nu shapeCasts_S1_S_))))) (addf (Host.dotGeneral dot_S544x256x1024_S544x1024x1024_S544x256x1024_2_1_1_2_0_0 none y w) (broadcastInDim S544x256x1024 ![0, 1, 2] bcast_S544x1x1024_S544x256x1024_0_1_2 (broadcastInDim S544x1x1024 ![0, 2] bcast_S544x1024_S544x1x1024_0_2 b))) (broadcastInDim S544x256x1024 ![] bcast_S_S544x256x1024 (id (constant S_ .f32 0x00000000#32)))) shapeCasts_S544x256x1024_S139264x1024

/-- The reference's result from its arguments. -/
def refOut (x : FVec Ideal S139264x1024 .f32) (be : IVec S544 32) (nu : IVec S1 32) (wg : FVec Ideal S32x1024x2048 .f32) (bg : FVec Ideal S32x2048 .f32)
    (wd : FVec Ideal S32x1024x1024 .f32) (bd : FVec Ideal S32x1024 .f32) : FVec Ideal S139264x1024 .f32 :=
  rows (acts (hidden x (takeW wg be) (takeB bg be))) (takeV wd be) (takeD bd be) nu

theorem res_eq (m : (ℓ : Loc nD τ sig) → Buf (Elt Ideal) ℓ) (c : Dev nD) :
    Value.res_out0 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The index a block's expert gives, where it is one. -/
theorem pick_at (be : IVec S544 32) (n : Fin 544) (h : (be (ix1 n)).toNat < 32) : pick be (ix2 n 0) = be (ix1 n) := by
  pointwise [pick]
  have e : IntOp.cmpi CmpIPredicate.slt (be (ix1 n)) 0#32 = 0#1 := by
    have hb := BitVec.toInt_eq_toNat_of_lt (x := be (ix1 n)) (by omega)
    show BitVec.ofBool ((be (ix1 n)).slt 0#32) = 0#1
    rw [BitVec.slt, hb, decide_eq_false (by show ¬ ((be (ix1 n)).toNat : Int) < 0; omega)]
    rfl
  rw [e]
  rfl

/-- Its value. -/
theorem pick_val (be : IVec S544 32) (n : Fin 544) (e : Fin 32) (h : (be (ix1 n)).toNat = e.val) (y : S544x1.Idx) (hy : y = ix2 n 0) :
    min (pick be y).toInt.toNat 31 = e.val := by
  have he := e.isLt
  rw [hy, pick_at be n (by omega), BitVec.toInt_eq_toNat_of_lt (by omega), h]
  show min ((e.val : Int)).toNat 31 = e.val
  rw [Int.toNat_natCast]
  omega

theorem takeW_at (wg : FVec Ideal S32x1024x2048 .f32) (be : IVec S544 32) (n : Fin 544) (e : Fin 32) (he : (be (ix1 n)).toNat = e.val) (k : Fin 1024) (j : Fin 2048) :
    takeW wg be (ix3 n k j) = wg (ix3 e k j) := by
  unfold takeW Host.gather
  refine congrArg wg (funext fun a => Fin.ext ?_)
  fin_cases a
  · show GatherDims.start gather_S32x1024x2048_S544x1_S544x1024x2048_12_0_n_n_0_1_110242048 (ix3 n k j) (pick be) (0 : Fin 3) + GatherDims.batchCoord gather_S32x1024x2048_S544x1_S544x1024x2048_12_0_n_n_0_1_110242048 (ix3 n k j) (0 : Fin 3) + GatherDims.offCoord gather_S32x1024x2048_S544x1_S544x1024x2048_12_0_n_n_0_1_110242048 (ix3 n k j) (0 : Fin 3) = e.val
    rw [GatherDims.batchCoord_eq_zero _ _ _ (by decide), GatherDims.offCoord_eq_zero _ _ _ (by decide)]
    unfold GatherDims.start
    rw [dif_pos (by decide)]
    exact pick_val be n e he _ (funext fun b => by fin_cases b <;> rfl)
  · show GatherDims.start gather_S32x1024x2048_S544x1_S544x1024x2048_12_0_n_n_0_1_110242048 (ix3 n k j) (pick be) (1 : Fin 3) + GatherDims.batchCoord gather_S32x1024x2048_S544x1_S544x1024x2048_12_0_n_n_0_1_110242048 (ix3 n k j) (1 : Fin 3) + GatherDims.offCoord gather_S32x1024x2048_S544x1_S544x1024x2048_12_0_n_n_0_1_110242048 (ix3 n k j) (1 : Fin 3) = k.val
    rw [GatherDims.batchCoord_eq_zero _ _ _ (by decide)]
    unfold GatherDims.start GatherDims.offCoord
    rw [dif_neg (by decide), dif_pos (by decide)]
    exact Nat.zero_add _
  · show GatherDims.start gather_S32x1024x2048_S544x1_S544x1024x2048_12_0_n_n_0_1_110242048 (ix3 n k j) (pick be) (2 : Fin 3) + GatherDims.batchCoord gather_S32x1024x2048_S544x1_S544x1024x2048_12_0_n_n_0_1_110242048 (ix3 n k j) (2 : Fin 3) + GatherDims.offCoord gather_S32x1024x2048_S544x1_S544x1024x2048_12_0_n_n_0_1_110242048 (ix3 n k j) (2 : Fin 3) = j.val
    rw [GatherDims.batchCoord_eq_zero _ _ _ (by decide)]
    unfold GatherDims.start GatherDims.offCoord
    rw [dif_neg (by decide), dif_pos (by decide)]
    exact Nat.zero_add _

theorem takeB_at (bg : FVec Ideal S32x2048 .f32) (be : IVec S544 32) (n : Fin 544) (e : Fin 32) (he : (be (ix1 n)).toNat = e.val) (j : Fin 2048) :
    takeB bg be (ix2 n j) = bg (ix2 e j) := by
  unfold takeB Host.gather
  refine congrArg bg (funext fun a => Fin.ext ?_)
  fin_cases a
  · show GatherDims.start gather_S32x2048_S544x1_S544x2048_1_0_n_n_0_1_12048 (ix2 n j) (pick be) (0 : Fin 2) + GatherDims.batchCoord gather_S32x2048_S544x1_S544x2048_1_0_n_n_0_1_12048 (ix2 n j) (0 : Fin 2) + GatherDims.offCoord gather_S32x2048_S544x1_S544x2048_1_0_n_n_0_1_12048 (ix2 n j) (0 : Fin 2) = e.val
    rw [GatherDims.batchCoord_eq_zero _ _ _ (by decide), GatherDims.offCoord_eq_zero _ _ _ (by decide)]
    unfold GatherDims.start
    rw [dif_pos (by decide)]
    exact pick_val be n e he _ (funext fun b => by fin_cases b <;> rfl)
  · show GatherDims.start gather_S32x2048_S544x1_S544x2048_1_0_n_n_0_1_12048 (ix2 n j) (pick be) (1 : Fin 2) + GatherDims.batchCoord gather_S32x2048_S544x1_S544x2048_1_0_n_n_0_1_12048 (ix2 n j) (1 : Fin 2) + GatherDims.offCoord gather_S32x2048_S544x1_S544x2048_1_0_n_n_0_1_12048 (ix2 n j) (1 : Fin 2) = j.val
    rw [GatherDims.batchCoord_eq_zero _ _ _ (by decide)]
    unfold GatherDims.start GatherDims.offCoord
    rw [dif_neg (by decide), dif_pos (by decide)]
    exact Nat.zero_add _

theorem takeV_at (wd : FVec Ideal S32x1024x1024 .f32) (be : IVec S544 32) (n : Fin 544) (e : Fin 32) (he : (be (ix1 n)).toNat = e.val) (k : Fin 1024) (j : Fin 1024) :
    takeV wd be (ix3 n k j) = wd (ix3 e k j) := by
  unfold takeV Host.gather
  refine congrArg wd (funext fun a => Fin.ext ?_)
  fin_cases a
  · show GatherDims.start gather_S32x1024x1024_S544x1_S544x1024x1024_12_0_n_n_0_1_110241024 (ix3 n k j) (pick be) (0 : Fin 3) + GatherDims.batchCoord gather_S32x1024x1024_S544x1_S544x1024x1024_12_0_n_n_0_1_110241024 (ix3 n k j) (0 : Fin 3) + GatherDims.offCoord gather_S32x1024x1024_S544x1_S544x1024x1024_12_0_n_n_0_1_110241024 (ix3 n k j) (0 : Fin 3) = e.val
    rw [GatherDims.batchCoord_eq_zero _ _ _ (by decide), GatherDims.offCoord_eq_zero _ _ _ (by decide)]
    unfold GatherDims.start
    rw [dif_pos (by decide)]
    exact pick_val be n e he _ (funext fun b => by fin_cases b <;> rfl)
  · show GatherDims.start gather_S32x1024x1024_S544x1_S544x1024x1024_12_0_n_n_0_1_110241024 (ix3 n k j) (pick be) (1 : Fin 3) + GatherDims.batchCoord gather_S32x1024x1024_S544x1_S544x1024x1024_12_0_n_n_0_1_110241024 (ix3 n k j) (1 : Fin 3) + GatherDims.offCoord gather_S32x1024x1024_S544x1_S544x1024x1024_12_0_n_n_0_1_110241024 (ix3 n k j) (1 : Fin 3) = k.val
    rw [GatherDims.batchCoord_eq_zero _ _ _ (by decide)]
    unfold GatherDims.start GatherDims.offCoord
    rw [dif_neg (by decide), dif_pos (by decide)]
    exact Nat.zero_add _
  · show GatherDims.start gather_S32x1024x1024_S544x1_S544x1024x1024_12_0_n_n_0_1_110241024 (ix3 n k j) (pick be) (2 : Fin 3) + GatherDims.batchCoord gather_S32x1024x1024_S544x1_S544x1024x1024_12_0_n_n_0_1_110241024 (ix3 n k j) (2 : Fin 3) + GatherDims.offCoord gather_S32x1024x1024_S544x1_S544x1024x1024_12_0_n_n_0_1_110241024 (ix3 n k j) (2 : Fin 3) = j.val
    rw [GatherDims.batchCoord_eq_zero _ _ _ (by decide)]
    unfold GatherDims.start GatherDims.offCoord
    rw [dif_neg (by decide), dif_pos (by decide)]
    exact Nat.zero_add _

theorem takeD_at (bd : FVec Ideal S32x1024 .f32) (be : IVec S544 32) (n : Fin 544) (e : Fin 32) (he : (be (ix1 n)).toNat = e.val) (j : Fin 1024) :
    takeD bd be (ix2 n j) = bd (ix2 e j) := by
  unfold takeD Host.gather
  refine congrArg bd (funext fun a => Fin.ext ?_)
  fin_cases a
  · show GatherDims.start gather_S32x1024_S544x1_S544x1024_1_0_n_n_0_1_11024 (ix2 n j) (pick be) (0 : Fin 2) + GatherDims.batchCoord gather_S32x1024_S544x1_S544x1024_1_0_n_n_0_1_11024 (ix2 n j) (0 : Fin 2) + GatherDims.offCoord gather_S32x1024_S544x1_S544x1024_1_0_n_n_0_1_11024 (ix2 n j) (0 : Fin 2) = e.val
    rw [GatherDims.batchCoord_eq_zero _ _ _ (by decide), GatherDims.offCoord_eq_zero _ _ _ (by decide)]
    unfold GatherDims.start
    rw [dif_pos (by decide)]
    exact pick_val be n e he _ (funext fun b => by fin_cases b <;> rfl)
  · show GatherDims.start gather_S32x1024_S544x1_S544x1024_1_0_n_n_0_1_11024 (ix2 n j) (pick be) (1 : Fin 2) + GatherDims.batchCoord gather_S32x1024_S544x1_S544x1024_1_0_n_n_0_1_11024 (ix2 n j) (1 : Fin 2) + GatherDims.offCoord gather_S32x1024_S544x1_S544x1024_1_0_n_n_0_1_11024 (ix2 n j) (1 : Fin 2) = j.val
    rw [GatherDims.batchCoord_eq_zero _ _ _ (by decide)]
    unfold GatherDims.start GatherDims.offCoord
    rw [dif_neg (by decide), dif_pos (by decide)]
    exact Nat.zero_add _

/-- The zero of a row not used. -/
def none32 : EReal := Ideal.ofBits FTy.f32 0#32

/-- A lane before the activation: row `i` by column `j` of the expert's matrix, and the bias. -/
def lane (x : FVec Ideal S139264x1024 .f32) (wg : FVec Ideal S32x1024x2048 .f32) (bg : FVec Ideal S32x2048 .f32) (e : Fin 32) (i : Fin 139264) (j : Fin 2048) : EReal :=
  (∑ k : Fin 1024, x (ix2 i k) * wg (ix3 e k j)) + bg (ix2 e j)

/-- The activation of a gate and an up lane. -/
def actv (g u : EReal) : EReal :=
  min g (Ideal.ofBits FTy.f32 1088421888#32) * Ideal.div 1 (1 + Ideal.exp (-(Ideal.ofBits FTy.f32 1071242019#32 * min g (Ideal.ofBits FTy.f32 1088421888#32))))
    * (min (Ideal.ofBits FTy.f32 1088421888#32) (max (Ideal.ofBits FTy.f32 3235905536#32) u) + 1)

/-- Row `i` out of expert `e`, at column `d`. -/
def outE (x : FVec Ideal S139264x1024 .f32) (wg : FVec Ideal S32x1024x2048 .f32) (bg : FVec Ideal S32x2048 .f32)
    (wd : FVec Ideal S32x1024x1024 .f32) (bd : FVec Ideal S32x1024 .f32) (e : Fin 32) (i : Fin 139264) (d : Fin 1024) : EReal :=
  (∑ f : Fin 1024, actv (lane x wg bg e i ⟨f.val, by omega⟩) (lane x wg bg e i ⟨1024 + f.val, by omega⟩) * wd (ix3 e f d)) + bd (ix2 e d)

theorem hidden_at (x : FVec Ideal S139264x1024 .f32) (w : FVec Ideal S544x1024x2048 .f32) (b : FVec Ideal S544x2048 .f32) (n : Fin 544) (r : Fin 256) (j : Fin 2048) :
    hidden x w b (ix3 n r j) = (∑ k : Fin 1024, x (ix2 ⟨n.val * 256 + r.val, by omega⟩ k) * w (ix3 n k j)) + b (ix2 n j) := by
  pointwise [hidden]

theorem acts_at (h : FVec Ideal S544x256x2048 .f32) (n : Fin 544) (r : Fin 256) (j : Fin 1024) :
    acts h (ix3 n r j) = actv (h (ix3 n r ⟨j.val, by omega⟩)) (h (ix3 n r ⟨1024 + j.val, by omega⟩)) := by
  pointwise [acts]
  rfl

theorem rows_at (y : FVec Ideal S544x256x1024 .f32) (w : FVec Ideal S544x1024x1024 .f32) (b : FVec Ideal S544x1024 .f32) (nu : IVec S1 32) (i : Fin 139264) (d : Fin 1024)
    (n : Fin 544) (r : Fin 256) (hn : i.val / 256 = n.val) (hr : i.val % 256 = r.val) :
    rows y w b nu (ix2 i d) = Scalar.select (IntOp.cmpi CmpIPredicate.slt (BitVec.ofNat 32 n.val) (nu (ix1 0)))
      ((∑ x : Fin 1024, y (ix3 n r x) * w (ix3 n x d)) + b (ix2 n d)) none32 := by
  obtain rfl : n = ⟨i.val / 256, Nat.div_lt_of_lt_mul i.isLt⟩ := Fin.ext hn.symm
  obtain rfl : r = ⟨i.val % 256, Nat.mod_lt _ (by decide)⟩ := Fin.ext hr.symm
  pointwise [rows]
  rfl

/-- The reference's result at an element. -/
theorem ref_at (x : FVec Ideal S139264x1024 .f32) (be : IVec S544 32) (nu : IVec S1 32) (wg : FVec Ideal S32x1024x2048 .f32) (bg : FVec Ideal S32x2048 .f32)
    (wd : FVec Ideal S32x1024x1024 .f32) (bd : FVec Ideal S32x1024 .f32) (i : Fin 139264) (d : Fin 1024)
    (n : Fin 544) (r : Fin 256) (hi : i.val = n.val * 256 + r.val) (e : Fin 32) (he : (be (ix1 n)).toNat = e.val) :
    refOut x be nu wg bg wd bd (ix2 i d) = Scalar.select (IntOp.cmpi CmpIPredicate.slt (BitVec.ofNat 32 n.val) (nu (ix1 0)))
      (outE x wg bg wd bd e i d) none32 := by
  unfold refOut
  rw [rows_at _ _ _ _ i d n r (by omega) (by omega)]
  have hl : ∀ j : Fin 2048, hidden x (takeW wg be) (takeB bg be) (ix3 n r j) = lane x wg bg e i j := fun j => by
    rw [hidden_at, takeB_at bg be n e he]
    unfold lane
    refine congrArg (· + _) (Finset.sum_congr rfl fun k _ => ?_)
    rw [takeW_at wg be n e he]
    exact congrArg (fun q => x (ix2 q k) * _) (Fin.ext hi.symm)
  refine congrArg (fun z => Scalar.select _ z _) ?_
  rw [takeD_at bd be n e he]
  unfold outE
  refine congrArg (· + _) (Finset.sum_congr rfl fun f _ => ?_)
  rw [takeV_at wd be n e he, acts_at, hl, hl]

end Cert.Reference2Ideal.Experts

end
-- ==== Proof.Experts.Value.lean ====
module

public import proofs.«01_k».proof.Proof.Gen.Kernel2Ideal.Skeleton
public import proofs.«01_k».proof.Proof.Gen.Kernel2Ideal.Launch
public import proofs.«01_k».proof.Proof.Experts.Launch
public import proofs.«01_k».proof.Proof.Experts.Reference
public import proofs.«01_k».proof.Pre_experts_exist
public import Idealize.ShloMosaic.Lib.Pipeline.ValueKit
public import Idealize.ShloMosaic.Lib.ReduceAll

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Reference2Ideal.Experts (lane actv outE refOut ref_at none32)

/-! ## The kernel's arithmetic at an element -/

theorem pay1_at (x : S1x1024x2048.Idx → EReal) (k : Fin 1024) (j : Fin 2048) : (k0_pay1 (F := Ideal) x (ix2 k j) : EReal) = x (ix3 0 k j) := by
  pointwise [k0_pay1]
theorem pay2_at (x : S1x1024x1024.Idx → EReal) (k : Fin 1024) (j : Fin 1024) : (k0_pay2 (F := Ideal) x (ix2 k j) : EReal) = x (ix3 0 k j) := by
  pointwise [k0_pay2]
theorem pay3_at (r : Fin 256) (d : Fin 1024) : (k0_pay3 (F := Ideal) (ix2 r d) : EReal) = none32 := rfl

/-- The gate and up lanes of a block. -/
def laneB (x : S256x1024.Idx → EReal) (w : S1024x2048.Idx → EReal) (b : S1x1x2048.Idx → EReal) (r : Fin 256) (j : Fin 2048) : EReal :=
  (∑ k : Fin 1024, x (ix2 r k) * w (ix2 k j)) + b (ix3 0 0 j)

theorem pay4_at (x : S256x1024.Idx → EReal) (w : S1024x2048.Idx → EReal) (b : S1x1x2048.Idx → EReal) (wd : S1024x1024.Idx → EReal) (bd : S1x1x1024.Idx → EReal)
    (r : Fin 256) (d : Fin 1024) : (k0_pay4 (F := Ideal) x w b wd bd (ix2 r d) : EReal)
      = (∑ f : Fin 1024, actv (laneB x w b r ⟨f.val, by omega⟩) (laneB x w b r ⟨1024 + f.val, by omega⟩) * wd (ix2 f d)) + bd (ix3 0 0 d) := by
  pointwise [k0_pay4]
  unfold laneB actv
  simp only [zero_sub]

variable (m : (ℓ : Loc nD τ sig) → Buf (Elt Ideal) ℓ) (a : (pcfg0 (F := Ideal)).Adm) (c : Dev nD)

/-! ## The blocks a point reads, element by element -/

/-- The arguments as arrays: rows, experts of the blocks, number used, gate and up matrices and biases, down matrices and biases. -/
def A0 : FVec Ideal S139264x1024 .f32 := m ((c.tc : Thread nD τ).loc main_arg0)
def A1 : IVec S544 32 := m ((c.tc : Thread nD τ).loc main_arg1)
def A2 : IVec S1 32 := m ((c.tc : Thread nD τ).loc main_arg2)
def A3 : FVec Ideal S32x1024x2048 .f32 := m ((c.tc : Thread nD τ).loc main_arg3)
def A4 : FVec Ideal S32x2048 .f32 := m ((c.tc : Thread nD τ).loc main_arg4)
def A5 : FVec Ideal S32x1024x1024 .f32 := m ((c.tc : Thread nD τ).loc main_arg5)
def A6 : FVec Ideal S32x1024 .f32 := m ((c.tc : Thread nD τ).loc main_arg6)

theorem V_v0 (e : Fin 32) (j : Fin 2048) : (V m c main_v0 (ix3 e 0 j) : EReal) = A4 m c (ix2 e j) := by
  have : V m c main_v0 = (broadcastInDim S32x1x2048 ![0, 2] bcast_S32x2048_S32x1x2048_0_2 (A4 m c) : FVec Ideal S32x1x2048 .f32) := by
    unfold V; simp only [List.flatten_cons, List.flatten_nil, List.append_nil]; rfl
  rw [this]
  pointwise []
theorem V_v1 (e : Fin 32) (j : Fin 1024) : (V m c main_v1 (ix3 e 0 j) : EReal) = A6 m c (ix2 e j) := by
  have : V m c main_v1 = (broadcastInDim S32x1x1024 ![0, 2] bcast_S32x1024_S32x1x1024_0_2 (A6 m c) : FVec Ideal S32x1x1024 .f32) := by
    unfold V; simp only [List.flatten_cons, List.flatten_nil, List.append_nil]; rfl
  rw [this]
  pointwise []

variable (t : Fin (cfgA a).N) (e : Fin 32) (he : (be a (pt a t)).toNat = e.val)

theorem row_lt (r : Fin 256) : t.val * 256 + r.val < 139264 := by
  have h1 := lt_of_lt_of_eq t.isLt (N_A a); have := r.isLt; omega

theorem iblk0_at (r : Fin 256) (k : Fin 1024) : (iblk a m c (0 : Fin 6) t (ix2 r k) : EReal) = A0 m c (ix2 ⟨t.val * 256 + r.val, row_lt a t r⟩ k) := by
  refine (congrArg (V m c main_arg0) (funext fun q => Fin.ext ?_)).trans (congrFun (V_arg0 m c) _)
  refine (Pipeline.Window.rect_emb_val ((cfgA a).win (0 : Fin 6)) t (ix2 r k) q).trans ?_
  rw [index0]
  fin_cases q
  · rfl
  · exact (Nat.zero_add _)

include he in
theorem iblk1_at (k : Fin 1024) (j : Fin 2048) : (iblk a m c (1 : Fin 6) t (ix3 0 k j) : EReal) = A3 m c (ix3 e k j) := by
  refine (congrArg (V m c main_arg3) (funext fun q => Fin.ext ?_)).trans (congrFun (V_arg3 m c) _)
  refine (Pipeline.Window.rect_emb_val ((cfgA a).win (1 : Fin 6)) t (ix3 0 k j) q).trans ?_
  rw [index1, he]
  fin_cases q
  · exact (Nat.mul_one e.val)
  · show 0 * 1024 + k.val = k.val; omega
  · show 0 * 2048 + j.val = j.val; omega

include he in
theorem iblk2_at (j : Fin 2048) : (iblk a m c (2 : Fin 6) t (ix3 0 0 j) : EReal) = A4 m c (ix2 e j) := by
  refine (congrArg (V m c main_v0) (funext fun q => Fin.ext ?_)).trans (V_v0 m c e j)
  refine (Pipeline.Window.rect_emb_val ((cfgA a).win (2 : Fin 6)) t (ix3 0 0 j) q).trans ?_
  rw [index2, he]
  fin_cases q
  · exact (Nat.mul_one e.val)
  · rfl
  · show 0 * 2048 + j.val = j.val; omega

include he in
theorem iblk3_at (k : Fin 1024) (j : Fin 1024) : (iblk a m c (3 : Fin 6) t (ix3 0 k j) : EReal) = A5 m c (ix3 e k j) := by
  refine (congrArg (V m c main_arg5) (funext fun q => Fin.ext ?_)).trans (congrFun (V_arg5 m c) _)
  refine (Pipeline.Window.rect_emb_val ((cfgA a).win (3 : Fin 6)) t (ix3 0 k j) q).trans ?_
  rw [index3, he]
  fin_cases q
  · exact (Nat.mul_one e.val)
  · show 0 * 1024 + k.val = k.val; omega
  · show 0 * 1024 + j.val = j.val; omega

include he in
theorem iblk4_at (j : Fin 1024) : (iblk a m c (4 : Fin 6) t (ix3 0 0 j) : EReal) = A6 m c (ix2 e j) := by
  refine (congrArg (V m c main_v1) (funext fun q => Fin.ext ?_)).trans (V_v1 m c e j)
  refine (Pipeline.Window.rect_emb_val ((cfgA a).win (4 : Fin 6)) t (ix3 0 0 j) q).trans ?_
  rw [index4, he]
  fin_cases q
  · exact (Nat.mul_one e.val)
  · rfl
  · show 0 * 1024 + j.val = j.val; omega

theorem mats_wgu : (mats a m c t).wgu = k0_pay1 (F := Ideal) (iblk a m c (1 : Fin 6) t) := rfl
theorem mats_wd : (mats a m c t).wd = k0_pay2 (F := Ideal) (iblk a m c (3 : Fin 6) t) := rfl

include he in
/-- The matrices carried, element by element. -/
theorem wgu_at (k : Fin 1024) (j : Fin 2048) : ((mats a m c t).wgu (ix2 k j) : EReal) = A3 m c (ix3 e k j) := by
  rw [mats_wgu]
  have h1 := pay1_at (iblk a m c (1 : Fin 6) t) k j
  have h2 := iblk1_at m a c t e he k j
  rw [h1, h2]
include he in
theorem wd_at (k : Fin 1024) (j : Fin 1024) : ((mats a m c t).wd (ix2 k j) : EReal) = A5 m c (ix3 e k j) := by
  rw [mats_wd]
  have h1 := pay2_at (iblk a m c (3 : Fin 6) t) k j
  have h2 := iblk3_at m a c t e he k j
  rw [h1, h2]

include he in
/-- A lane of a point is the reference's. -/
theorem lane_eq (r : Fin 256) (j : Fin 2048) :
    laneB (iblk a m c (0 : Fin 6) t) (mats a m c t).wgu (iblk a m c (2 : Fin 6) t) r j
      = lane (A0 m c) (A3 m c) (A4 m c) e ⟨t.val * 256 + r.val, row_lt a t r⟩ j := by
  exact congrArg₂ (fun y z : EReal => y + z)
    (Finset.sum_congr rfl fun k _ => congrArg₂ (fun y z : EReal => y * z) (iblk0_at m a c t r k) (wgu_at m a c t e he k j))
    (iblk2_at m a c t e he j)

include he in
/-- A used block's row is the reference's. -/
theorem out_eq (r : Fin 256) (d : Fin 1024) :
    (outOf (iblk a m c (0 : Fin 6) t) (iblk a m c (2 : Fin 6) t) (iblk a m c (4 : Fin 6) t) (mats a m c t) (ix2 r d) : EReal)
      = outE (A0 m c) (A3 m c) (A4 m c) (A5 m c) (A6 m c) e ⟨t.val * 256 + r.val, row_lt a t r⟩ d := by
  refine (pay4_at _ _ _ _ _ r d).trans ?_
  exact congrArg₂ (fun y z : EReal => y + z)
    (Finset.sum_congr rfl fun f _ => congrArg₂ (fun y z : EReal => y * z)
      (congrArg₂ actv (lane_eq m a c t e he r _) (lane_eq m a c t e he r _)) (wd_at m a c t e he f d))
    (iblk4_at m a c t e he d)

/-- The reference's result from the arguments. -/
def ref : FVec Ideal S139264x1024 .f32 := refOut (A0 m c) (A1 m c) (A2 m c) (A3 m c) (A4 m c) (A5 m c) (A6 m c)

open Classical in
/-- What a point writes is the reference's. -/
theorem wrote_at (hb : ∀ n, be a n = A1 m 0 (ix1 n)) (hn : nu a = A2 m 0 (ix1 0)) (hl : ∀ n, (be a n).toNat < 32) (r : Fin 256) (d : Fin 1024) :
    (wrote a m c t (ix2 r d) : EReal) = ref m c (ix2 ⟨t.val * 256 + r.val, row_lt a t r⟩ d) := by
  obtain rfl : c = 0 := Subsingleton.elim (α := Fin 1) c 0
  have hlt : (be a (pt a t)).toNat < 32 := hl _
  have hp := pt_val a t
  unfold ref
  rw [ref_at (A0 m 0) (A1 m 0) (A2 m 0) (A3 m 0) (A4 m 0) (A5 m 0) (A6 m 0) ⟨t.val * 256 + r.val, row_lt a t r⟩ d (pt a t) r
    (by rw [hp]) ⟨_, hlt⟩ (congrArg BitVec.toNat (hb _)).symm]
  unfold wrote
  have hu : used a (pt a t) ↔ (BitVec.ofNat 32 (pt a t).val).toInt < (A2 m 0 (ix1 0) : BitVec 32).toInt := by
    rw [word_int, ← hn]; exact Iff.rfl
  by_cases hq : used a (pt a t)
  · rw [if_pos hq, show IntOp.cmpi CmpIPredicate.slt (BitVec.ofNat 32 (pt a t).val) (A2 m 0 (ix1 0)) = 1#1 from by
      show BitVec.ofBool (BitVec.slt _ _) = 1#1
      rw [BitVec.slt, decide_eq_true (hu.1 hq)]; rfl]
    exact out_eq m a 0 t ⟨_, hlt⟩ rfl r d
  · rw [if_neg hq, show IntOp.cmpi CmpIPredicate.slt (BitVec.ofNat 32 (pt a t).val) (A2 m 0 (ix1 0)) = 0#1 from by
      show BitVec.ofBool (BitVec.slt _ _) = 0#1
      rw [BitVec.slt, decide_eq_false (fun z => hq (hu.2 z))]; rfl]
    rfl

/-- The blocks written cover the result. -/
theorem cover (x : (⟨2, ![139264, 1024]⟩ : Shape).Idx) : ∃ t : Fin (cfgA a).N,
    ((cfgA a).win (5 : Fin 6)).flush t = true ∧ x ∈ (((cfgA a).win (5 : Fin 6)).blk t).view.set := by
  have x0 : (x 0).val < 139264 := (x 0).isLt
  have x1 : (x 1).val < 1024 := (x 1).isLt
  let t : Fin (cfgA a).N := ⟨(x 0).val / 256, by rw [N_A]; omega⟩
  refine ⟨t, flush5 a t, (Pipeline.Window.emb_mem_blk_iff ((cfgA a).win (5 : Fin 6)) t x).mpr fun q => ?_⟩
  rw [index5]
  match q with
  | ⟨0, _⟩ =>
    show (x 0).val / 256 * 256 ≤ (x 0).val ∧ (x 0).val < (x 0).val / 256 * 256 + 256
    omega
  | ⟨1, _⟩ =>
    show 0 * 1024 ≤ (x 1).val ∧ (x 1).val < 0 * 1024 + 1024
    omega

/-- What the pipeline leaves in the result's array is the reference's result. -/
theorem result_eq (hb : ∀ n, be a n = A1 m 0 (ix1 n)) (hn : nu a = A2 m 0 (ix1 0)) (hl : ∀ n, (be a n).toNat < 32) : result a m c = ref m c := by
  unfold result
  refine (dats a m 0 c).arrAt_eq_of_emb (5 : Fin 6) (ref m c) (fun t hf y => ?_) (cover a)
  have eta : ∀ y : S256x1024.Idx, ∃ (r : Fin 256) (d : Fin 1024), y = ix2 r d := fun y => ⟨y 0, y 1, eq_ix2 y⟩
  obtain ⟨r, d, rfl⟩ := eta y
  refine (wrote_at m a c t hb hn hl r d).trans (congrArg (ref m c) (funext fun q => Fin.ext ?_))
  refine Eq.trans ?_ (Pipeline.Window.rect_emb_val ((cfgA a).win (5 : Fin 6)) t (ix2 r d) q).symm
  rw [index5]
  fin_cases q
  · rfl
  · exact (Nat.zero_add d.val).symm

end Cert.Kernel2Ideal.Experts

end
-- ==== Proof.Experts.Exist.lean ====
module

public import proofs.«01_k».proof.Pre_experts_exist
public import Idealize.ShloMosaic.Lib.ReduceAll
public import Idealize.ShloMosaic.Lib.Affine
public import Idealize.ShloMosaic.Lib.Pipeline.Value

@[expose] public section

set_option maxRecDepth 16384

noncomputable section

/-!
# What the experts' precondition says

Its shape facts, and that where it holds every block's expert is one of the thirty-two.
-/

namespace Cert.Experts

open Idealize.ShloMosaic

/-- The precondition's shape facts. -/
theorem pre_facts : Cert.Pre_experts_exist.Facts where
  bcast_S_S544 := by decide
  reducesTo_S544_S_d0 := by decide
  h_S_ := by decide

/-- A word from zero on and below thirty-two, signed, is below thirty-two. -/
theorem word_lt (b : BitVec 32) (h0 : IntOp.cmpi .sge b 0#32 = 1#1) (h1 : IntOp.cmpi .slt b 32#32 = 1#1) : b.toNat < 32 := by
  have e0 : BitVec.sle 0#32 b = true := by
    have : BitVec.ofBool (BitVec.sle 0#32 b) = 1#1 := h0
    revert this; cases BitVec.sle 0#32 b <;> decide
  have e1 : BitVec.slt b 32#32 = true := by
    have : BitVec.ofBool (BitVec.slt b 32#32) = 1#1 := h1
    revert this; cases BitVec.slt b 32#32 <;> decide
  rw [BitVec.sle, decide_eq_true_iff] at e0
  rw [BitVec.slt, decide_eq_true_iff] at e1
  have z : (0#32).toInt = 0 := by decide
  have w : (32#32).toInt = 32 := by decide
  rw [z] at e0
  rw [w] at e1
  have := BitVec.toInt_eq_toNat_cond b
  have hl := b.isLt
  split at this <;> omega

/-- Where the precondition holds, every block's expert exists. -/
theorem exist {F : FTy → Type} [FloatOps F] [hF : Cert.Pre_experts_exist.Facts] (a0 : FVec F Cert.Pre_experts_exist.S139264x1024 .f32) (a1 : IVec Cert.Pre_experts_exist.S544 32)
    (a2 : IVec Cert.Pre_experts_exist.S1 32) (a3 : FVec F Cert.Pre_experts_exist.S32x1024x2048 .f32) (a4 : FVec F Cert.Pre_experts_exist.S32x2048 .f32)
    (a5 : FVec F Cert.Pre_experts_exist.S32x1024x1024 .f32) (a6 : FVec F Cert.Pre_experts_exist.S32x1024 .f32)
    (h : Cert.Pre_experts_exist.fn (F := F) a0 a1 a2 a3 a4 a5 a6 = fun _ => 1#1) (y : Cert.Pre_experts_exist.S544.Idx) : (a1 y).toNat < 32 := by
  haveI : Subsingleton Cert.Pre_experts_exist.S_.Idx := ⟨fun a b => funext fun i => absurd i.isLt (Nat.not_lt_zero _)⟩
  have h' := IntOp.andi_eq_one.1 (Host.reduce_andi_all _ _ _ _ _ (congrFun h (fun i => absurd i.isLt (Nat.not_lt_zero _))) y)
  exact word_lt _ h'.1 h'.2

end Cert.Experts

end
-- ==== Proof.Proj.Odd.lean ====
module

public import proofs.«01_k».proof.Proof.Gen.Kernel3Ideal.Skeleton
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

/-!
# The odd layers' input projection: the blocks written are those of one product
-/

namespace Cert.Kernel3Ideal.Proj

open Cert.Kernel3Ideal Cert.Kernel3Ideal.Gen Cert.Kernel3Ideal.Value
open Idealize.ShloMosaic Idealize.ShloMosaic.TcCoe Idealize.ShloMosaic.Tactic Idealize.SL.Sem
open Idealize.ShloMosaic.Pipeline (Dat)

theorem origin : (![0, 0] : Fin 2 → Nat) = fun _ => 0 := funext fun a => by fin_cases a <;> rfl

/-! ## What a point leaves -/

section Point

variable {F : FTy → Type} [FloatOps F]
variable (c : Dev nD) (i : grid0.Coords) (a2 : Memref sig .tc .vmem S1024x1024 .f32) (h2 : a2.IsWhole) (a3 : Memref sig .tc .vmem S1024x512 .f32) (h3 : a3.IsWhole)
    (a4 : Memref sig .tc .vmem S1024x512 .bf16) (h4 : a4.IsWhole) (a5 : Memref sig .tc .vmem S1024x1024 .bf16) (h5 : a5.IsWhole)
    (x : Vec F S1024x1024 .f32) (w : Vec F S1024x512 .f32) (xb : Vec F S1024x1024 .bf16)

/-- Where the rows are fresh, they are cast and kept. -/
theorem kept_fresh (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h2.read_unread, View.ld_unit_zero (S := S1024x1024) origin]

/-- … and the block written is their product with the columns. -/
theorem out_fresh (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S1024x1024) _ origin]
  simp only [View.readAt_eq_ld, h2.read_unread, h3.read_unread, View.ld_unit_zero (S := S1024x1024) origin, View.ld_unit_zero (S := S1024x512) origin]

/-- Elsewhere it is the product of the rows kept with the columns. -/
theorem out_kept (hc : ¬cond0_0 i) : out0_B_2 c i a2 h2 a3 h3 a4 h4 a5 h5 hc x w xb = k0_pay2 xb w := by
  unfold out0_B_2
  rw [View.read_writes_eq_canon _ _ _ (cover0_B_2 c i a2 h2 a3 h3 a4 h4 a5 h5 hc x w xb)]
  unfold kernelRun0_B
  dsimp only
  rw [View.canon_unit_zero origin]
  simp only [View.readAt_eq_ld, h3.read_unread, h5.read_unread, View.ld_unit_zero (S := S1024x1024) origin, View.ld_unit_zero (S := S1024x512) origin]

end Point

theorem pay1_at (x : S1024x1024.Idx → EReal) (r k : Fin 1024) : (k0_pay1 (F := Ideal) x (ix2 r k) : EReal) = x (ix2 r k) := by
  pointwise [k0_pay1]
theorem pay2_at (x : S1024x1024.Idx → EReal) (w : S1024x512.Idx → EReal) (r : Fin 1024) (j : Fin 512) :
    (k0_pay2 (F := Ideal) x w (ix2 r j) : EReal) = ∑ k : Fin 1024, x (ix2 r k) * w (ix2 k j) := by
  pointwise [k0_pay2]

variable (m : (ℓ : Loc nD τ sig) → Buf (Elt Ideal) ℓ) (c : Dev nD)

/-- The arguments as arrays: rows, and the matrix of all columns. -/
def A0 : FVec Ideal S32768x1024 .f32 := m ((c.tc : Thread nD τ).loc main_arg0)
def A1 : FVec Ideal S1024x4112 .f32 := m ((c.tc : Thread nD τ).loc main_arg1)

/-- The matrix of the columns taken. -/
theorem V_v0 (k : Fin 1024) (j : Fin 4096) : (V m c main_v0 (ix2 k j) : EReal) = A1 m c (ix2 k ⟨j.val, by omega⟩) := by
  have : V m c main_v0 = (extractStridedSlice S1024x4096 ![0, 0] (A1 m c) slices_S1024x4112_S1024x4096_0_0 : FVec Ideal S1024x4096 .f32) := by
    unfold V; rfl
  rw [this]
  pointwise []

/-- Which rows and columns a point takes. -/
theorem idx0 : ∀ t : Fin cfg0.N, win0_0.index t (0 : Fin 2) = t.val / 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = t.val / 8 ∧ win0_2.index t (1 : Fin 2) = t.val % 8 :=
  (by decide +kernel : ∀ t : Fin grid0.N, _)

theorem row_lt (n : ℕ) (hn : n < cfg0.N) (r : Fin 1024) : n / 8 * 1024 + r.val < 32768 := by
  have h1 := lt_of_lt_of_eq hn (show cfg0.N = 256 from N_0); have := r.isLt; omega
theorem col_lt (n : ℕ) (j : Fin 512) : n % 8 * 512 + j.val < 4096 := by have := j.isLt; omega

theorem iblk0_at (t : Fin cfg0.N) (r k : Fin 1024) : (iblk m c (0 : Fin 3) t (ix2 r k) : EReal) = A0 m c (ix2 ⟨t.val / 8 * 1024 + r.val, row_lt t.val t.isLt r⟩ k) := by
  refine (congrArg (V m c main_arg0) (funext fun q => Fin.ext ?_)).trans (congrFun (V_main_arg0 m c) _)
  refine (Pipeline.Window.rect_emb_val (cfg0.win (0 : Fin 3)) t (ix2 r k) q).trans ?_
  obtain ⟨e0, e1⟩ := idx0 t
  fin_cases q
  · show win0_0.index t (0 : Fin 2) * 1024 + r.val = t.val / 8 * 1024 + r.val; rw [e0]
  · show win0_0.index t (1 : Fin 2) * 1024 + k.val = k.val; rw [e1]; omega

theorem iblk1_at (t : Fin cfg0.N) (k : Fin 1024) (j : Fin 512) : (iblk m c (1 : Fin 3) t (ix2 k j) : EReal) = A1 m c (ix2 k ⟨t.val % 8 * 512 + j.val, by omega⟩) := by
  refine (congrArg (V m c main_v0) (funext fun q => Fin.ext ?_)).trans (V_v0 m c k ⟨t.val % 8 * 512 + j.val, col_lt t.val j⟩)
  refine (Pipeline.Window.rect_emb_val (cfg0.win (1 : Fin 3)) t (ix2 k j) q).trans ?_
  obtain ⟨e0, e1⟩ := idx1 t
  fin_cases q
  · show win0_1.index t (0 : Fin 2) * 1024 + k.val = k.val; rw [e0]; omega
  · show win0_1.index t (1 : Fin 2) * 512 + j.val = t.val % 8 * 512 + j.val; rw [e1]

/-- The rows kept after a point are those of its row block. -/
theorem kept_at : ∀ (n : ℕ) (hn : n < cfg0.N) (r k : Fin 1024),
    ((outsAt0 m c n hn).2 (ix2 r k) : EReal) = A0 m c (ix2 ⟨n / 8 * 1024 + r.val, row_lt n hn r⟩ k) := by
  intro n
  induction n with
  | zero =>
    intro hn r k
    rw [outsAt0_A m c ⟨0, hn⟩ rfl, kept_fresh]
    exact (pay1_at _ r k).trans (iblk0_at m c ⟨0, hn⟩ r k)
  | succ n ih =>
    intro hn r k
    by_cases h : (n + 1) % 8 = 0
    · rw [outsAt0_A m c ⟨n + 1, hn⟩ h, kept_fresh]
      exact (pay1_at _ r k).trans (iblk0_at m c ⟨n + 1, hn⟩ r k)
    · rw [outsAt0_B m c ⟨n + 1, hn⟩ h]
      refine (ih (Nat.lt_of_succ_lt hn) r k).trans (congrArg (fun z => A0 m c (ix2 z k)) (Fin.ext ?_))
      show n / 8 * 1024 + r.val = (n + 1) / 8 * 1024 + r.val
      omega

/-- The product at an element. -/
def prod (x : FVec Ideal S32768x1024 .f32) (w : FVec Ideal S1024x4112 .f32) : FVec Ideal S32768x4096 .bf16 :=
  truncf .bf16 (extractStridedSlice Cert.Reference3Ideal.S32768x4096 ![0, 0] (Host.dotGeneral Cert.Reference3Ideal.dot_S32768x1024_S1024x4112_S32768x4112_1_0_0_1_n_n none x w) Cert.Reference3Ideal.Gen.slices_S32768x4112_S32768x4096_0_0) Cert.Reference3Ideal.Gen.bitsLt_bf16_f32

theorem prod_at (x : FVec Ideal S32768x1024 .f32) (w : FVec Ideal S1024x4112 .f32) (i : Fin 32768) (j : Fin 4096) :
    (prod x w (ix2 i j) : EReal) = ∑ k : Fin 1024, x (ix2 i k) * w (ix2 k ⟨j.val, by omega⟩) := by
  pointwise [prod]

/-- The block a point writes is the product's. -/
theorem wrote_at (t : Fin cfg0.N) (r : Fin 1024) (j : Fin 512) :
    ((outsAt0 m c t.val t.isLt).1 (ix2 r j) : EReal) = prod (A0 m c) (A1 m c) (ix2 ⟨t.val / 8 * 1024 + r.val, row_lt t.val t.isLt r⟩ ⟨t.val % 8 * 512 + j.val, col_lt t.val j⟩) := by
  rw [prod_at]
  by_cases h : t.val % 8 = 0
  · rw [outsAt0_A m c t h, out_fresh]
    refine (pay2_at _ _ r j).trans (Finset.sum_congr rfl fun k _ => ?_)
    exact congrArg₂ (fun y z : EReal => y * z) ((pay1_at _ r k).trans (iblk0_at m c t r k)) (iblk1_at m c t k j)
  · rw [outsAt0_B m c t h, out_kept]
    refine (pay2_at _ _ r j).trans (Finset.sum_congr rfl fun k _ => ?_)
    refine congrArg₂ (fun y z : EReal => y * z) ((kept_at m c (t.val - 1) _ r k).trans (congrArg (fun z => A0 m c (ix2 z k)) (Fin.ext ?_))) (iblk1_at m c t k j)
    show (t.val - 1) / 8 * 1024 + r.val = t.val / 8 * 1024 + r.val
    omega

/-- The array after the run is the product. -/
theorem result_eq : (dats m 0 c).arrAt 2 cfg0.N = prod (A0 m c) (A1 m c) := by
  refine (dats m 0 c).arrAt_eq_of_emb (2 : Fin 3) (prod (A0 m c) (A1 m c)) (fun t hf y => ?_) (fun i => (covered_iff2 i).2 (by
    have h0 : (i 0).val < 32768 := (i 0).isLt; have h1 : (i 1).val < 4096 := (i 1).isLt; omega))
  have eta : ∀ y : S1024x512.Idx, ∃ (r : Fin 1024) (j : Fin 512), y = ix2 r j := fun y => ⟨y 0, y 1, eq_ix2 y⟩
  obtain ⟨r, j, rfl⟩ := eta y
  refine (wrote_at m c t r j).trans (congrArg (prod (A0 m c) (A1 m c)) (funext fun q => Fin.ext ?_))
  refine Eq.trans ?_ (Pipeline.Window.rect_emb_val (cfg0.win (2 : Fin 3)) t (ix2 r j) q).symm
  obtain ⟨e0, e1⟩ := idx2 t
  fin_cases q
  · show t.val / 8 * 1024 + r.val = win0_2.index t (0 : Fin 2) * 1024 + r.val; rw [e0]
  · show t.val % 8 * 512 + j.val = win0_2.index t (1 : Fin 2) * 512 + j.val; rw [e1]

end Cert.Kernel3Ideal.Proj

end
-- ==== Proof.Proj.Even.lean ====
module

public import proofs.«01_k».proof.Proof.Gen.Kernel4Ideal.Skeleton
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

/-!
# The even layers' input projection: the blocks written are those of one product
-/

namespace Cert.Kernel4Ideal.Proj

open Cert.Kernel4Ideal Cert.Kernel4Ideal.Gen Cert.Kernel4Ideal.Value
open Idealize.ShloMosaic Idealize.ShloMosaic.TcCoe Idealize.ShloMosaic.Tactic Idealize.SL.Sem
open Idealize.ShloMosaic.Pipeline (Dat)

theorem origin : (![0, 0] : Fin 2 → Nat) = fun _ => 0 := funext fun a => by fin_cases a <;> rfl

/-! ## What a point leaves -/

section Point

variable {F : FTy → Type} [FloatOps F]
variable (c : Dev nD) (i : grid0.Coords) (a2 : Memref sig .tc .vmem S1024x1024 .f32) (h2 : a2.IsWhole) (a3 : Memref sig .tc .vmem S1024x512 .f32) (h3 : a3.IsWhole)
    (a4 : Memref sig .tc .vmem S1024x512 .bf16) (h4 : a4.IsWhole) (a5 : Memref sig .tc .vmem S1024x1024 .bf16) (h5 : a5.IsWhole)
    (x : Vec F S1024x1024 .f32) (w : Vec F S1024x512 .f32) (xb : Vec F S1024x1024 .bf16)

/-- Where the rows are fresh, they are cast and kept. -/
theorem kept_fresh (hc : cond0_0 i) : sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h2.read_unread, View.ld_unit_zero (S := S1024x1024) origin]

/-- … and the block written is their product with the columns. -/
theorem out_fresh (hc : cond0_0 i) : out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S1024x1024) _ origin]
  simp only [View.readAt_eq_ld, h2.read_unread, h3.read_unread, View.ld_unit_zero (S := S1024x1024) origin, View.ld_unit_zero (S := S1024x512) origin]

/-- Elsewhere it is the product of the rows kept with the columns. -/
theorem out_kept (hc : ¬cond0_0 i) : out0_B_2 c i a2 h2 a3 h3 a4 h4 a5 h5 hc x w xb = k0_pay2 xb w := by
  unfold out0_B_2
  rw [View.read_writes_eq_canon _ _ _ (cover0_B_2 c i a2 h2 a3 h3 a4 h4 a5 h5 hc x w xb)]
  unfold kernelRun0_B
  dsimp only
  rw [View.canon_unit_zero origin]
  simp only [View.readAt_eq_ld, h3.read_unread, h5.read_unread, View.ld_unit_zero (S := S1024x1024) origin, View.ld_unit_zero (S := S1024x512) origin]

end Point

theorem pay1_at (x : S1024x1024.Idx → EReal) (r k : Fin 1024) : (k0_pay1 (F := Ideal) x (ix2 r k) : EReal) = x (ix2 r k) := by
  pointwise [k0_pay1]
theorem pay2_at (x : S1024x1024.Idx → EReal) (w : S1024x512.Idx → EReal) (r : Fin 1024) (j : Fin 512) :
    (k0_pay2 (F := Ideal) x w (ix2 r j) : EReal) = ∑ k : Fin 1024, x (ix2 r k) * w (ix2 k j) := by
  pointwise [k0_pay2]

variable (m : (ℓ : Loc nD τ sig) → Buf (Elt Ideal) ℓ) (c : Dev nD)

/-- The arguments as arrays: rows, and the matrix of all columns. -/
def A0 : FVec Ideal S32768x1024 .f32 := m ((c.tc : Thread nD τ).loc main_arg0)
def A1 : FVec Ideal S1024x3592 .f32 := m ((c.tc : Thread nD τ).loc main_arg1)

/-- The matrix of the columns taken. -/
theorem V_v0 (k : Fin 1024) (j : Fin 3584) : (V m c main_v0 (ix2 k j) : EReal) = A1 m c (ix2 k ⟨j.val, by omega⟩) := by
  have : V m c main_v0 = (extractStridedSlice S1024x3584 ![0, 0] (A1 m c) slices_S1024x3592_S1024x3584_0_0 : FVec Ideal S1024x3584 .f32) := by
    unfold V; rfl
  rw [this]
  pointwise []

/-- Which rows and columns a point takes. -/
theorem idx0 : ∀ t : Fin cfg0.N, win0_0.index t (0 : Fin 2) = t.val / 7 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 7 :=
  (by decide +kernel : ∀ t : Fin grid0.N, _)
theorem idx2 : ∀ t : Fin cfg0.N, win0_2.index t (0 : Fin 2) = t.val / 7 ∧ win0_2.index t (1 : Fin 2) = t.val % 7 :=
  (by decide +kernel : ∀ t : Fin grid0.N, _)

theorem row_lt (n : ℕ) (hn : n < cfg0.N) (r : Fin 1024) : n / 7 * 1024 + r.val < 32768 := by
  have h1 := lt_of_lt_of_eq hn (show cfg0.N = 224 from N_0); have := r.isLt; omega
theorem col_lt (n : ℕ) (j : Fin 512) : n % 7 * 512 + j.val < 3584 := by have := j.isLt; omega

theorem iblk0_at (t : Fin cfg0.N) (r k : Fin 1024) : (iblk m c (0 : Fin 3) t (ix2 r k) : EReal) = A0 m c (ix2 ⟨t.val / 7 * 1024 + r.val, row_lt t.val t.isLt r⟩ k) := by
  refine (congrArg (V m c main_arg0) (funext fun q => Fin.ext ?_)).trans (congrFun (V_main_arg0 m c) _)
  refine (Pipeline.Window.rect_emb_val (cfg0.win (0 : Fin 3)) t (ix2 r k) q).trans ?_
  obtain ⟨e0, e1⟩ := idx0 t
  fin_cases q
  · show win0_0.index t (0 : Fin 2) * 1024 + r.val = t.val / 7 * 1024 + r.val; rw [e0]
  · show win0_0.index t (1 : Fin 2) * 1024 + k.val = k.val; rw [e1]; omega

theorem iblk1_at (t : Fin cfg0.N) (k : Fin 1024) (j : Fin 512) : (iblk m c (1 : Fin 3) t (ix2 k j) : EReal) = A1 m c (ix2 k ⟨t.val % 7 * 512 + j.val, by omega⟩) := by
  refine (congrArg (V m c main_v0) (funext fun q => Fin.ext ?_)).trans (V_v0 m c k ⟨t.val % 7 * 512 + j.val, col_lt t.val j⟩)
  refine (Pipeline.Window.rect_emb_val (cfg0.win (1 : Fin 3)) t (ix2 k j) q).trans ?_
  obtain ⟨e0, e1⟩ := idx1 t
  fin_cases q
  · show win0_1.index t (0 : Fin 2) * 1024 + k.val = k.val; rw [e0]; omega
  · show win0_1.index t (1 : Fin 2) * 512 + j.val = t.val % 7 * 512 + j.val; rw [e1]

/-- The rows kept after a point are those of its row block. -/
theorem kept_at : ∀ (n : ℕ) (hn : n < cfg0.N) (r k : Fin 1024),
    ((outsAt0 m c n hn).2 (ix2 r k) : EReal) = A0 m c (ix2 ⟨n / 7 * 1024 + r.val, row_lt n hn r⟩ k) := by
  intro n
  induction n with
  | zero =>
    intro hn r k
    rw [outsAt0_A m c ⟨0, hn⟩ rfl, kept_fresh]
    exact (pay1_at _ r k).trans (iblk0_at m c ⟨0, hn⟩ r k)
  | succ n ih =>
    intro hn r k
    by_cases h : (n + 1) % 7 = 0
    · rw [outsAt0_A m c ⟨n + 1, hn⟩ h, kept_fresh]
      exact (pay1_at _ r k).trans (iblk0_at m c ⟨n + 1, hn⟩ r k)
    · rw [outsAt0_B m c ⟨n + 1, hn⟩ h]
      refine (ih (Nat.lt_of_succ_lt hn) r k).trans (congrArg (fun z => A0 m c (ix2 z k)) (Fin.ext ?_))
      show n / 7 * 1024 + r.val = (n + 1) / 7 * 1024 + r.val
      omega

/-- The product at an element. -/
def prod (x : FVec Ideal S32768x1024 .f32) (w : FVec Ideal S1024x3592 .f32) : FVec Ideal S32768x3584 .bf16 :=
  truncf .bf16 (extractStridedSlice Cert.Reference4Ideal.S32768x3584 ![0, 0] (Host.dotGeneral Cert.Reference4Ideal.dot_S32768x1024_S1024x3592_S32768x3592_1_0_0_1_n_n none x w) Cert.Reference4Ideal.Gen.slices_S32768x3592_S32768x3584_0_0) Cert.Reference4Ideal.Gen.bitsLt_bf16_f32

theorem prod_at (x : FVec Ideal S32768x1024 .f32) (w : FVec Ideal S1024x3592 .f32) (i : Fin 32768) (j : Fin 3584) :
    (prod x w (ix2 i j) : EReal) = ∑ k : Fin 1024, x (ix2 i k) * w (ix2 k ⟨j.val, by omega⟩) := by
  pointwise [prod]

/-- The block a point writes is the product's. -/
theorem wrote_at (t : Fin cfg0.N) (r : Fin 1024) (j : Fin 512) :
    ((outsAt0 m c t.val t.isLt).1 (ix2 r j) : EReal) = prod (A0 m c) (A1 m c) (ix2 ⟨t.val / 7 * 1024 + r.val, row_lt t.val t.isLt r⟩ ⟨t.val % 7 * 512 + j.val, col_lt t.val j⟩) := by
  rw [prod_at]
  by_cases h : t.val % 7 = 0
  · rw [outsAt0_A m c t h, out_fresh]
    refine (pay2_at _ _ r j).trans (Finset.sum_congr rfl fun k _ => ?_)
    exact congrArg₂ (fun y z : EReal => y * z) ((pay1_at _ r k).trans (iblk0_at m c t r k)) (iblk1_at m c t k j)
  · rw [outsAt0_B m c t h, out_kept]
    refine (pay2_at _ _ r j).trans (Finset.sum_congr rfl fun k _ => ?_)
    refine congrArg₂ (fun y z : EReal => y * z) ((kept_at m c (t.val - 1) _ r k).trans (congrArg (fun z => A0 m c (ix2 z k)) (Fin.ext ?_))) (iblk1_at m c t k j)
    show (t.val - 1) / 7 * 1024 + r.val = t.val / 7 * 1024 + r.val
    omega

/-- The array after the run is the product. -/
theorem result_eq : (dats m 0 c).arrAt 2 cfg0.N = prod (A0 m c) (A1 m c) := by
  refine (dats m 0 c).arrAt_eq_of_emb (2 : Fin 3) (prod (A0 m c) (A1 m c)) (fun t hf y => ?_) (fun i => (covered_iff2 i).2 (by
    have h0 : (i 0).val < 32768 := (i 0).isLt; have h1 : (i 1).val < 3584 := (i 1).isLt; omega))
  have eta : ∀ y : S1024x512.Idx, ∃ (r : Fin 1024) (j : Fin 512), y = ix2 r j := fun y => ⟨y 0, y 1, eq_ix2 y⟩
  obtain ⟨r, j, rfl⟩ := eta y
  refine (wrote_at m c t r j).trans (congrArg (prod (A0 m c) (A1 m c)) (funext fun q => Fin.ext ?_))
  refine Eq.trans ?_ (Pipeline.Window.rect_emb_val (cfg0.win (2 : Fin 3)) t (ix2 r j) q).symm
  obtain ⟨e0, e1⟩ := idx2 t
  fin_cases q
  · show t.val / 7 * 1024 + r.val = win0_2.index t (0 : Fin 2) * 1024 + r.val; rw [e0]
  · show t.val % 7 * 512 + j.val = win0_2.index t (1 : Fin 2) * 512 + j.val; rw [e1]

end Cert.Kernel4Ideal.Proj

end
-- ==== Proof.Proj.Norm.lean ====
module

public import Idealize.ShloMosaic.Lib.Pipeline.ValueKit
public import Idealize.ShloMosaic.Lib.Pointwise

@[expose] public section

noncomputable section

/-!
# A row of the output projection, normalized

The row `1.68 · x + (a · w + b · w')` over 1024 lanes, and its normalization to mean zero and variance one, with a lane's scale and
shift.
-/

namespace Cert.OutProj

open Idealize.ShloMosaic

/-- A row before it is normalized: the residual and the products of its two halves. -/
def mixed (a b : Fin 512 → EReal) (w w' : Fin 512 → Fin 1024 → EReal) (x : Fin 1024 → EReal) (j : Fin 1024) : EReal :=
  Ideal.ofBits FTy.f32 1071072509#32 * x j + ((∑ k, a k * w k j) + ∑ k, b k * w' k j)

/-- The same with the halves in one. -/
def whole (a : Fin 1024 → EReal) (w : Fin 1024 → Fin 1024 → EReal) (x : Fin 1024 → EReal) (j : Fin 1024) : EReal :=
  Ideal.ofBits FTy.f32 1071072509#32 * x j + ∑ k, a k * w k j

theorem whole_eq (a : Fin 1024 → EReal) (w : Fin 1024 → Fin 1024 → EReal) (x : Fin 1024 → EReal) :
    whole a w x = mixed (fun k => a ⟨k.val, by omega⟩) (fun k => a ⟨512 + k.val, by omega⟩) (fun k l => w ⟨k.val, by omega⟩ l) (fun k l => w ⟨512 + k.val, by omega⟩ l) x :=
  funext fun j => congrArg (Ideal.ofBits FTy.f32 1071072509#32 * x j + ·) (Fin.sum_univ_add (a := 512) (b := 512) fun k : Fin 1024 => a k * w k j)

/-- A row less its mean. -/
def centred (y : Fin 1024 → EReal) (j : Fin 1024) : EReal := y j - Ideal.div (∑ l, y l) (Ideal.ofBits FTy.f32 1149239296#32)

/-- A row normalized, scaled and shifted. -/
def normed (y : Fin 1024 → EReal) (g b : EReal) (j : Fin 1024) : EReal :=
  centred y j * Ideal.rsqrt (Ideal.div (∑ l, centred y l * centred y l) (Ideal.ofBits FTy.f32 1149239296#32) + Ideal.ofBits FTy.f32 925353388#32) * g + b

end Cert.OutProj

end
-- ==== Proof.Proj.Out.lean ====
module

public import proofs.«01_k».proof.Proof.Proj.Norm
public import proofs.«01_k».proof.Proof.Gen.Kernel5Ideal.Skeleton
public import proofs.«01_k».proof.Proof.Gen.Kernel5Ideal.Value
public import proofs.«01_k».proof.Proof.Gen.Reference5Ideal.Run

@[expose] public section

set_option maxRecDepth 16384

noncomputable section

/-!
# The even layers' output projection: each row written is the reference's
-/

namespace Cert.Kernel5Ideal.Proj

open Cert.Kernel5Ideal Cert.Kernel5Ideal.Gen Cert.Kernel5Ideal.Value
open Idealize.ShloMosaic Idealize.ShloMosaic.TcCoe Idealize.ShloMosaic.Tactic Idealize.SL.Sem
open Idealize.ShloMosaic.Pipeline (Dat)

theorem origin : (![0, 0] : Fin 2 → Nat) = fun _ => 0 := funext fun a => by fin_cases a <;> rfl

/-! ## What a point leaves -/

section Point

variable {F : FTy → Type} [FloatOps F]

/-- The weights' rows that the first half meets, and the second's. -/
def top (s : Vec F S1024x1024 .bf16) : Vec F S512x1024 .bf16 := View.ld s (Rect.unit (s := S1024x1024) ![0, 0] S512x1024.size inb_S1024x1024_S512x1024_0_0)
def bot (s : Vec F S1024x1024 .bf16) : Vec F S512x1024 .bf16 := View.ld s (Rect.unit (s := S1024x1024) ![512, 0] S512x1024.size inb_S1024x1024_S512x1024_512_0)

/-- The block written, from the operands' blocks and the weights kept. -/
def block (a b : Vec F S512x512 .bf16) (s : Vec F S1024x1024 .bf16) (x : Vec F S512x1024 .f32) (g h : Vec F S1x1024 .f32) : Vec F S512x1024 .f32 :=
  k0_pay1 (k0_pay3 g) (k0_pay4 h) (k0_pay5 a (top s) b (bot s) x)

variable (c : Dev nD) (i : grid0.Coords) (a1 : Memref sig .tc .vmem S512x512 .bf16) (h1 : a1.IsWhole) (a2 : Memref sig .tc .vmem S512x512 .bf16) (h2 : a2.IsWhole)
    (a3 : Memref sig .tc .vmem S1024x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole)
    (a7 : Memref sig .tc .vmem S512x1024 .f32) (h7 : a7.IsWhole) (a8 : Memref sig .tc .vmem S1024x1024 .bf16) (h8 : a8.IsWhole)
    (a b : Vec F S512x512 .bf16) (w : Vec F S1024x1024 .f32) (x : Vec F S512x1024 .f32) (g h : Vec F S1x1024 .f32) (s : Vec F S1024x1024 .bf16)

/-- At the first point the weights are cast and kept. -/
theorem kept_fresh (hc : cond0_0 i) : sout0_A_0 c i a1 h1 a2 h2 a3 h3 a4 h4 a5 h5 a6 h6 a7 h7 a8 h8 hc a b w x g h = k0_pay2 w := by
  unfold sout0_A_0
  rw [View.read_writes_eq_canon _ _ _ (scover0_A_0 c i a1 h1 a2 h2 a3 h3 a4 h4 a5 h5 a6 h6 a7 h7 a8 h8 hc a b w x g h)]
  unfold kernelRun0_A
  dsimp only
  sl_unfold_words
  rw [View.canon_unit_zero origin]
  simp only [View.readAt_eq_ld, h3.read_unread, View.ld_unit_zero (S := S1024x1024) origin]

/-- A covered load of part of one whole store reads that part of what was stored. -/
theorem part_of_store (v : View sig .tc .vmem S1024x1024 .bf16) (s : Vec F S1024x1024 .bf16) (r : Rect S1024x1024) :
    v.readCov [(⟨Rect.unit (s := S1024x1024) ![0, 0] S1024x1024.size inb_S1024x1024_S1024x1024_0_0, s⟩ : View.Piece (Elt F) S1024x1024 .bf16)] r.toLoadRect = View.ld s r := by
  rw [View.readCov_eq_canon', View.canon_unit_zero origin]

/-- … and the block written is computed from them. -/
theorem out_fresh (hc : cond0_0 i) : out0_A_6 c i a1 h1 a2 h2 a3 h3 a4 h4 a5 h5 a6 h6 a7 h7 a8 h8 hc a b w x g h = block a b (k0_pay2 w) x g h := by
  unfold out0_A_6
  rw [View.read_writes_eq_canon _ _ _ (cover0_A_6 c i a1 h1 a2 h2 a3 h3 a4 h4 a5 h5 a6 h6 a7 h7 a8 h8 hc a b w x g h)]
  unfold kernelRun0_A
  dsimp only
  sl_unfold_words
  rw [View.canon_unit_zero origin, part_of_store, part_of_store]
  simp only [View.readAt_eq_ld, h1.read_unread, h2.read_unread, h3.read_unread, h4.read_unread, h5.read_unread, h6.read_unread,
    View.ld_unit_zero (S := S1024x1024) origin, View.ld_unit_zero (S := S512x1024) origin, View.ld_unit_zero (S := S512x512) origin, View.ld_unit_zero (S := S1x1024) origin]
  rfl

/-- Elsewhere it is computed from the weights kept. -/
theorem out_kept (hc : ¬cond0_0 i) : out0_B_6 c i a1 h1 a2 h2 a3 h3 a4 h4 a5 h5 a6 h6 a7 h7 a8 h8 hc a b w x g h s = block a b s x g h := by
  unfold out0_B_6
  rw [View.read_writes_eq_canon _ _ _ (cover0_B_6 c i a1 h1 a2 h2 a3 h3 a4 h4 a5 h5 a6 h6 a7 h7 a8 h8 hc a b w x g h s)]
  unfold kernelRun0_B
  dsimp only
  sl_unfold_words
  rw [View.canon_unit_zero origin]
  simp only [View.readAt_eq_ld, h1.read_unread, h2.read_unread, h4.read_unread, h5.read_unread, h6.read_unread, h8.read_unread,
    View.ld_unit_zero (S := S512x1024) origin, View.ld_unit_zero (S := S512x512) origin, View.ld_unit_zero (S := S1x1024) origin]
  rfl

end Point

/-! ## The block at an element -/

theorem pay5_at (a b : S512x512.Idx → EReal) (w w' x : S512x1024.Idx → EReal) (r : Fin 512) (j : Fin 1024) :
    (k0_pay5 (F := Ideal) a w b w' x (ix2 r j) : EReal)
      = Cert.OutProj.normed (Cert.OutProj.mixed (fun k => a (ix2 r k)) (fun k => b (ix2 r k)) (fun k l => w (ix2 k l)) (fun k l => w' (ix2 k l)) (fun l => x (ix2 r l))) 1 0 j := by
  unfold Cert.OutProj.normed
  rw [mul_one, add_zero]
  unfold Cert.OutProj.centred Cert.OutProj.mixed
  pointwise [k0_pay5]

theorem pay1_at (g h : S1x1024.Idx → EReal) (y : S512x1024.Idx → EReal) (r : Fin 512) (j : Fin 1024) :
    (k0_pay1 (F := Ideal) (k0_pay3 (F := Ideal) g) (k0_pay4 (F := Ideal) h) y (ix2 r j) : EReal) = y (ix2 r j) * g (ix2 (0 : Fin 1) j) + h (ix2 (0 : Fin 1) j) := by
  pointwise [k0_pay1, k0_pay3, k0_pay4]

theorem pay2_at (w : S1024x1024.Idx → EReal) (k j : Fin 1024) : (k0_pay2 (F := Ideal) w (ix2 k j) : EReal) = w (ix2 k j) := by
  pointwise [k0_pay2]

theorem top_at (s : S1024x1024.Idx → EReal) (k : Fin 512) (j : Fin 1024) : (top (F := Ideal) s (ix2 k j) : EReal) = s (ix2 (⟨k.val, by omega⟩ : Fin 1024) j) := by
  refine congrArg s (funext fun q => Fin.ext ((Rect.idx_unit_val (s := S1024x1024) ![0, 0] S512x1024.size inb_S1024x1024_S512x1024_0_0 (ix2 k j) q).trans ?_))
  fin_cases q
  · exact Nat.zero_add k.val
  · exact Nat.zero_add j.val
theorem bot_at (s : S1024x1024.Idx → EReal) (k : Fin 512) (j : Fin 1024) : (bot (F := Ideal) s (ix2 k j) : EReal) = s (ix2 (⟨512 + k.val, by omega⟩ : Fin 1024) j) := by
  refine congrArg s (funext fun q => Fin.ext ((Rect.idx_unit_val (s := S1024x1024) ![512, 0] S512x1024.size inb_S1024x1024_S512x1024_512_0 (ix2 k j) q).trans ?_))
  fin_cases q
  · rfl
  · exact Nat.zero_add j.val

theorem block_at (a b : S512x512.Idx → EReal) (s : S1024x1024.Idx → EReal) (x : S512x1024.Idx → EReal) (g h : S1x1024.Idx → EReal) (r : Fin 512) (j : Fin 1024) :
    (block (F := Ideal) a b s x g h (ix2 r j) : EReal)
      = Cert.OutProj.normed (Cert.OutProj.mixed (fun k => a (ix2 r k)) (fun k => b (ix2 r k)) (fun k l => s (ix2 (⟨k.val, by omega⟩ : Fin 1024) l)) (fun k l => s (ix2 (⟨512 + k.val, by omega⟩ : Fin 1024) l)) (fun l => x (ix2 r l)))
        (g (ix2 (0 : Fin 1) j)) (h (ix2 (0 : Fin 1) j)) j := by
  refine (pay1_at g h _ r j).trans ?_
  rw [pay5_at]
  unfold Cert.OutProj.normed
  rw [mul_one, add_zero]
  simp only [top_at, bot_at]

/-! ## The blocks of the operands -/

variable (m : (ℓ : Loc nD τ sig) → Buf (Elt Ideal) ℓ) (c : Dev nD)

/-- The arguments as arrays: the two halves of the rows, the weights, the residual rows, scales and shifts. -/
def A0 : FVec Ideal S32768x512 .bf16 := m ((c.tc : Thread nD τ).loc main_arg0)
def A1 : FVec Ideal S32768x512 .bf16 := m ((c.tc : Thread nD τ).loc main_arg1)
def A2 : FVec Ideal S1024x1024 .f32 := m ((c.tc : Thread nD τ).loc main_arg2)
def A3 : FVec Ideal S32768x1024 .f32 := m ((c.tc : Thread nD τ).loc main_arg3)
def A4 : FVec Ideal S1024 .f32 := m ((c.tc : Thread nD τ).loc main_arg4)
def A5 : FVec Ideal S1024 .f32 := m ((c.tc : Thread nD τ).loc main_arg5)

/-- The scales and shifts as rows. -/
theorem V_v0 (j : Fin 1024) : (V m c main_v0 (ix2 (0 : Fin 1) j) : EReal) = A4 m c (ix1 j) := by
  have : V m c main_v0 = (broadcastInDim S1x1024 ![1] bcast_S1024_S1x1024_1 (A4 m c) : FVec Ideal S1x1024 .f32) := by unfold V; rfl
  rw [this]
  pointwise []
theorem V_v1 (j : Fin 1024) : (V m c main_v1 (ix2 (0 : Fin 1) j) : EReal) = A5 m c (ix1 j) := by
  have : V m c main_v1 = (broadcastInDim S1x1024 ![1] bcast_S1024_S1x1024_1 (A5 m c) : FVec Ideal S1x1024 .f32) := by unfold V; rfl
  rw [this]
  pointwise []

/-- Which rows a point takes: a block of rows for the operands by rows, the one block of the others. -/
theorem idxRows : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_3.index t (0 : Fin 2) = t.val ∧ win0_3.index t (1 : Fin 2) = 0) ∧ (win0_6.index t (0 : Fin 2) = t.val ∧ win0_6.index t (1 : Fin 2) = 0) :=
  (by decide +kernel : ∀ t : Fin grid0.N, _)
theorem idxOne : ∀ t : Fin cfg0.N, (win0_2.index t (0 : Fin 2) = 0 ∧ win0_2.index t (1 : Fin 2) = 0) ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem row_lt (t : Fin cfg0.N) (r : Fin 512) : t.val * 512 + r.val < 32768 := by
  have h1 := lt_of_lt_of_eq t.isLt (show cfg0.N = 64 from N_0); have := r.isLt; omega

/-- Row `r` of point `t`'s blocks, among all rows. -/
def row (t : Fin cfg0.N) (r : Fin 512) : Fin 32768 := ⟨t.val * 512 + r.val, row_lt t r⟩

theorem iblk0_at (t : Fin cfg0.N) (r k : Fin 512) : (iblk m c (0 : Fin 7) t (ix2 r k) : EReal) = A0 m c (ix2 (row t r) k) := by
  refine (congrArg (V m c main_arg0) (funext fun q => Fin.ext ?_)).trans (congrFun (V_main_arg0 m c) _)
  refine (Pipeline.Window.rect_emb_val (cfg0.win (0 : Fin 7)) t (ix2 r k) q).trans ?_
  obtain ⟨⟨e0, e1⟩, -⟩ := idxRows t
  fin_cases q
  · show win0_0.index t (0 : Fin 2) * 512 + r.val = t.val * 512 + r.val; rw [e0]
  · show win0_0.index t (1 : Fin 2) * 512 + k.val = k.val; rw [e1]; omega

theorem iblk1_at (t : Fin cfg0.N) (r k : Fin 512) : (iblk m c (1 : Fin 7) t (ix2 r k) : EReal) = A1 m c (ix2 (row t r) k) := by
  refine (congrArg (V m c main_arg1) (funext fun q => Fin.ext ?_)).trans (congrFun (V_main_arg1 m c) _)
  refine (Pipeline.Window.rect_emb_val (cfg0.win (1 : Fin 7)) t (ix2 r k) q).trans ?_
  obtain ⟨-, ⟨e0, e1⟩, -⟩ := idxRows t
  fin_cases q
  · show win0_1.index t (0 : Fin 2) * 512 + r.val = t.val * 512 + r.val; rw [e0]
  · show win0_1.index t (1 : Fin 2) * 512 + k.val = k.val; rw [e1]; omega

theorem iblk2_at (t : Fin cfg0.N) (k j : Fin 1024) : (iblk m c (2 : Fin 7) t (ix2 k j) : EReal) = A2 m c (ix2 k j) := by
  refine (congrArg (V m c main_arg2) (funext fun q => Fin.ext ?_)).trans (congrFun (V_main_arg2 m c) _)
  refine (Pipeline.Window.rect_emb_val (cfg0.win (2 : Fin 7)) t (ix2 k j) q).trans ?_
  obtain ⟨⟨e0, e1⟩, -⟩ := idxOne t
  fin_cases q
  · show win0_2.index t (0 : Fin 2) * 1024 + k.val = k.val; rw [e0]; omega
  · show win0_2.index t (1 : Fin 2) * 1024 + j.val = j.val; rw [e1]; omega

theorem iblk3_at (t : Fin cfg0.N) (r : Fin 512) (j : Fin 1024) : (iblk m c (3 : Fin 7) t (ix2 r j) : EReal) = A3 m c (ix2 (row t r) j) := by
  refine (congrArg (V m c main_arg3) (funext fun q => Fin.ext ?_)).trans (congrFun (V_main_arg3 m c) _)
  refine (Pipeline.Window.rect_emb_val (cfg0.win (3 : Fin 7)) t (ix2 r j) q).trans ?_
  obtain ⟨-, -, ⟨e0, e1⟩, -⟩ := idxRows t
  fin_cases q
  · show win0_3.index t (0 : Fin 2) * 512 + r.val = t.val * 512 + r.val; rw [e0]
  · show win0_3.index t (1 : Fin 2) * 1024 + j.val = j.val; rw [e1]; omega

theorem iblk4_at (t : Fin cfg0.N) (j : Fin 1024) : (iblk m c (4 : Fin 7) t (ix2 (0 : Fin 1) j) : EReal) = A4 m c (ix1 j) := by
  refine (congrArg (V m c main_v0) (funext fun q => Fin.ext ?_)).trans (V_v0 m c j)
  refine (Pipeline.Window.rect_emb_val (cfg0.win (4 : Fin 7)) t (ix2 (0 : Fin 1) j) q).trans ?_
  obtain ⟨-, ⟨e0, e1⟩, -⟩ := idxOne t
  fin_cases q
  · show win0_4.index t (0 : Fin 2) * 1 + 0 = 0; rw [e0]
  · show win0_4.index t (1 : Fin 2) * 1024 + j.val = j.val; rw [e1]; omega

theorem iblk5_at (t : Fin cfg0.N) (j : Fin 1024) : (iblk m c (5 : Fin 7) t (ix2 (0 : Fin 1) j) : EReal) = A5 m c (ix1 j) := by
  refine (congrArg (V m c main_v1) (funext fun q => Fin.ext ?_)).trans (V_v1 m c j)
  refine (Pipeline.Window.rect_emb_val (cfg0.win (5 : Fin 7)) t (ix2 (0 : Fin 1) j) q).trans ?_
  obtain ⟨-, -, e0, e1⟩ := idxOne t
  fin_cases q
  · show win0_5.index t (0 : Fin 2) * 1 + 0 = 0; rw [e0]
  · show win0_5.index t (1 : Fin 2) * 1024 + j.val = j.val; rw [e1]; omega

/-- The weights kept after a point are the matrix. -/
theorem kept_at : ∀ (n : ℕ) (hn : n < cfg0.N) (k j : Fin 1024), ((outsAt0 m c n hn).2 (ix2 k j) : EReal) = A2 m c (ix2 k j) := by
  intro n
  induction n with
  | zero =>
    intro hn k j
    rw [outsAt0_A m c ⟨0, hn⟩ rfl, kept_fresh]
    exact (pay2_at _ k j).trans (iblk2_at m c ⟨0, hn⟩ k j)
  | succ n ih =>
    intro hn k j
    have h : ¬(n + 1) % 64 = 0 := by have := lt_of_lt_of_eq hn (show cfg0.N = 64 from N_0); omega
    rw [outsAt0_B m c ⟨n + 1, hn⟩ h]
    exact ih (Nat.lt_of_succ_lt hn) k j

/-- The result at an element. -/
def result (B0 B1 : FVec Ideal S32768x512 .bf16) (B2 : FVec Ideal S1024x1024 .f32) (B3 : FVec Ideal S32768x1024 .f32) (B4 B5 : FVec Ideal S1024 .f32) : FVec Ideal S32768x1024 .f32 := fun y =>
  Cert.OutProj.normed (Cert.OutProj.mixed (fun k => B0 (ix2 (y 0) k)) (fun k => B1 (ix2 (y 0) k)) (fun k l => B2 (ix2 (⟨k.val, by omega⟩ : Fin 1024) l)) (fun k l => B2 (ix2 (⟨512 + k.val, by omega⟩ : Fin 1024) l)) (fun l => B3 (ix2 (y 0) l)))
    (B4 (ix1 (y 1))) (B5 (ix1 (y 1))) (y 1)

/-- The kernel's result on its arguments. -/
def out : FVec Ideal S32768x1024 .f32 := result (A0 m c) (A1 m c) (A2 m c) (A3 m c) (A4 m c) (A5 m c)

/-- The block a point writes is the result's, whatever memory the weights kept come from. -/
theorem block_out (t : Fin cfg0.N) (s : S1024x1024.Idx → EReal) (hs : ∀ k j : Fin 1024, s (ix2 k j) = A2 m c (ix2 k j)) (r : Fin 512) (j : Fin 1024) :
    (block (F := Ideal) (iblk m c (0 : Fin 7) t) (iblk m c (1 : Fin 7) t) s (iblk m c (3 : Fin 7) t) (iblk m c (4 : Fin 7) t) (iblk m c (5 : Fin 7) t) (ix2 r j) : EReal)
      = out m c (ix2 (row t r) j) := by
  refine (block_at _ _ s _ _ _ r j).trans ?_
  have e0 : (fun k : Fin 512 => (iblk m c (0 : Fin 7) t (ix2 r k) : EReal)) = fun k => A0 m c (ix2 (row t r) k) := funext fun k => iblk0_at m c t r k
  have e1 : (fun k : Fin 512 => (iblk m c (1 : Fin 7) t (ix2 r k) : EReal)) = fun k => A1 m c (ix2 (row t r) k) := funext fun k => iblk1_at m c t r k
  have e3 : (fun l : Fin 1024 => (iblk m c (3 : Fin 7) t (ix2 r l) : EReal)) = fun l => A3 m c (ix2 (row t r) l) := funext fun l => iblk3_at m c t r l
  have e4 := iblk4_at m c t j
  have e5 := iblk5_at m c t j
  simp only [hs]
  refine (congrArg₂ (fun y z : EReal => Cert.OutProj.normed _ y z j) e4 e5).trans ?_
  refine congrArg (fun y => Cert.OutProj.normed y _ _ j) ?_
  refine (congrArg (fun y => Cert.OutProj.mixed y _ _ _ _) e0).trans ?_
  exact congrArg₂ (fun y z => Cert.OutProj.mixed _ y _ _ z) e1 e3

theorem wrote_at (t : Fin cfg0.N) (r : Fin 512) (j : Fin 1024) : ((outsAt0 m c t.val t.isLt).1 (ix2 r j) : EReal) = out m c (ix2 (row t r) j) := by
  by_cases h : t.val % 64 = 0
  · rw [outsAt0_A m c t h, out_fresh]
    exact block_out m c t _ (fun k j => (pay2_at _ k j).trans (iblk2_at m c t k j)) r j
  · rw [outsAt0_B m c t h, out_kept]
    exact block_out m c t _ (fun k j => kept_at m c (t.val - 1) _ k j) r j

/-- The array after the run is the result. -/
theorem result_eq : (dats m 0 c).arrAt 6 cfg0.N = out m c := by
  refine (dats m 0 c).arrAt_eq_of_emb (6 : Fin 7) (out m c) (fun t hf y => ?_) (fun i => (covered_iff6 i).2 (by
    have h0 : (i 0).val < 32768 := (i 0).isLt; have h1 : (i 1).val < 1024 := (i 1).isLt; omega))
  have eta : ∀ y : S512x1024.Idx, ∃ (r : Fin 512) (j : Fin 1024), y = ix2 r j := fun y => ⟨y 0, y 1, eq_ix2 y⟩
  obtain ⟨r, j, rfl⟩ := eta y
  refine (wrote_at m c t r j).trans (congrArg (out m c) (funext fun q => Fin.ext ?_))
  refine Eq.trans ?_ (Pipeline.Window.rect_emb_val (cfg0.win (6 : Fin 7)) t (ix2 r j) q).symm
  obtain ⟨-, -, -, e0, e1⟩ := idxRows t
  fin_cases q
  · show t.val * 512 + r.val = win0_6.index t (0 : Fin 2) * 512 + r.val; rw [e0]
  · show j.val = win0_6.index t (1 : Fin 2) * 1024 + j.val; rw [e1]; omega

end Cert.Kernel5Ideal.Proj

namespace Cert.Reference5Ideal.Proj

open Cert.Reference5Ideal Cert.Reference5Ideal.Gen Cert.Reference5Ideal.Value
open Idealize.ShloMosaic Idealize.ShloMosaic.TcCoe Idealize.ShloMosaic.Tactic Idealize.SL.Sem

/-- The reference's result is the kernel's, of the same arguments. -/
theorem res_eq (m : (ℓ : Loc nD τ sig) → Buf (Elt Ideal) ℓ) (c : Dev nD) :
    res_out0 (F := Ideal) m c = Cert.Kernel5Ideal.Proj.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  have eta : ∀ y : S32768x1024.Idx, ∃ (r : Fin 32768) (j : Fin 1024), y = ix2 r j := fun y => ⟨y 0, y 1, eq_ix2 y⟩
  funext y
  obtain ⟨r, j, rfl⟩ := eta y
  unfold res_out0 res_main_v30 Cert.Kernel5Ideal.Proj.result Cert.OutProj.normed Cert.OutProj.centred Cert.OutProj.mixed
  pointwise []

end Cert.Reference5Ideal.Proj

end
-- ==== Proof.Proj.OutOdd.lean ====
module

public import proofs.«01_k».proof.Proof.Proj.Out
public import proofs.«01_k».proof.Proof.Gen.Kernel6Ideal.Skeleton
public import proofs.«01_k».proof.Proof.Gen.Kernel6Ideal.Value
public import proofs.«01_k».proof.Proof.Gen.Reference6Ideal.Run

@[expose] public section

set_option maxRecDepth 16384

noncomputable section

/-!
# The odd layers' output projection: each row written is the reference's
-/

namespace Cert.Kernel6Ideal.Proj

open Cert.Kernel6Ideal Cert.Kernel6Ideal.Gen Cert.Kernel6Ideal.Value
open Idealize.ShloMosaic Idealize.ShloMosaic.TcCoe Idealize.ShloMosaic.Tactic Idealize.SL.Sem
open Idealize.ShloMosaic.Pipeline (Dat)

theorem origin : (![0, 0] : Fin 2 → Nat) = fun _ => 0 := funext fun a => by fin_cases a <;> rfl

/-! ## What a point leaves -/

section Point

variable {F : FTy → Type} [FloatOps F]

variable (c : Dev nD) (i : grid0.Coords) (a1 : Memref sig .tc .vmem S512x512 .bf16) (h1 : a1.IsWhole) (a2 : Memref sig .tc .vmem S512x512 .bf16) (h2 : a2.IsWhole)
    (a3 : Memref sig .tc .vmem S1024x1024 .f32) (h3 : a3.IsWhole) (a4 : Memref sig .tc .vmem S512x1024 .f32) (h4 : a4.IsWhole)
    (a5 : Memref sig .tc .vmem S1x1024 .f32) (h5 : a5.IsWhole) (a6 : Memref sig .tc .vmem S1x1024 .f32) (h6 : a6.IsWhole)
    (a7 : Memref sig .tc .vmem S512x1024 .f32) (h7 : a7.IsWhole) (a8 : Memref sig .tc .vmem S1024x1024 .bf16) (h8 : a8.IsWhole)
    (a b : Vec F S512x512 .bf16) (w : Vec F S1024x1024 .f32) (x : Vec F S512x1024 .f32) (g h : Vec F S1x1024 .f32) (s : Vec F S1024x1024 .bf16)

/-- At the first point the weights are cast and kept. -/
theorem kept_fresh (hc : cond0_0 i) : sout0_A_0 c i a1 h1 a2 h2 a3 h3 a4 h4 a5 h5 a6 h6 a7 h7 a8 h8 hc a b w x g h = k0_pay2 w := by
  unfold sout0_A_0
  rw [View.read_writes_eq_canon _ _ _ (scover0_A_0 c i a1 h1 a2 h2 a3 h3 a4 h4 a5 h5 a6 h6 a7 h7 a8 h8 hc a b w x g h)]
  unfold kernelRun0_A
  dsimp only
  sl_unfold_words
  rw [View.canon_unit_zero origin]
  simp only [View.readAt_eq_ld, h3.read_unread, View.ld_unit_zero (S := S1024x1024) origin]

/-- A covered load of part of one whole store reads that part of what was stored. -/
theorem part_of_store (v : View sig .tc .vmem S1024x1024 .bf16) (s : Vec F S1024x1024 .bf16) (r : Rect S1024x1024) :
    v.readCov [(⟨Rect.unit (s := S1024x1024) ![0, 0] S1024x1024.size inb_S1024x1024_S1024x1024_0_0, s⟩ : View.Piece (Elt F) S1024x1024 .bf16)] r.toLoadRect = View.ld s r := by
  rw [View.readCov_eq_canon', View.canon_unit_zero origin]

/-- … and the block written is computed from them. -/
theorem out_fresh (hc : cond0_0 i) : out0_A_6 c i a1 h1 a2 h2 a3 h3 a4 h4 a5 h5 a6 h6 a7 h7 a8 h8 hc a b w x g h = Cert.Kernel5Ideal.Proj.block a b (k0_pay2 w) x g h := by
  unfold out0_A_6
  rw [View.read_writes_eq_canon _ _ _ (cover0_A_6 c i a1 h1 a2 h2 a3 h3 a4 h4 a5 h5 a6 h6 a7 h7 a8 h8 hc a b w x g h)]
  unfold kernelRun0_A
  dsimp only
  sl_unfold_words
  rw [View.canon_unit_zero origin, part_of_store, part_of_store]
  simp only [View.readAt_eq_ld, h1.read_unread, h2.read_unread, h3.read_unread, h4.read_unread, h5.read_unread, h6.read_unread,
    View.ld_unit_zero (S := S1024x1024) origin, View.ld_unit_zero (S := S512x1024) origin, View.ld_unit_zero (S := S512x512) origin, View.ld_unit_zero (S := S1x1024) origin]
  rfl

/-- Elsewhere it is computed from the weights kept. -/
theorem out_kept (hc : ¬cond0_0 i) : out0_B_6 c i a1 h1 a2 h2 a3 h3 a4 h4 a5 h5 a6 h6 a7 h7 a8 h8 hc a b w x g h s = Cert.Kernel5Ideal.Proj.block a b s x g h := by
  unfold out0_B_6
  rw [View.read_writes_eq_canon _ _ _ (cover0_B_6 c i a1 h1 a2 h2 a3 h3 a4 h4 a5 h5 a6 h6 a7 h7 a8 h8 hc a b w x g h s)]
  unfold kernelRun0_B
  dsimp only
  sl_unfold_words
  rw [View.canon_unit_zero origin]
  simp only [View.readAt_eq_ld, h1.read_unread, h2.read_unread, h4.read_unread, h5.read_unread, h6.read_unread, h8.read_unread,
    View.ld_unit_zero (S := S512x1024) origin, View.ld_unit_zero (S := S512x512) origin, View.ld_unit_zero (S := S1x1024) origin]
  rfl

end Point

/-! ## The blocks of the operands -/

variable (m : (ℓ : Loc nD τ sig) → Buf (Elt Ideal) ℓ) (c : Dev nD)

/-- The arguments as arrays: the rows, the weights, the residual rows, scales and shifts. -/
def A0 : FVec Ideal S32768x1024 .bf16 := m ((c.tc : Thread nD τ).loc main_arg0)
def A1 : FVec Ideal S1024x1024 .f32 := m ((c.tc : Thread nD τ).loc main_arg1)
def A2 : FVec Ideal S32768x1024 .f32 := m ((c.tc : Thread nD τ).loc main_arg2)
def A3 : FVec Ideal S1024 .f32 := m ((c.tc : Thread nD τ).loc main_arg3)
def A4 : FVec Ideal S1024 .f32 := m ((c.tc : Thread nD τ).loc main_arg4)

/-- The scales and shifts as rows. -/
theorem V_v0 (j : Fin 1024) : (V m c main_v0 (ix2 (0 : Fin 1) j) : EReal) = A3 m c (ix1 j) := by
  have : V m c main_v0 = (broadcastInDim S1x1024 ![1] bcast_S1024_S1x1024_1 (A3 m c) : FVec Ideal S1x1024 .f32) := by unfold V; rfl
  rw [this]
  pointwise []
theorem V_v1 (j : Fin 1024) : (V m c main_v1 (ix2 (0 : Fin 1) j) : EReal) = A4 m c (ix1 j) := by
  have : V m c main_v1 = (broadcastInDim S1x1024 ![1] bcast_S1024_S1x1024_1 (A4 m c) : FVec Ideal S1x1024 .f32) := by unfold V; rfl
  rw [this]
  pointwise []

/-- Which rows a point takes: a block of rows for the operands by rows, the one block of the others. -/
theorem idxRows : ∀ t : Fin cfg0.N, (win0_0.index t (0 : Fin 2) = t.val ∧ win0_0.index t (1 : Fin 2) = 0) ∧ (win0_1.index t (0 : Fin 2) = t.val ∧ win0_1.index t (1 : Fin 2) = 1)
    ∧ (win0_3.index t (0 : Fin 2) = t.val ∧ win0_3.index t (1 : Fin 2) = 0) ∧ (win0_6.index t (0 : Fin 2) = t.val ∧ win0_6.index t (1 : Fin 2) = 0) :=
  (by decide +kernel : ∀ t : Fin grid0.N, _)
theorem idxOne : ∀ t : Fin cfg0.N, (win0_2.index t (0 : Fin 2) = 0 ∧ win0_2.index t (1 : Fin 2) = 0) ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem row_lt (t : Fin cfg0.N) (r : Fin 512) : t.val * 512 + r.val < 32768 := by
  have h1 := lt_of_lt_of_eq t.isLt (show cfg0.N = 64 from N_0); have := r.isLt; omega

/-- Row `r` of point `t`'s blocks, among all rows. -/
def row (t : Fin cfg0.N) (r : Fin 512) : Fin 32768 := ⟨t.val * 512 + r.val, row_lt t r⟩

theorem iblk0_at (t : Fin cfg0.N) (r k : Fin 512) : (iblk m c (0 : Fin 7) t (ix2 r k) : EReal) = A0 m c (ix2 (row t r) (⟨k.val, by omega⟩ : Fin 1024)) := by
  refine (congrArg (V m c main_arg0) (funext fun q => Fin.ext ?_)).trans (congrFun (V_main_arg0 m c) _)
  refine (Pipeline.Window.rect_emb_val (cfg0.win (0 : Fin 7)) t (ix2 r k) q).trans ?_
  obtain ⟨⟨e0, e1⟩, -⟩ := idxRows t
  fin_cases q
  · show win0_0.index t (0 : Fin 2) * 512 + r.val = t.val * 512 + r.val; rw [e0]
  · show win0_0.index t (1 : Fin 2) * 512 + k.val = k.val; rw [e1]; omega

theorem iblk1_at (t : Fin cfg0.N) (r k : Fin 512) : (iblk m c (1 : Fin 7) t (ix2 r k) : EReal) = A0 m c (ix2 (row t r) (⟨512 + k.val, by omega⟩ : Fin 1024)) := by
  refine (congrArg (V m c main_arg0) (funext fun q => Fin.ext ?_)).trans (congrFun (V_main_arg0 m c) _)
  refine (Pipeline.Window.rect_emb_val (cfg0.win (1 : Fin 7)) t (ix2 r k) q).trans ?_
  obtain ⟨-, ⟨e0, e1⟩, -⟩ := idxRows t
  fin_cases q
  · show win0_1.index t (0 : Fin 2) * 512 + r.val = t.val * 512 + r.val; rw [e0]
  · show win0_1.index t (1 : Fin 2) * 512 + k.val = 512 + k.val; rw [e1]

theorem iblk2_at (t : Fin cfg0.N) (k j : Fin 1024) : (iblk m c (2 : Fin 7) t (ix2 k j) : EReal) = A1 m c (ix2 k j) := by
  refine (congrArg (V m c main_arg1) (funext fun q => Fin.ext ?_)).trans (congrFun (V_main_arg1 m c) _)
  refine (Pipeline.Window.rect_emb_val (cfg0.win (2 : Fin 7)) t (ix2 k j) q).trans ?_
  obtain ⟨⟨e0, e1⟩, -⟩ := idxOne t
  fin_cases q
  · show win0_2.index t (0 : Fin 2) * 1024 + k.val = k.val; rw [e0]; omega
  · show win0_2.index t (1 : Fin 2) * 1024 + j.val = j.val; rw [e1]; omega

theorem iblk3_at (t : Fin cfg0.N) (r : Fin 512) (j : Fin 1024) : (iblk m c (3 : Fin 7) t (ix2 r j) : EReal) = A2 m c (ix2 (row t r) j) := by
  refine (congrArg (V m c main_arg2) (funext fun q => Fin.ext ?_)).trans (congrFun (V_main_arg2 m c) _)
  refine (Pipeline.Window.rect_emb_val (cfg0.win (3 : Fin 7)) t (ix2 r j) q).trans ?_
  obtain ⟨-, -, ⟨e0, e1⟩, -⟩ := idxRows t
  fin_cases q
  · show win0_3.index t (0 : Fin 2) * 512 + r.val = t.val * 512 + r.val; rw [e0]
  · show win0_3.index t (1 : Fin 2) * 1024 + j.val = j.val; rw [e1]; omega

theorem iblk4_at (t : Fin cfg0.N) (j : Fin 1024) : (iblk m c (4 : Fin 7) t (ix2 (0 : Fin 1) j) : EReal) = A3 m c (ix1 j) := by
  refine (congrArg (V m c main_v0) (funext fun q => Fin.ext ?_)).trans (V_v0 m c j)
  refine (Pipeline.Window.rect_emb_val (cfg0.win (4 : Fin 7)) t (ix2 (0 : Fin 1) j) q).trans ?_
  obtain ⟨-, ⟨e0, e1⟩, -⟩ := idxOne t
  fin_cases q
  · show win0_4.index t (0 : Fin 2) * 1 + 0 = 0; rw [e0]
  · show win0_4.index t (1 : Fin 2) * 1024 + j.val = j.val; rw [e1]; omega

theorem iblk5_at (t : Fin cfg0.N) (j : Fin 1024) : (iblk m c (5 : Fin 7) t (ix2 (0 : Fin 1) j) : EReal) = A4 m c (ix1 j) := by
  refine (congrArg (V m c main_v1) (funext fun q => Fin.ext ?_)).trans (V_v1 m c j)
  refine (Pipeline.Window.rect_emb_val (cfg0.win (5 : Fin 7)) t (ix2 (0 : Fin 1) j) q).trans ?_
  obtain ⟨-, -, e0, e1⟩ := idxOne t
  fin_cases q
  · show win0_5.index t (0 : Fin 2) * 1 + 0 = 0; rw [e0]
  · show win0_5.index t (1 : Fin 2) * 1024 + j.val = j.val; rw [e1]; omega

/-- The weights kept after a point are the matrix. -/
theorem kept_at : ∀ (n : ℕ) (hn : n < cfg0.N) (k j : Fin 1024), ((outsAt0 m c n hn).2 (ix2 k j) : EReal) = A1 m c (ix2 k j) := by
  intro n
  induction n with
  | zero =>
    intro hn k j
    rw [outsAt0_A m c ⟨0, hn⟩ rfl, kept_fresh]
    exact (Cert.Kernel5Ideal.Proj.pay2_at _ k j).trans (iblk2_at m c ⟨0, hn⟩ k j)
  | succ n ih =>
    intro hn k j
    have h : ¬(n + 1) % 64 = 0 := by have := lt_of_lt_of_eq hn (show cfg0.N = 64 from N_0); omega
    rw [outsAt0_B m c ⟨n + 1, hn⟩ h]
    exact ih (Nat.lt_of_succ_lt hn) k j

/-- The result at an element. -/
def result (B0 : FVec Ideal S32768x1024 .bf16) (B1 : FVec Ideal S1024x1024 .f32) (B2 : FVec Ideal S32768x1024 .f32) (B3 B4 : FVec Ideal S1024 .f32) : FVec Ideal S32768x1024 .f32 := fun y =>
  Cert.OutProj.normed (Cert.OutProj.whole (fun k => B0 (ix2 (y 0) k)) (fun k l => B1 (ix2 k l)) (fun l => B2 (ix2 (y 0) l))) (B3 (ix1 (y 1))) (B4 (ix1 (y 1))) (y 1)

/-- The kernel's result on its arguments. -/
def out : FVec Ideal S32768x1024 .f32 := result (A0 m c) (A1 m c) (A2 m c) (A3 m c) (A4 m c)

/-- The block a point writes is the result's, whatever memory the weights kept come from. -/
theorem block_out (t : Fin cfg0.N) (s : S1024x1024.Idx → EReal) (hs : ∀ k j : Fin 1024, s (ix2 k j) = A1 m c (ix2 k j)) (r : Fin 512) (j : Fin 1024) :
    (Cert.Kernel5Ideal.Proj.block (F := Ideal) (iblk m c (0 : Fin 7) t) (iblk m c (1 : Fin 7) t) s (iblk m c (3 : Fin 7) t) (iblk m c (4 : Fin 7) t) (iblk m c (5 : Fin 7) t) (ix2 r j) : EReal)
      = out m c (ix2 (row t r) j) := by
  refine (Cert.Kernel5Ideal.Proj.block_at _ _ s _ _ _ r j).trans ?_
  have e0 : (fun k : Fin 512 => (iblk m c (0 : Fin 7) t (ix2 r k) : EReal)) = fun k => A0 m c (ix2 (row t r) (⟨k.val, by omega⟩ : Fin 1024)) := funext fun k => iblk0_at m c t r k
  have e1 : (fun k : Fin 512 => (iblk m c (1 : Fin 7) t (ix2 r k) : EReal)) = fun k => A0 m c (ix2 (row t r) (⟨512 + k.val, by omega⟩ : Fin 1024)) := funext fun k => iblk1_at m c t r k
  have e3 : (fun l : Fin 1024 => (iblk m c (3 : Fin 7) t (ix2 r l) : EReal)) = fun l => A2 m c (ix2 (row t r) l) := funext fun l => iblk3_at m c t r l
  have e4 := iblk4_at m c t j
  have e5 := iblk5_at m c t j
  simp only [hs]
  refine (congrArg₂ (fun y z : EReal => Cert.OutProj.normed _ y z j) e4 e5).trans ?_
  refine congrArg (fun y => Cert.OutProj.normed y _ _ j) ?_
  refine Eq.trans ?_ (Cert.OutProj.whole_eq _ (fun k l => A1 m c (ix2 k l)) _).symm
  refine (congrArg (fun y => Cert.OutProj.mixed y _ _ _ _) e0).trans ?_
  exact congrArg₂ (fun y z => Cert.OutProj.mixed _ y _ _ z) e1 e3

theorem wrote_at (t : Fin cfg0.N) (r : Fin 512) (j : Fin 1024) : ((outsAt0 m c t.val t.isLt).1 (ix2 r j) : EReal) = out m c (ix2 (row t r) j) := by
  by_cases h : t.val % 64 = 0
  · rw [outsAt0_A m c t h, out_fresh]
    exact block_out m c t _ (fun k j => (Cert.Kernel5Ideal.Proj.pay2_at _ k j).trans (iblk2_at m c t k j)) r j
  · rw [outsAt0_B m c t h, out_kept]
    exact block_out m c t _ (fun k j => kept_at m c (t.val - 1) _ k j) r j

/-- The array after the run is the result. -/
theorem result_eq : (dats m 0 c).arrAt 6 cfg0.N = out m c := by
  refine (dats m 0 c).arrAt_eq_of_emb (6 : Fin 7) (out m c) (fun t hf y => ?_) (fun i => (covered_iff6 i).2 (by
    have h0 : (i 0).val < 32768 := (i 0).isLt; have h1 : (i 1).val < 1024 := (i 1).isLt; omega))
  have eta : ∀ y : S512x1024.Idx, ∃ (r : Fin 512) (j : Fin 1024), y = ix2 r j := fun y => ⟨y 0, y 1, eq_ix2 y⟩
  obtain ⟨r, j, rfl⟩ := eta y
  refine (wrote_at m c t r j).trans (congrArg (out m c) (funext fun q => Fin.ext ?_))
  refine Eq.trans ?_ (Pipeline.Window.rect_emb_val (cfg0.win (6 : Fin 7)) t (ix2 r j) q).symm
  obtain ⟨-, -, -, e0, e1⟩ := idxRows t
  fin_cases q
  · show t.val * 512 + r.val = win0_6.index t (0 : Fin 2) * 512 + r.val; rw [e0]
  · show j.val = win0_6.index t (1 : Fin 2) * 1024 + j.val; rw [e1]; omega

end Cert.Kernel6Ideal.Proj

namespace Cert.Reference6Ideal.Proj

open Cert.Reference6Ideal Cert.Reference6Ideal.Gen Cert.Reference6Ideal.Value
open Idealize.ShloMosaic Idealize.ShloMosaic.TcCoe Idealize.ShloMosaic.Tactic Idealize.SL.Sem

/-- The reference's run, its result the kernel's of the same arguments. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = Cert.Kernel6Ideal.Proj.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2⟩) (Cert.Reference6Ideal.Value.run m ρ)
  have eta : ∀ y : S32768x1024.Idx, ∃ (r : Fin 32768) (j : Fin 1024), y = ix2 r j := fun y => ⟨y 0, y 1, eq_ix2 y⟩
  funext y
  obtain ⟨r, j, rfl⟩ := eta y
  unfold Cert.Kernel6Ideal.Proj.result Cert.OutProj.normed Cert.OutProj.centred Cert.OutProj.whole
  pointwise []

end Cert.Reference6Ideal.Proj

end
-- ==== Proof.Proj.Heads.lean ====
module

public import proofs.«01_k».proof.Proof.Softmax
public import proofs.«01_k».proof.Proof.Gen.Kernel7Ideal.Skeleton
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

/-!
# The odd layers' query and key norms: each head written is the reference's

Columns below 1024 are queries and the others keys; a head is 64 columns, and a block of the kernel holds two heads.
-/

namespace Cert.Heads

open Idealize.ShloMosaic

/-- The factor of a head whose squares sum to `s`. -/
def inv (s : EReal) : EReal := Ideal.rsqrt (Ideal.div s (Ideal.ofBits FTy.f32 1115684864#32) + Ideal.ofBits FTy.f32 897988541#32)

/-- The sum of a head's squares. -/
def squares (f : Fin 64 → EReal) : EReal := ∑ y, f y * f y

/-- Of 128 lanes, the sum over the first head's, and over the second's. -/
theorem sum_first (g : Fin 128 → EReal) : (∑ l : Fin 128, if l.val < 64 then g l else 0) = ∑ y : Fin 64, g ⟨y.val, by omega⟩ := by
  refine (Fin.sum_univ_add (a := 64) (b := 64) fun l : Fin 128 => if l.val < 64 then g l else 0).trans ?_
  rw [Finset.sum_congr rfl fun y _ => if_pos y.isLt, Finset.sum_eq_zero fun y _ => if_neg (by show ¬(64 + y.val < 64); omega), add_zero]
  rfl
theorem sum_second (g : Fin 128 → EReal) : (∑ l : Fin 128, if l.val < 64 then 0 else g l) = ∑ y : Fin 64, g ⟨64 + y.val, by omega⟩ := by
  refine (Fin.sum_univ_add (a := 64) (b := 64) fun l : Fin 128 => if l.val < 64 then 0 else g l).trans ?_
  rw [Finset.sum_eq_zero fun y _ => if_pos y.isLt, Finset.sum_congr rfl fun y _ => if_neg (by show ¬(64 + y.val < 64); omega), zero_add]
  rfl

end Cert.Heads

namespace Cert.Kernel7Ideal.Proj

open Cert.Kernel7Ideal Cert.Kernel7Ideal.Gen Cert.Kernel7Ideal.Value
open Idealize.ShloMosaic Idealize.ShloMosaic.TcCoe Idealize.ShloMosaic.Tactic Idealize.SL.Sem
open Idealize.ShloMosaic.Pipeline (Dat)
open Cert.Fox (select_slt)

theorem origin : (![0, 0] : Fin 2 → Nat) = fun _ => 0 := funext fun a => by fin_cases a <;> rfl
theorem origin3 : (![0, 0, 0] : Fin 3 → Nat) = fun _ => 0 := funext fun a => by fin_cases a <;> rfl

/-- A lane of a block: its head's factor, and its weight. -/
theorem pay1_at (x : S1024x128.Idx → EReal) (w : S1x1x128.Idx → EReal) (r : Fin 1024) (l : Fin 128) :
    (k0_pay1 (F := Ideal) x w (ix2 r l) : EReal)
      = x (ix2 r l) * Cert.Heads.inv (Cert.Heads.squares fun y => x (ix2 r ⟨l.val / 64 * 64 + y.val, by omega⟩)) * w (ix3 (0 : Fin 1) (0 : Fin 1) l) := by
  pointwise [k0_pay1]
  refine congrArg (fun z => x (ix2 r l) * z * w (ix3 (0 : Fin 1) (0 : Fin 1) l)) ((select_slt l.val 64 (by omega) (by omega) _ _).trans ?_)
  by_cases h : l.val < 64
  · rw [if_pos h]
    refine congrArg Cert.Heads.inv (((Finset.sum_congr rfl fun z _ => select_slt z.val 64 (by omega) (by omega) _ _).trans (Cert.Heads.sum_first fun z => x (ix2 r z) * x (ix2 r z))).trans ?_)
    refine Finset.sum_congr rfl fun y _ => ?_
    have e : (⟨y.val, by omega⟩ : Fin 128) = ⟨l.val / 64 * 64 + y.val, by omega⟩ := Fin.ext (by show y.val = l.val / 64 * 64 + y.val; omega)
    rw [e]
  · rw [if_neg h]
    refine congrArg Cert.Heads.inv (((Finset.sum_congr rfl fun z _ => select_slt z.val 64 (by omega) (by omega) _ _).trans (Cert.Heads.sum_second fun z => x (ix2 r z) * x (ix2 r z))).trans ?_)
    refine Finset.sum_congr rfl fun y _ => ?_
    have e : (⟨64 + y.val, by omega⟩ : Fin 128) = ⟨l.val / 64 * 64 + y.val, by omega⟩ := Fin.ext (by show 64 + y.val = l.val / 64 * 64 + y.val; omega)
    rw [e]

variable (m : (ℓ : Loc nD τ sig) → Buf (Elt Ideal) ℓ) (c : Dev nD)

/-- The arguments as arrays: the projections, and the weights of queries and keys. -/
def A0 : FVec Ideal S32768x4096 .bf16 := m ((c.tc : Thread nD τ).loc main_arg0)
def A1 : FVec Ideal S2x64 .f32 := m ((c.tc : Thread nD τ).loc main_arg1)

/-- The weights times 1/8 for queries and 1 for keys, for two heads. -/
def scaled (w : FVec Ideal S2x64 .f32) : FVec Ideal S2x1x128 .f32 :=
  broadcastInDim S2x1x128 ![0, 2] bcast_S2x128_S2x1x128_0_2 (shapeCast S2x128 (broadcastInDim S1x2x2x64 ![0, 1, 2, 3] bcast_S1x2x1x64_S1x2x2x64_0_1_2_3 (shapeCast S1x2x1x64 (mulf w (broadcastInDim S2x64 ![0, 1] bcast_S2x1_S2x64_0_1 (broadcastInDim S2x1 ![0] bcast_S2_S2x1_0 (fun i => FloatOps.ofBits .f32 (lit0 (S2.rowMajor i)) : FVec Ideal S2 .f32)))) shapeCasts_S2x64_S1x2x1x64)) shapeCasts_S1x2x2x64_S2x128)

theorem V_v6 : V m c main_v6 = scaled (A1 m c) := by unfold V; rfl

theorem scaled_at (w : FVec Ideal S2x64 .f32) (p : Fin 2) (l : Fin 128) :
    (scaled w (ix3 p (0 : Fin 1) l) : EReal) = w (ix2 p ⟨l.val % 64, Nat.mod_lt _ (by decide)⟩) * Ideal.ofBits FTy.f32 (lit0 p) := by
  pointwise [scaled]
  fin_cases p <;> rfl

/-- Which rows and columns a point takes, and which weights. -/
theorem idx0 : ∀ t : Fin cfg0.N, win0_0.index t (0 : Fin 2) = t.val / 16 ∧ win0_0.index t (1 : Fin 2) = t.val % 16 :=
  (by decide +kernel : ∀ t : Fin grid0.N, _)
theorem idx1 : ∀ t : Fin cfg0.N, win0_1.index t (0 : Fin 3) = t.val % 16 / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 16 ∧ win0_2.index t (1 : Fin 2) = t.val % 16 :=
  (by decide +kernel : ∀ t : Fin grid0.N, _)

theorem row_lt (t : Fin cfg0.N) (r : Fin 1024) : t.val / 16 * 1024 + r.val < 32768 := by
  have h1 := lt_of_lt_of_eq t.isLt (show cfg0.N = 512 from N_0); have := r.isLt; omega
theorem col_lt (t : Fin cfg0.N) (l : Fin 128) : t.val % 16 * 128 + l.val < 2048 := by have := l.isLt; omega

theorem iblk0_at (t : Fin cfg0.N) (r : Fin 1024) (l : Fin 128) :
    (iblk m c (0 : Fin 3) t (ix2 r l) : EReal) = A0 m c (ix2 ⟨t.val / 16 * 1024 + r.val, row_lt t r⟩ ⟨t.val % 16 * 128 + l.val, by omega⟩) := by
  refine (congrArg (V m c main_arg0) (funext fun q => Fin.ext ?_)).trans (congrFun (V_main_arg0 m c) _)
  refine (Pipeline.Window.rect_emb_val (cfg0.win (0 : Fin 3)) t (ix2 r l) q).trans ?_
  obtain ⟨e0, e1⟩ := idx0 t
  fin_cases q
  · show win0_0.index t (0 : Fin 2) * 1024 + r.val = t.val / 16 * 1024 + r.val; rw [e0]
  · show win0_0.index t (1 : Fin 2) * 128 + l.val = t.val % 16 * 128 + l.val; rw [e1]

theorem iblk1_at (t : Fin cfg0.N) (l : Fin 128) :
    (iblk m c (1 : Fin 3) t (ix3 (0 : Fin 1) (0 : Fin 1) l) : EReal) = scaled (A1 m c) (ix3 ⟨t.val % 16 / 8, by omega⟩ (0 : Fin 1) l) := by
  refine (congrArg (V m c main_v6) (funext fun q => Fin.ext ?_)).trans (congrFun (V_v6 m c) _)
  refine (Pipeline.Window.rect_emb_val (cfg0.win (1 : Fin 3)) t (ix3 (0 : Fin 1) (0 : Fin 1) l) q).trans ?_
  obtain ⟨e0, e1, e2⟩ := idx1 t
  fin_cases q
  · show win0_1.index t (0 : Fin 3) * 1 + 0 = t.val % 16 / 8; rw [e0]; omega
  · show win0_1.index t (1 : Fin 3) * 1 + 0 = 0; rw [e1]
  · show win0_1.index t (2 : Fin 3) * 128 + l.val = l.val; rw [e2]; omega

/-- The result: a lane times its head's factor, its weight, and 1/8 for queries. -/
def result (x : FVec Ideal S32768x4096 .bf16) (w : FVec Ideal S2x64 .f32) : FVec Ideal S32768x2048 .bf16 := fun i =>
  have h : (i 1).val < 2048 := (i 1).isLt
  (x (ix2 (i 0) ⟨(i 1).val, by omega⟩) : EReal) * Cert.Heads.inv (Cert.Heads.squares fun y => x (ix2 (i 0) ⟨(i 1).val / 64 * 64 + y.val, by omega⟩))
    * (w (ix2 ⟨(i 1).val / 1024, by omega⟩ ⟨(i 1).val % 64, Nat.mod_lt _ (by decide)⟩) * Ideal.ofBits FTy.f32 (lit0 ⟨(i 1).val / 1024, by omega⟩))

/-- The block a point writes is the result's. -/
theorem wrote_at (t : Fin cfg0.N) (r : Fin 1024) (l : Fin 128) :
    (out0_2 (iblk m c (0 : Fin 3) t) (iblk m c (1 : Fin 3) t) (ix2 r l) : EReal)
      = result (A0 m c) (A1 m c) (ix2 ⟨t.val / 16 * 1024 + r.val, row_lt t r⟩ ⟨t.val % 16 * 128 + l.val, col_lt t l⟩) := by
  unfold out0_2
  rw [View.canon_unit_zero origin, View.ld_unit_zero (S := S1024x128) origin, View.ld_unit_zero (S := S1x1x128) origin3]
  refine (pay1_at _ _ r l).trans ?_
  rw [iblk1_at, scaled_at, iblk0_at]
  have hl := l.isLt
  have e : (Cert.Heads.squares fun y => (iblk m c (0 : Fin 3) t (ix2 r ⟨l.val / 64 * 64 + y.val, by omega⟩) : EReal))
      = Cert.Heads.squares fun y => A0 m c (ix2 ⟨t.val / 16 * 1024 + r.val, row_lt t r⟩ ⟨(t.val % 16 * 128 + l.val) / 64 * 64 + y.val, by omega⟩) := by
    refine congrArg Cert.Heads.squares (funext fun y => (iblk0_at m c t r _).trans (congrArg (fun z => A0 m c (ix2 _ z)) (Fin.ext ?_)))
    show t.val % 16 * 128 + (l.val / 64 * 64 + y.val) = (t.val % 16 * 128 + l.val) / 64 * 64 + y.val
    omega
  rw [e]
  have e1 : (⟨t.val % 16 / 8, by omega⟩ : Fin 2) = ⟨(t.val % 16 * 128 + l.val) / 1024, by omega⟩ := Fin.ext (by show t.val % 16 / 8 = (t.val % 16 * 128 + l.val) / 1024; omega)
  have e2 : (⟨l.val % 64, Nat.mod_lt _ (by decide)⟩ : Fin 64) = ⟨(t.val % 16 * 128 + l.val) % 64, Nat.mod_lt _ (by decide)⟩ := Fin.ext (by show l.val % 64 = (t.val % 16 * 128 + l.val) % 64; omega)
  rw [e1, e2]
  rfl

/-- The blocks written cover the result. -/
theorem cover (i : S32768x2048.Idx) : ∃ t : Fin cfg0.N, (cfg0.win 2).flush t = true ∧ i ∈ ((cfg0.win 2).blk t).view.set := by
  have h0 : (i 0).val < 32768 := (i 0).isLt
  have h1 : (i 1).val < 2048 := (i 1).isLt
  let t : Fin cfg0.N := ⟨(i 0).val / 1024 * 16 + (i 1).val / 128, lt_of_lt_of_eq (by omega) N_0.symm⟩
  refine ⟨t, flush0_2 t, (Pipeline.Window.emb_mem_blk_iff (cfg0.win 2) t i).mpr fun a => ?_⟩
  obtain ⟨e0, e1⟩ := idx2 t
  have ht : t.val = (i 0).val / 1024 * 16 + (i 1).val / 128 := rfl
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-- The array after the run is the result. -/
theorem result_eq : (dats m 0 c).arrAt 2 cfg0.N = result (A0 m c) (A1 m c) := by
  refine (dats m 0 c).arrAt_eq_of_emb (2 : Fin 3) (result (A0 m c) (A1 m c)) (fun t hf y => ?_) cover
  have eta : ∀ y : S1024x128.Idx, ∃ (r : Fin 1024) (l : Fin 128), y = ix2 r l := fun y => ⟨y 0, y 1, eq_ix2 y⟩
  obtain ⟨r, l, rfl⟩ := eta y
  refine (congrFun (after0_2 m c t) _).trans ?_
  refine (wrote_at m c t r l).trans (congrArg (result (A0 m c) (A1 m c)) (funext fun q => Fin.ext ?_))
  refine Eq.trans ?_ (Pipeline.Window.rect_emb_val (cfg0.win (2 : Fin 3)) t (ix2 r l) q).symm
  obtain ⟨e0, e1⟩ := idx2 t
  fin_cases q
  · show t.val / 16 * 1024 + r.val = win0_2.index t (0 : Fin 2) * 1024 + r.val; rw [e0]
  · show t.val % 16 * 128 + l.val = win0_2.index t (1 : Fin 2) * 128 + l.val; rw [e1]

end Cert.Kernel7Ideal.Proj

namespace Cert.Reference7Ideal.Proj

open Cert.Reference7Ideal Cert.Reference7Ideal.Gen
open Idealize.ShloMosaic Idealize.ShloMosaic.TcCoe Idealize.ShloMosaic.Tactic Idealize.SL.Sem

/-- Sixteen heads of a row's 1024 columns from `off`. -/
def heads (off : ℕ) (hs : S32768x4096.Slices ![0, off] S32768x1024) (x : FVec Ideal S32768x4096 .bf16) : FVec Ideal S32768x16x64 .f32 :=
  shapeCast S32768x16x64 (extf .f32 (extractStridedSlice S32768x1024 ![0, off] x hs) bitsLt_bf16_f32) shapeCasts_S32768x1024_S32768x16x64

theorem heads_at (off : ℕ) (hs : S32768x4096.Slices ![0, off] S32768x1024) (ho : off + 1024 ≤ 4096) (x : FVec Ideal S32768x4096 .bf16) (i : Fin 32768) (h : Fin 16) (y : Fin 64) :
    (heads off hs x (ix3 i h y) : EReal) = x (ix2 i ⟨off + (h.val * 64 + y.val), by omega⟩) := by
  pointwise [heads]

/-- Heads normalized, with the weights of a row of the second argument. -/
def normed (x : FVec Ideal S32768x16x64 .f32) (w : FVec Ideal S1x64 .f32) : FVec Ideal S32768x16x64 .f32 :=
  mulf (mulf x (broadcastInDim S32768x16x64 ![0, 1, 2] bcast_S32768x16x1_S32768x16x64_0_1_2 (Host.rsqrt (addf (Host.divf (broadcastInDim S32768x16x1 ![0, 1] bcast_S32768x16_S32768x16x1_0_1 (Host.reduceAdd (mulf x x) (constant S_ .f32 0x00000000#32) reducesTo_S32768x16x64_S32768x16_d2 h_S_)) (broadcastInDim S32768x16x1 ![] bcast_S_S32768x16x1 (constant S_ .f32 0x42800000#32))) (broadcastInDim S32768x16x1 ![] bcast_S_S32768x16x1 (constant S_ .f32 0x358637BD#32))))))
    (broadcastInDim S32768x16x64 ![0, 1, 2] bcast_S1x1x64_S32768x16x64_0_1_2 (broadcastInDim S1x1x64 ![2] bcast_S64_S1x1x64_2 (shapeCast S64 w shapeCasts_S1x64_S64)))

theorem normed_at (x : FVec Ideal S32768x16x64 .f32) (w : FVec Ideal S1x64 .f32) (i : Fin 32768) (h : Fin 16) (y : Fin 64) :
    (normed x w (ix3 i h y) : EReal) = x (ix3 i h y) * Cert.Heads.inv (Cert.Heads.squares fun z => x (ix3 i h z)) * w (ix2 (0 : Fin 1) y) := by
  pointwise [normed]
  rfl

/-- Queries and keys, back in columns. -/
def queries (x : FVec Ideal S32768x4096 .bf16) (w : FVec Ideal S2x64 .f32) : FVec Ideal S32768x1024 .f32 :=
  shapeCast S32768x1024 (mulf (normed (heads 0 slices_S32768x4096_S32768x1024_0_0 x) (extractStridedSlice S1x64 ![0, 0] w slices_S2x64_S1x64_0_0)) (broadcastInDim S32768x16x64 ![] bcast_S_S32768x16x64 (constant S_ .f32 0x3E000000#32))) shapeCasts_S32768x16x64_S32768x1024
def keys (x : FVec Ideal S32768x4096 .bf16) (w : FVec Ideal S2x64 .f32) : FVec Ideal S32768x1024 .f32 :=
  shapeCast S32768x1024 (normed (heads 1024 slices_S32768x4096_S32768x1024_0_1024 x) (extractStridedSlice S1x64 ![1, 0] w slices_S2x64_S1x64_1_0)) shapeCasts_S32768x16x64_S32768x1024

theorem queries_at (x : FVec Ideal S32768x4096 .bf16) (w : FVec Ideal S2x64 .f32) (i : Fin 32768) (j : Fin 1024) :
    (queries x w (ix2 i j) : EReal) = normed (heads 0 slices_S32768x4096_S32768x1024_0_0 x) (extractStridedSlice S1x64 ![0, 0] w slices_S2x64_S1x64_0_0) (ix3 i ⟨j.val / 64, by omega⟩ ⟨j.val % 64, Nat.mod_lt _ (by decide)⟩) * Ideal.ofBits FTy.f32 0x3E000000#32 := by
  unfold queries
  generalize normed _ _ = v
  pointwise []

theorem keys_at (x : FVec Ideal S32768x4096 .bf16) (w : FVec Ideal S2x64 .f32) (i : Fin 32768) (j : Fin 1024) :
    (keys x w (ix2 i j) : EReal) = normed (heads 1024 slices_S32768x4096_S32768x1024_0_1024 x) (extractStridedSlice S1x64 ![1, 0] w slices_S2x64_S1x64_1_0) (ix3 i ⟨j.val / 64, by omega⟩ ⟨j.val % 64, Nat.mod_lt _ (by decide)⟩) := by
  unfold keys
  generalize normed _ _ = v
  pointwise []

/-- Queries and keys side by side. -/
def both (q k : FVec Ideal S32768x1024 .f32) : FVec Ideal S32768x2048 .bf16 :=
  truncf .bf16 (concatenate S32768x2048 1 [⟨S32768x1024, q⟩, ⟨S32768x1024, k⟩] concatenates_S32768x1024_S32768x1024_S32768x2048_d1) bitsLt_bf16_f32

theorem both_at (q k : FVec Ideal S32768x1024 .f32) (i : Fin 32768) (j : Fin 2048) :
    (both q k (ix2 i j) : EReal) = if h : j.val < 1024 then q (ix2 i ⟨j.val, h⟩) else k (ix2 i ⟨j.val - 1024, by omega⟩) := by
  pointwise [both]

/-- The reference is the kernel's result: its factor 1/8 is in the kernel's weights. -/
theorem ref_eq (x : FVec Ideal S32768x4096 .bf16) (w : FVec Ideal S2x64 .f32) : both (queries x w) (keys x w) = Cert.Kernel7Ideal.Proj.result x w := by
  have eta : ∀ y : S32768x2048.Idx, ∃ (i : Fin 32768) (j : Fin 2048), y = ix2 i j := fun y => ⟨y 0, y 1, eq_ix2 y⟩
  funext y
  obtain ⟨i, j, rfl⟩ := eta y
  have hj := j.isLt
  refine (both_at _ _ i j).trans ?_
  show _ = (x (ix2 i ⟨j.val, by omega⟩) : EReal) * Cert.Heads.inv (Cert.Heads.squares fun y => x (ix2 i ⟨j.val / 64 * 64 + y.val, by omega⟩))
    * (w (ix2 ⟨j.val / 1024, by omega⟩ ⟨j.val % 64, Nat.mod_lt _ (by decide)⟩) * Ideal.ofBits FTy.f32 (Cert.Kernel7Ideal.lit0 ⟨j.val / 1024, by omega⟩))
  by_cases h : j.val < 1024
  · rw [dif_pos h, queries_at, normed_at]
    simp only [heads_at 0 slices_S32768x4096_S32768x1024_0_0 (by decide)]
    have ew : (extractStridedSlice S1x64 ![0, 0] w slices_S2x64_S1x64_0_0 (ix2 (0 : Fin 1) (⟨j.val % 64, Nat.mod_lt _ (by decide)⟩ : Fin 64)) : EReal) = w (ix2 (0 : Fin 2) ⟨j.val % 64, Nat.mod_lt _ (by decide)⟩) := by
      pointwise []
    have ej : (⟨0 + (j.val / 64 * 64 + j.val % 64), by omega⟩ : Fin 4096) = ⟨j.val, by omega⟩ := Fin.ext (by show 0 + (j.val / 64 * 64 + j.val % 64) = j.val; omega)
    have ez : ∀ z : Fin 64, (⟨0 + (j.val / 64 * 64 + z.val), by omega⟩ : Fin 4096) = ⟨j.val / 64 * 64 + z.val, by omega⟩ := fun z => Fin.ext (by show 0 + (j.val / 64 * 64 + z.val) = j.val / 64 * 64 + z.val; omega)
    have ep : (⟨j.val / 1024, by omega⟩ : Fin 2) = 0 := Fin.ext (by show j.val / 1024 = 0; omega)
    simp only [ej, ez, ep]
    rw [ew]
    exact mul_assoc (G := EReal) _ _ _
  · rw [dif_neg h, keys_at, normed_at]
    simp only [heads_at 1024 slices_S32768x4096_S32768x1024_0_1024 (by decide)]
    have ew : (extractStridedSlice S1x64 ![1, 0] w slices_S2x64_S1x64_1_0 (ix2 (0 : Fin 1) (⟨(j.val - 1024) % 64, Nat.mod_lt _ (by decide)⟩ : Fin 64)) : EReal) = w (ix2 (1 : Fin 2) ⟨j.val % 64, Nat.mod_lt _ (by decide)⟩) := by
      have e : (⟨(j.val - 1024) % 64, Nat.mod_lt _ (by decide)⟩ : Fin 64) = ⟨j.val % 64, Nat.mod_lt _ (by decide)⟩ := Fin.ext (by show (j.val - 1024) % 64 = j.val % 64; omega)
      rw [e]
      pointwise []
    have ej : (⟨1024 + ((j.val - 1024) / 64 * 64 + (j.val - 1024) % 64), by omega⟩ : Fin 4096) = ⟨j.val, by omega⟩ := Fin.ext (by show 1024 + ((j.val - 1024) / 64 * 64 + (j.val - 1024) % 64) = j.val; omega)
    have ez : ∀ z : Fin 64, (⟨1024 + ((j.val - 1024) / 64 * 64 + z.val), by omega⟩ : Fin 4096) = ⟨j.val / 64 * 64 + z.val, by omega⟩ := fun z => Fin.ext (by show 1024 + ((j.val - 1024) / 64 * 64 + z.val) = j.val / 64 * 64 + z.val; omega)
    have ep : (⟨j.val / 1024, by omega⟩ : Fin 2) = 1 := Fin.ext (by show j.val / 1024 = 1; omega)
    simp only [ej, ez, ep]
    rw [ew, show Ideal.ofBits FTy.f32 (Cert.Kernel7Ideal.lit0 1) = 1 from Ideal.ofBits_one_f32, mul_one]

end Cert.Reference7Ideal.Proj

end
-- ==== Proof.Proj.Gates.lean ====
module

public import proofs.«01_k».proof.Proof.Softmax
public import proofs.«01_k».proof.Proof.Gen.Kernel8Ideal.Skeleton
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

/-!
# The odd layers' cumulative log gates: each block of sums carries on from the last row of the block before
-/

namespace Cert.Gates

open Idealize.ShloMosaic

/-- The logarithm of the sigmoid, of a gate's negative. -/
def logSig (n : EReal) : EReal := -(max n 0 + Ideal.log (1 + Ideal.exp (-(FloatOps.absf (F := Ideal) (φ := .f32) n))))

/-- A sum over the indices up to `n`, as a masked sum. -/
theorem masked (N n : ℕ) (hn : n < N) (f : ℕ → EReal) : (∑ x : Fin N, if x.val ≤ n then f x.val else 0) = ∑ k ∈ Finset.range (n + 1), f k := by
  rw [Fin.sum_univ_eq_sum_range (fun k => if k ≤ n then f k else 0) N]
  refine (Finset.sum_subset (Finset.range_mono (show n + 1 ≤ N from hn)) fun k _ hk => if_neg fun h => hk (Finset.mem_range.2 (by omega))).symm.trans ?_
  exact Finset.sum_congr rfl fun k hk => if_pos (by have := Finset.mem_range.1 hk; omega)

variable (x : (⟨2, ![32768, 1024]⟩ : Shape).Idx → EReal) (w : (⟨2, ![1024, 128]⟩ : Shape).Idx → EReal) (b : (⟨2, ![1, 128]⟩ : Shape).Idx → EReal)

/-- The log gate of a row. -/
def log (i : ℕ) (l : Fin 128) : EReal := if h : i < 32768 then logSig (-((∑ k : Fin 1024, x (ix2 ⟨i, h⟩ k) * w (ix2 k l)) + b (ix2 (0 : Fin 1) l))) else 0

theorem log_at (i : Fin 32768) (l : Fin 128) : log x w b i.val l = logSig (-((∑ k : Fin 1024, x (ix2 i k) * w (ix2 k l)) + b (ix2 (0 : Fin 1) l))) := dif_pos i.isLt

/-- The sum of the first `n` log gates of sequence `q`. -/
def upTo (q n : ℕ) (l : Fin 128) : EReal := ∑ k ∈ Finset.range n, log x w b (q * 16384 + k) l

theorem upTo_add (q n r : ℕ) (l : Fin 128) : (∑ k ∈ Finset.range r, log x w b (q * 16384 + n + k) l) + upTo x w b q n l = upTo x w b q (n + r) l := by
  unfold upTo
  rw [Finset.sum_range_add, add_comm]
  simp only [Nat.add_assoc]

/-- The sums up to each row, within its sequence. -/
def cumulative : (⟨2, ![32768, 128]⟩ : Shape).Idx → EReal := fun y => upTo x w b ((y 0).val / 16384) ((y 0).val % 16384 + 1) (y 1)

end Cert.Gates

namespace Cert.Kernel8Ideal.Proj

open Cert.Kernel8Ideal Cert.Kernel8Ideal.Gen Cert.Kernel8Ideal.Value
open Idealize.ShloMosaic Idealize.ShloMosaic.TcCoe Idealize.ShloMosaic.Tactic Idealize.SL.Sem
open Idealize.ShloMosaic.Pipeline (Dat)

theorem origin : (![0, 0] : Fin 2 → Nat) = fun _ => 0 := funext fun a => by fin_cases a <;> rfl

/-! ## What a point leaves -/

/-- The block written, from the rows, the weights, the shifts and the row carried. -/
abbrev block {F : FTy → Type} [FloatOps F] (x : Vec F S512x1024 .f32) (w : Vec F S1024x128 .f32) (b v : Vec F S1x128 .f32) : FVec F S512x128 .f32 :=
  k0_pay1 (k0_pay4 x w b) k0_pay5 (Scalar.ofBits .f32 0x3F800000#32) (Scalar.ofBits .f32 0x00000000#32) v
/-- The rows kept. -/
abbrev kept {F : FTy → Type} [FloatOps F] (x : Vec F S512x1024 .f32) (w : Vec F S1024x128 .f32) (b v : Vec F S1x128 .f32) : FVec F S8x128 .f32 :=
  k0_pay2 (k0_pay4 x w b) k0_pay5 (Scalar.ofBits .f32 0x3F800000#32) (Scalar.ofBits .f32 0x00000000#32) v
/-- The first of the rows kept. -/
abbrev first {F : FTy → Type} [FloatOps F] (s : Vec F S8x128 .f32) : Vec F S1x128 .f32 := View.ld s (Rect.unit (s := S8x128) ![0, 0] S1x128.size inb_S8x128_S1x128_0_0)

section Point

variable {F : FTy → Type} [FloatOps F]
variable (c : Dev nD) (i : grid0.Coords) (a1 : Memref sig .tc .vmem S512x1024 .f32) (h1 : a1.IsWhole) (a2 : Memref sig .tc .vmem S1024x128 .f32) (h2 : a2.IsWhole)
    (a3 : Memref sig .tc .vmem S1x128 .f32) (h3 : a3.IsWhole) (a4 : Memref sig .tc .vmem S1x128 .f32) (h4 : a4.IsWhole) (a5 : Memref sig .tc .vmem S512x128 .f32) (h5 : a5.IsWhole)
    (a6 : Memref sig .tc .vmem S8x128 .f32) (h6 : a6.IsWhole) (x : Vec F S512x1024 .f32) (w : Vec F S1024x128 .f32) (b b' : Vec F S1x128 .f32) (s : Vec F S8x128 .f32)

/-- A covered load of the first row of one whole store reads that row of what was stored. -/
theorem part_of_store (v : View sig .tc .vmem S8x128 .f32) (s : Vec F S8x128 .f32) (r : Rect S8x128) :
    v.readCov [(⟨Rect.unit (s := S8x128) ![0, 0] S8x128.size inb_S8x128_S8x128_0_0, s⟩ : View.Piece (Elt F) S8x128 .f32)] r.toLoadRect = View.ld s r := by
  rw [View.readCov_eq_canon', View.canon_unit_zero origin]

/-- At a sequence's first point the sums start from zero, -/
theorem out_fresh (hc : cond0_0 i) : out0_A_4 c i a1 h1 a2 h2 a3 h3 a4 h4 a5 h5 a6 h6 hc x w b b' = block x w b (first k0_pay3) := by
  unfold out0_A_4
  rw [View.read_writes_eq_canon _ _ _ (cover0_A_4 c i a1 h1 a2 h2 a3 h3 a4 h4 a5 h5 a6 h6 hc x w b b')]
  unfold kernelRun0_A
  dsimp only
  sl_unfold_words
  rw [View.canon_unit_zero origin, part_of_store]
  simp only [View.readAt_eq_ld, h1.read_unread, h2.read_unread, h3.read_unread, View.ld_unit_zero (S := S512x1024) origin, View.ld_unit_zero (S := S1024x128) origin, View.ld_unit_zero (S := S1x128) origin]

theorem kept_fresh (hc : cond0_0 i) : sout0_A_0 c i a1 h1 a2 h2 a3 h3 a4 h4 a5 h5 a6 h6 hc x w b b' = kept x w b (first k0_pay3) := by
  unfold sout0_A_0
  rw [View.read_writes_eq_canon _ _ _ (scover0_A_0 c i a1 h1 a2 h2 a3 h3 a4 h4 a5 h5 a6 h6 hc x w b b')]
  unfold kernelRun0_A
  dsimp only
  sl_unfold_words
  rw [View.canon_cons_unit_zero origin, part_of_store]
  simp only [View.readAt_eq_ld, h1.read_unread, h2.read_unread, h3.read_unread, View.ld_unit_zero (S := S512x1024) origin, View.ld_unit_zero (S := S1024x128) origin, View.ld_unit_zero (S := S1x128) origin]

/-- elsewhere from the row carried. -/
theorem out_kept (hc : ¬cond0_0 i) : out0_B_4 c i a1 h1 a2 h2 a3 h3 a4 h4 a5 h5 a6 h6 hc x w b b' s = block x w b (first s) := by
  unfold out0_B_4
  rw [View.read_writes_eq_canon _ _ _ (cover0_B_4 c i a1 h1 a2 h2 a3 h3 a4 h4 a5 h5 a6 h6 hc x w b b' s)]
  unfold kernelRun0_B
  dsimp only
  sl_unfold_words
  rw [View.canon_unit_zero origin]
  simp only [View.readAt_eq_ld, h1.read_unread, h2.read_unread, h3.read_unread, h6.read_unread, View.ld_unit_zero (S := S512x1024) origin, View.ld_unit_zero (S := S1024x128) origin, View.ld_unit_zero (S := S1x128) origin]

theorem kept_kept (hc : ¬cond0_0 i) : sout0_B_0 c i a1 h1 a2 h2 a3 h3 a4 h4 a5 h5 a6 h6 hc x w b b' s = kept x w b (first s) := by
  unfold sout0_B_0
  rw [View.read_writes_eq_canon _ _ _ (scover0_B_0 c i a1 h1 a2 h2 a3 h3 a4 h4 a5 h5 a6 h6 hc x w b b' s)]
  unfold kernelRun0_B
  dsimp only
  sl_unfold_words
  rw [View.canon_unit_zero origin]
  simp only [View.readAt_eq_ld, h1.read_unread, h2.read_unread, h3.read_unread, h6.read_unread, View.ld_unit_zero (S := S512x1024) origin, View.ld_unit_zero (S := S1024x128) origin, View.ld_unit_zero (S := S1x128) origin]

end Point

theorem pay4_at (x : S512x1024.Idx → EReal) (w : S1024x128.Idx → EReal) (b : S1x128.Idx → EReal) (r : Fin 512) (l : Fin 128) :
    (k0_pay4 (F := Ideal) x w b (ix2 r l) : EReal) = Cert.Gates.logSig (-((∑ k, x (ix2 r k) * w (ix2 k l)) + b (ix2 (0 : Fin 1) l))) := by
  pointwise [k0_pay4]
  simp only [zero_sub]
  rfl

theorem pay1_at (g : S512x128.Idx → EReal) (v : S1x128.Idx → EReal) (r : Fin 512) (l : Fin 128) :
    (k0_pay1 (F := Ideal) g k0_pay5 (Scalar.ofBits .f32 0x3F800000#32) (Scalar.ofBits .f32 0x00000000#32) v (ix2 r l) : EReal)
      = (∑ k : Fin 512, if k.val ≤ r.val then g (ix2 k l) else 0) + v (ix2 (0 : Fin 1) l) := by
  pointwise [k0_pay1, k0_pay5]
  exact congrArg (· + v (ix2 (0 : Fin 1) l)) (Finset.sum_congr rfl fun k _ => Cert.Fox.select_sge r.val k.val (by omega) (by omega) _ _)

theorem pay2_at (g : S512x128.Idx → EReal) (v : S1x128.Idx → EReal) (r : Fin 8) (l : Fin 128) :
    (k0_pay2 (F := Ideal) g k0_pay5 (Scalar.ofBits .f32 0x3F800000#32) (Scalar.ofBits .f32 0x00000000#32) v (ix2 r l) : EReal) = k0_pay1 (F := Ideal) g k0_pay5 (Scalar.ofBits .f32 0x3F800000#32) (Scalar.ofBits .f32 0x00000000#32) v (ix2 (511 : Fin 512) l) := by
  unfold k0_pay2
  generalize k0_pay1 (F := Ideal) g _ _ _ v = q
  pointwise []

theorem pay3_at (r : Fin 8) (l : Fin 128) : (k0_pay3 (F := Ideal) (ix2 r l) : EReal) = 0 := by
  pointwise [k0_pay3]

theorem first_at (s : S8x128.Idx → EReal) (l : Fin 128) : (first (F := Ideal) s (ix2 (0 : Fin 1) l) : EReal) = s (ix2 (0 : Fin 8) l) := by
  refine congrArg s (funext fun a => Fin.ext ?_)
  fin_cases a
  · rfl
  · show 0 + 1 * l.val = l.val; omega

/-! ## The blocks -/

variable (m : (ℓ : Loc nD τ sig) → Buf (Elt Ideal) ℓ) (c : Dev nD)

/-- The arguments as arrays: rows, weights, shifts. -/
def A0 : FVec Ideal S32768x1024 .f32 := m ((c.tc : Thread nD τ).loc main_arg0)
def A1 : FVec Ideal S1024x128 .f32 := m ((c.tc : Thread nD τ).loc main_arg1)
def A2 : FVec Ideal S1x128 .f32 := m ((c.tc : Thread nD τ).loc main_arg2)

theorem idxRows : ∀ t : Fin cfg0.N, (win0_0.index t (0 : Fin 2) = t.val ∧ win0_0.index t (1 : Fin 2) = 0) ∧ (win0_4.index t (0 : Fin 2) = t.val ∧ win0_4.index t (1 : Fin 2) = 0) :=
  (by decide +kernel : ∀ t : Fin grid0.N, _)
theorem idxOne : ∀ t : Fin cfg0.N, (win0_1.index t (0 : Fin 2) = 0 ∧ win0_1.index t (1 : Fin 2) = 0) ∧ (win0_2.index t (0 : Fin 2) = 0 ∧ win0_2.index t (1 : Fin 2) = 0) :=
  (by decide +kernel : ∀ t : Fin grid0.N, _)

theorem row_lt (t : Fin cfg0.N) (r : Fin 512) : t.val * 512 + r.val < 32768 := by
  have h1 := lt_of_lt_of_eq t.isLt (show cfg0.N = 64 from N_0); have := r.isLt; omega

/-- Row `r` of point `t`'s blocks, among all rows. -/
def row (t : Fin cfg0.N) (r : Fin 512) : Fin 32768 := ⟨t.val * 512 + r.val, row_lt t r⟩

theorem iblk0_at (t : Fin cfg0.N) (r : Fin 512) (k : Fin 1024) : (iblk m c (0 : Fin 5) t (ix2 r k) : EReal) = A0 m c (ix2 (row t r) k) := by
  refine (congrArg (V m c main_arg0) (funext fun q => Fin.ext ?_)).trans (congrFun (V_main_arg0 m c) _)
  refine (Pipeline.Window.rect_emb_val (cfg0.win (0 : Fin 5)) t (ix2 r k) q).trans ?_
  obtain ⟨⟨e0, e1⟩, -⟩ := idxRows t
  fin_cases q
  · show win0_0.index t (0 : Fin 2) * 512 + r.val = t.val * 512 + r.val; rw [e0]
  · show win0_0.index t (1 : Fin 2) * 1024 + k.val = k.val; rw [e1]; omega

theorem iblk1_at (t : Fin cfg0.N) (k : Fin 1024) (l : Fin 128) : (iblk m c (1 : Fin 5) t (ix2 k l) : EReal) = A1 m c (ix2 k l) := by
  refine (congrArg (V m c main_arg1) (funext fun q => Fin.ext ?_)).trans (congrFun (V_main_arg1 m c) _)
  refine (Pipeline.Window.rect_emb_val (cfg0.win (1 : Fin 5)) t (ix2 k l) q).trans ?_
  obtain ⟨⟨e0, e1⟩, -⟩ := idxOne t
  fin_cases q
  · show win0_1.index t (0 : Fin 2) * 1024 + k.val = k.val; rw [e0]; omega
  · show win0_1.index t (1 : Fin 2) * 128 + l.val = l.val; rw [e1]; omega

theorem iblk2_at (t : Fin cfg0.N) (l : Fin 128) : (iblk m c (2 : Fin 5) t (ix2 (0 : Fin 1) l) : EReal) = A2 m c (ix2 (0 : Fin 1) l) := by
  refine (congrArg (V m c main_arg2) (funext fun q => Fin.ext ?_)).trans (congrFun (V_main_arg2 m c) _)
  refine (Pipeline.Window.rect_emb_val (cfg0.win (2 : Fin 5)) t (ix2 (0 : Fin 1) l) q).trans ?_
  obtain ⟨-, e0, e1⟩ := idxOne t
  fin_cases q
  · show win0_2.index t (0 : Fin 2) * 1 + 0 = 0; rw [e0]
  · show win0_2.index t (1 : Fin 2) * 128 + l.val = l.val; rw [e1]; omega

/-- The first `n` log gates of a sequence, summed, on the arguments. -/
abbrev sumTo (q n : ℕ) (l : Fin 128) : EReal := Cert.Gates.upTo (A0 m c) (A1 m c) (A2 m c) q n l

/-- A block over the sums before it is the sums up to its rows. -/
theorem block_at (t : Fin cfg0.N) (v : S1x128.Idx → EReal) (r : Fin 512) (l : Fin 128) (hv : v (ix2 (0 : Fin 1) l) = sumTo m c (t.val / 32) (t.val % 32 * 512) l) :
    (block (F := Ideal) (iblk m c (0 : Fin 5) t) (iblk m c (1 : Fin 5) t) (iblk m c (2 : Fin 5) t) v (ix2 r l) : EReal) = sumTo m c (t.val / 32) (t.val % 32 * 512 + (r.val + 1)) l := by
  refine (pay1_at _ v r l).trans ?_
  refine Eq.trans ?_ (Cert.Gates.upTo_add (A0 m c) (A1 m c) (A2 m c) (t.val / 32) (t.val % 32 * 512) (r.val + 1) l)
  rw [hv, ← Cert.Gates.masked 512 r.val r.isLt]
  refine congrArg (· + _) (Finset.sum_congr rfl fun k _ => if_congr Iff.rfl ?_ rfl)
  refine (pay4_at _ _ _ k l).trans ?_
  rw [show t.val / 32 * 16384 + t.val % 32 * 512 + k.val = (row t k).val from (by show _ = t.val * 512 + k.val; omega), Cert.Gates.log_at]
  refine congrArg (fun z : EReal => Cert.Gates.logSig (-z)) (congrArg₂ (fun y z : EReal => y + z) (Finset.sum_congr rfl fun j _ => ?_) (iblk2_at m c t l))
  exact congrArg₂ (fun y z : EReal => y * z) (iblk0_at m c t k j) (iblk1_at m c t j l)

theorem kept_block_at (t : Fin cfg0.N) (v : S1x128.Idx → EReal) (r : Fin 8) (l : Fin 128) (hv : v (ix2 (0 : Fin 1) l) = sumTo m c (t.val / 32) (t.val % 32 * 512) l) :
    (kept (F := Ideal) (iblk m c (0 : Fin 5) t) (iblk m c (1 : Fin 5) t) (iblk m c (2 : Fin 5) t) v (ix2 r l) : EReal) = sumTo m c (t.val / 32) (t.val % 32 * 512 + 512) l :=
  (pay2_at _ v r l).trans (block_at m c t v 511 l hv)

/-- A sequence's first point starts from the empty sum. -/
theorem zero_at (t : Fin cfg0.N) (h : t.val % 32 = 0) (l : Fin 128) : (first (F := Ideal) (k0_pay3 (F := Ideal)) (ix2 (0 : Fin 1) l) : EReal) = sumTo m c (t.val / 32) (t.val % 32 * 512) l := by
  rw [h]
  exact (first_at _ l).trans (pay3_at 0 l)

/-- The rows kept after a point are the sums up to its last row. -/
theorem kept_at : ∀ (n : ℕ) (hn : n < cfg0.N) (r : Fin 8) (l : Fin 128), ((outsAt0 m c n hn).2 (ix2 r l) : EReal) = sumTo m c (n / 32) (n % 32 * 512 + 512) l := by
  intro n
  induction n with
  | zero =>
    intro hn r l
    rw [outsAt0_A m c ⟨0, hn⟩ rfl, kept_fresh]
    exact kept_block_at m c ⟨0, hn⟩ _ r l (zero_at m c ⟨0, hn⟩ rfl l)
  | succ n ih =>
    intro hn r l
    by_cases h : (n + 1) % 32 = 0
    · rw [outsAt0_A m c ⟨n + 1, hn⟩ h, kept_fresh]
      exact kept_block_at m c ⟨n + 1, hn⟩ _ r l (zero_at m c ⟨n + 1, hn⟩ h l)
    · rw [outsAt0_B m c ⟨n + 1, hn⟩ h, kept_kept]
      refine kept_block_at m c ⟨n + 1, hn⟩ _ r l ((first_at _ l).trans ((ih (Nat.lt_of_succ_lt hn) 0 l).trans ?_))
      show sumTo m c (n / 32) (n % 32 * 512 + 512) l = sumTo m c ((n + 1) / 32) ((n + 1) % 32 * 512) l
      rw [show n / 32 = (n + 1) / 32 by omega, show n % 32 * 512 + 512 = (n + 1) % 32 * 512 by omega]

/-- The result on the arguments. -/
def result : FVec Ideal S32768x128 .f32 := Cert.Gates.cumulative (A0 m c) (A1 m c) (A2 m c)

/-- The block a point writes is the result's. -/
theorem wrote_at (t : Fin cfg0.N) (r : Fin 512) (l : Fin 128) : ((outsAt0 m c t.val t.isLt).1 (ix2 r l) : EReal) = result m c (ix2 (row t r) l) := by
  have e : sumTo m c (t.val / 32) (t.val % 32 * 512 + (r.val + 1)) l = result m c (ix2 (row t r) l) := by
    have hr := r.isLt
    show _ = sumTo m c ((t.val * 512 + r.val) / 16384) ((t.val * 512 + r.val) % 16384 + 1) l
    rw [show t.val / 32 = (t.val * 512 + r.val) / 16384 by omega, show t.val % 32 * 512 + (r.val + 1) = (t.val * 512 + r.val) % 16384 + 1 by omega]
  refine Eq.trans ?_ e
  by_cases h : t.val % 32 = 0
  · rw [outsAt0_A m c t h, out_fresh]
    exact block_at m c t _ r l (zero_at m c t h l)
  · rw [outsAt0_B m c t h, out_kept]
    refine block_at m c t _ r l ((first_at _ l).trans ((kept_at m c (t.val - 1) _ 0 l).trans ?_))
    rw [show (t.val - 1) / 32 = t.val / 32 by omega, show (t.val - 1) % 32 * 512 + 512 = t.val % 32 * 512 by omega]

/-- The array after the run is the result. -/
theorem result_eq : (dats m 0 c).arrAt 4 cfg0.N = result m c := by
  refine (dats m 0 c).arrAt_eq_of_emb (4 : Fin 5) (result m c) (fun t hf y => ?_) (fun i => (covered_iff4 i).2 (by
    have h0 : (i 0).val < 32768 := (i 0).isLt; have h1 : (i 1).val < 128 := (i 1).isLt; omega))
  have eta : ∀ y : S512x128.Idx, ∃ (r : Fin 512) (l : Fin 128), y = ix2 r l := fun y => ⟨y 0, y 1, eq_ix2 y⟩
  obtain ⟨r, l, rfl⟩ := eta y
  refine (wrote_at m c t r l).trans (congrArg (result m c) (funext fun q => Fin.ext ?_))
  refine Eq.trans ?_ (Pipeline.Window.rect_emb_val (cfg0.win (4 : Fin 5)) t (ix2 r l) q).symm
  obtain ⟨-, e0, e1⟩ := idxRows t
  fin_cases q
  · show t.val * 512 + r.val = win0_4.index t (0 : Fin 2) * 512 + r.val; rw [e0]
  · show l.val = win0_4.index t (1 : Fin 2) * 128 + l.val; rw [e1]; omega

end Cert.Kernel8Ideal.Proj

namespace Cert.Reference8Ideal.Proj

open Cert.Reference8Ideal Cert.Reference8Ideal.Gen
open Idealize.ShloMosaic Idealize.ShloMosaic.TcCoe Idealize.ShloMosaic.Tactic Idealize.SL.Sem

/-- The gates before the logarithm. -/
def pre (x : FVec Ideal S32768x1024 .f32) (w : FVec Ideal S1024x128 .f32) (b : FVec Ideal S1x128 .f32) : FVec Ideal S32768x128 .f32 :=
  Host.negf (addf (Host.dotGeneral dot_S32768x1024_S1024x128_S32768x128_1_0_0_1_n_n none x w) (broadcastInDim S32768x128 ![0, 1] bcast_S1x128_S32768x128_0_1 b))

theorem pre_at (x : FVec Ideal S32768x1024 .f32) (w : FVec Ideal S1024x128 .f32) (b : FVec Ideal S1x128 .f32) (i : Fin 32768) (l : Fin 128) :
    (pre x w b (ix2 i l) : EReal) = -((∑ k, x (ix2 i k) * w (ix2 k l)) + b (ix2 (0 : Fin 1) l)) := by
  pointwise [pre]

/-- Their logarithms. -/
def logs (n : FVec Ideal S32768x128 .f32) : FVec Ideal S32768x128 .f32 :=
  have z : FVec Ideal S32768x128 .f32 := broadcastInDim S32768x128 ![] bcast_S_S32768x128 (constant S_ .f32 0x00000000#32)
  Host.negf (select (cmpf .une (subf n z) (subf n z)) (addf n z) (addf (maximumf n z) (Host.log1p (Host.exp (Host.negf (Host.absf (subf n z)))))))

theorem logs_at (n : FVec Ideal S32768x128 .f32) (i : Fin 32768) (l : Fin 128) : (logs n (ix2 i l) : EReal) = Cert.Gates.logSig (n (ix2 i l)) := by
  pointwise [logs]
  rw [if_neg fun h => h rfl]
  rfl

/-- The sums up to each position. -/
def sums (g : FVec Ideal S32768x128 .f32) : FVec Ideal S32768x128 .f32 :=
  shapeCast S32768x128 (transpose S2x16384x128 [0, 2, 1] (Host.dotGeneral dot_S2x16384x128_S16384x16384_S2x128x16384_1_1_02_0_n_n none (shapeCast S2x16384x128 g shapeCasts_S32768x128_S2x16384x128)
    (select (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))) (broadcastInDim S16384x16384 ![] bcast_S_S16384x16384 (constant S_ .f32 0x3F800000#32)) (broadcastInDim S16384x16384 ![] bcast_S_S16384x16384 (constant S_ .f32 0x00000000#32)))) transposes_S2x128x16384_S2x16384x128_0_2_1) shapeCasts_S2x16384x128_S32768x128

theorem sums_at (g : FVec Ideal S32768x128 .f32) (i : Fin 32768) (l : Fin 128) : (sums g (ix2 i l) : EReal) = ∑ x : Fin 16384, if x.val ≤ i.val % 16384 then g (ix2 ⟨i.val / 16384 * 16384 + x.val, by omega⟩ l) else 0 := by
  pointwise [sums]
  exact Finset.sum_congr rfl fun x _ => Cert.Fox.select_sge (i.val % 16384) x.val (by omega) (by omega) _ _

/-- The reference is the sums up to each row. -/
theorem ref_eq (x : FVec Ideal S32768x1024 .f32) (w : FVec Ideal S1024x128 .f32) (b : FVec Ideal S1x128 .f32) : sums (logs (pre x w b)) = Cert.Gates.cumulative x w b := by
  have eta : ∀ y : S32768x128.Idx, ∃ (i : Fin 32768) (l : Fin 128), y = ix2 i l := fun y => ⟨y 0, y 1, eq_ix2 y⟩
  funext y
  obtain ⟨i, l, rfl⟩ := eta y
  refine (sums_at _ i l).trans ?_
  show _ = Cert.Gates.upTo x w b (i.val / 16384) (i.val % 16384 + 1) l
  unfold Cert.Gates.upTo
  rw [← Cert.Gates.masked 16384 (i.val % 16384) (by omega)]
  refine Finset.sum_congr rfl fun z _ => if_congr Iff.rfl ?_ rfl
  refine (logs_at _ _ l).trans ?_
  rw [pre_at]
  exact (Cert.Gates.log_at x w b ⟨i.val / 16384 * 16384 + z.val, by omega⟩ l).symm

end Cert.Reference8Ideal.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Launch
public import proofs.«01_k».proof.Proof.Gen.Kernel2Ideal.Launch
public import proofs.«01_k».proof.Proof.Gen.Kernel2.Skeleton
public import proofs.«01_k».proof.Proof.Gen.Kernel2Ideal.Skeleton
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Launch
public import proofs.«01_k».proof.Proof.Word.Launch
public import proofs.«01_k».proof.Proof.Value
public import proofs.«01_k».proof.Proof.Finite
public import proofs.«01_k».proof.Proof.Experts.Word.Launch
public import proofs.«01_k».proof.Proof.Experts.Value
public import proofs.«01_k».proof.Proof.Experts.Exist
public import proofs.«01_k».proof.Proof.Proj.Odd
public import proofs.«01_k».proof.Proof.Proj.Even
public import proofs.«01_k».proof.Proof.Proj.Out
public import proofs.«01_k».proof.Proof.Proj.OutOdd
public import proofs.«01_k».proof.Proof.Proj.Heads
public import proofs.«01_k».proof.Proof.Proj.Gates
public import Idealize.ShloMosaic.Adequacy
public import Idealize.ShloMosaic.Init

@[expose] public section

set_option maxRecDepth 16384

noncomputable section

namespace Cert.Proof

open Idealize.ShloMosaic Idealize.SL.Sem

/-- The kernel, at words, runs and leaves its arguments as they were. -/
theorem frame_k : quiescent_Kernel := fun m g _ =>
  (θ_run _ _ _).mono (fun r h => ⟨fun c => (h.1 c).2, h.2⟩) (Cert.Kernel.Fox.run_main (F := Bits) m g)

/-- The kernel, over the extended reals, runs and leaves its arguments as they were. -/
theorem frame_ki : quiescent_KernelIdeal := fun m g _ =>
  (θ_run _ _ _).mono (fun r h => ⟨fun c => (h.1 c).2, h.2⟩) (Cert.KernelIdeal.Fox.run_main (F := Ideal) m g)

/-- The reference runs and leaves its arguments as they were. -/
theorem frame_r : quiescent_ReferenceIdeal := fun m g _ =>
  (θ_run _ _ _).mono (fun r h => ⟨fun c => (h c).2, Idealize.ShloMosaic.sem_eq_zero_of_no_sems (by decide) r.2⟩) (Cert.ReferenceIdeal.Value.run m g)

/-- Where the precondition holds, the kernel's result is the reference's on the same arguments. -/
theorem same [hPre : Cert.Pre_scores_finite.Facts] : algebraic_KernelIdeal_ReferenceIdeal_pre_scores_finite := fun m g m' g' hp ha => by
  refine ⟨fun c => Cert.KernelIdeal.Fox.result m c,
    (θ_run _ _ _).mono (fun r h => h.1) (Cert.KernelIdeal.Fox.run_main (F := Ideal) m g),
    (θ_run _ _ _).mono (fun r h c => ⟨(h c).1.trans ?_, (h c).2⟩) (Cert.ReferenceIdeal.Value.run m' g')⟩
  obtain ⟨h0, h2⟩ := Cert.Fox.reals_of_pre _ _ _ (hp c)
  refine Eq.trans ?_ (Cert.KernelIdeal.Fox.result_eq m c h0 h2).symm
  obtain ⟨e0, e1, e2⟩ := ha c
  refine (Cert.ReferenceIdeal.Fox.res_eq m' c).trans ?_
  rw [e0, e1, e2]
  rfl

/-- Where every block's expert exists, the experts' kernel, at words, runs and leaves its arguments as they were. -/
theorem frame_k2 [hPre : Cert.Pre_experts_exist.Facts] : quiescent_Kernel2 := fun m g hp =>
  (θ_run _ _ _).mono (fun r h => ⟨fun c => (h.1 c).2, h.2⟩)
    (Cert.Kernel2.Experts.run_main (F := Bits) m g (fun y => Cert.Experts.exist _ _ _ _ _ _ _ (hp 0) y))

/-- Where every block's expert exists, the experts' kernel, over the extended reals, runs and leaves its arguments as they were. -/
theorem frame_ki2 [hPre : Cert.Pre_experts_exist.Facts] : quiescent_Kernel2Ideal := fun m g hp =>
  (θ_run _ _ _).mono (fun r h => ⟨fun c => (h.1 c).2, h.2⟩)
    (Cert.Kernel2Ideal.Experts.run_main (F := Ideal) m g (fun y => Cert.Experts.exist _ _ _ _ _ _ _ (hp 0) y))

/-- The experts' reference runs and leaves its arguments as they were. -/
theorem frame_r2 : quiescent_Reference2Ideal := fun m g _ =>
  (θ_run _ _ _).mono (fun r h => ⟨fun c => (h c).2, Idealize.ShloMosaic.sem_eq_zero_of_no_sems (by decide) r.2⟩) (Cert.Reference2Ideal.Value.run m g)

/-- Where every block's expert exists, the experts' kernel's result is its reference's on the same arguments. -/
theorem same2 [hPre : Cert.Pre_experts_exist.Facts] : algebraic_Kernel2Ideal_Reference2Ideal := fun m g m' g' hp ha => by
  have he : Cert.Kernel2Ideal.Experts.Exist m := fun y => Cert.Experts.exist _ _ _ _ _ _ _ (hp 0) y
  refine ⟨fun c => Cert.Kernel2Ideal.Experts.result (Cert.Kernel2Ideal.Experts.adm m he) m c,
    (θ_run _ _ _).mono (fun r h => h.1) (Cert.Kernel2Ideal.Experts.run_main (F := Ideal) m g he),
    (θ_run _ _ _).mono (fun r h c => ⟨(h c).1.trans ?_, (h c).2⟩) (Cert.Reference2Ideal.Value.run m' g')⟩
  refine Eq.trans ?_ (Cert.Kernel2Ideal.Experts.result_eq m (Cert.Kernel2Ideal.Experts.adm m he) c (fun _ => rfl) rfl (fun n => he (ix1 n))).symm
  obtain ⟨e0, e1, e2, e3, e4, e5, e6⟩ := ha c
  refine (Cert.Reference2Ideal.Experts.res_eq m' c).trans ?_
  rw [e0, e1, e2, e3, e4, e5, e6]
  rfl

/-- The projections' references run and leave their arguments as they were. -/
theorem frame_r3 : quiescent_Reference3Ideal := fun m g _ =>
  (θ_run _ _ _).mono (fun r h => ⟨fun c => (h c).2, Idealize.ShloMosaic.sem_eq_zero_of_no_sems (by decide) r.2⟩) (Cert.Reference3Ideal.Value.run m g)
theorem frame_r4 : quiescent_Reference4Ideal := fun m g _ =>
  (θ_run _ _ _).mono (fun r h => ⟨fun c => (h c).2, Idealize.ShloMosaic.sem_eq_zero_of_no_sems (by decide) r.2⟩) (Cert.Reference4Ideal.Value.run m g)
theorem frame_r5 : quiescent_Reference5Ideal := fun m g _ =>
  (θ_run _ _ _).mono (fun r h => ⟨fun c => (h c).2, Idealize.ShloMosaic.sem_eq_zero_of_no_sems (by decide) r.2⟩) (Cert.Reference5Ideal.Value.run m g)
theorem frame_r6 : quiescent_Reference6Ideal := fun m g _ =>
  (θ_run _ _ _).mono (fun r h => ⟨fun c => (h c).2, Idealize.ShloMosaic.sem_eq_zero_of_no_sems (by decide) r.2⟩) (Cert.Reference6Ideal.Value.run m g)

/-- The reference of the query and key norms runs and leaves its arguments as they were. -/
theorem frame_r7 : quiescent_Reference7Ideal := fun m g _ =>
  (θ_run _ _ _).mono (fun r h => ⟨fun c => (h c).2, Idealize.ShloMosaic.sem_eq_zero_of_no_sems (by decide) r.2⟩) (Cert.Reference7Ideal.Value.run m g)

/-- The reference of the cumulative log gates runs and leaves its arguments as they were. -/
theorem frame_r8 : quiescent_Reference8Ideal := fun m g _ =>
  (θ_run _ _ _).mono (fun r h => ⟨fun c => (h c).2, Idealize.ShloMosaic.sem_eq_zero_of_no_sems (by decide) r.2⟩) (Cert.Reference8Ideal.Value.run m g)

/-- The odd layers' input projection is its reference's on the same arguments. -/
theorem same3 : algebraic_Kernel3Ideal_Reference3Ideal := fun m g m' g' _ ha => by
  refine ⟨fun c => Cert.Kernel3Ideal.Proj.prod (Cert.Kernel3Ideal.Proj.A0 m c) (Cert.Kernel3Ideal.Proj.A1 m c),
    (θ_run _ _ _).mono (fun r h c => ⟨(h c).1.trans (Cert.Kernel3Ideal.Proj.result_eq m c), (h c).2⟩) (Cert.Kernel3Ideal.Value.run_blocks m g),
    (θ_run _ _ _).mono (fun r h c => ⟨(h c).1.trans ?_, (h c).2⟩) (Cert.Reference3Ideal.Value.run m' g')⟩
  obtain ⟨e0, e1⟩ := ha c
  rw [e0, e1]
  rfl

/-- The even layers' input projection is its reference's on the same arguments. -/
theorem same4 : algebraic_Kernel4Ideal_Reference4Ideal := fun m g m' g' _ ha => by
  refine ⟨fun c => Cert.Kernel4Ideal.Proj.prod (Cert.Kernel4Ideal.Proj.A0 m c) (Cert.Kernel4Ideal.Proj.A1 m c),
    (θ_run _ _ _).mono (fun r h c => ⟨(h c).1.trans (Cert.Kernel4Ideal.Proj.result_eq m c), (h c).2⟩) (Cert.Kernel4Ideal.Value.run_blocks m g),
    (θ_run _ _ _).mono (fun r h c => ⟨(h c).1.trans ?_, (h c).2⟩) (Cert.Reference4Ideal.Value.run m' g')⟩
  obtain ⟨e0, e1⟩ := ha c
  rw [e0, e1]
  rfl

/-- The even layers' output projection is its reference's on the same arguments. -/
theorem same5 : algebraic_Kernel5Ideal_Reference5Ideal := fun m g m' g' _ ha => by
  refine ⟨fun c => Cert.Kernel5Ideal.Proj.out m c,
    (θ_run _ _ _).mono (fun r h c => ⟨(h c).1.trans (Cert.Kernel5Ideal.Proj.result_eq m c), (h c).2⟩) (Cert.Kernel5Ideal.Value.run_blocks m g),
    (θ_run _ _ _).mono (fun r h c => ⟨(h c).1.trans ?_, (h c).2⟩) (Cert.Reference5Ideal.Value.run m' g')⟩
  obtain ⟨e0, e1, e2, e3, e4, e5⟩ := ha c
  refine (Cert.Reference5Ideal.Proj.res_eq m' c).trans ?_
  rw [e0, e1, e2, e3, e4, e5]
  rfl

/-- The odd layers' output projection is its reference's on the same arguments. -/
theorem same6 : algebraic_Kernel6Ideal_Reference6Ideal := fun m g m' g' _ ha => by
  refine ⟨fun c => Cert.Kernel6Ideal.Proj.out m c,
    (θ_run _ _ _).mono (fun r h c => ⟨(h c).1.trans (Cert.Kernel6Ideal.Proj.result_eq m c), (h c).2⟩) (Cert.Kernel6Ideal.Value.run_blocks m g),
    (θ_run _ _ _).mono (fun r h c => ⟨(h c).1.trans ?_, (h c).2⟩) (Cert.Reference6Ideal.Proj.run_main m' g')⟩
  obtain ⟨e0, e1, e2, e3, e4⟩ := ha c
  rw [e0, e1, e2, e3, e4]
  rfl

/-- The odd layers' query and key norms are their reference's on the same arguments. -/
theorem same7 : algebraic_Kernel7Ideal_Reference7Ideal := fun m g m' g' _ ha => by
  refine ⟨fun c => Cert.Kernel7Ideal.Proj.result (Cert.Kernel7Ideal.Proj.A0 m c) (Cert.Kernel7Ideal.Proj.A1 m c),
    (θ_run _ _ _).mono (fun r h c => ⟨(h c).1.trans (Cert.Kernel7Ideal.Proj.result_eq m c), (h c).2⟩) (Cert.Kernel7Ideal.Value.run_blocks m g),
    (θ_run _ _ _).mono (fun r h c => ⟨(h c).1.trans ?_, (h c).2⟩) (Cert.Reference7Ideal.Value.run m' g')⟩
  obtain ⟨e0, e1⟩ := ha c
  rw [e0, e1]
  exact Cert.Reference7Ideal.Proj.ref_eq _ _

/-- The odd layers' cumulative log gates are their reference's on the same arguments. -/
theorem same8 : algebraic_Kernel8Ideal_Reference8Ideal := fun m g m' g' _ ha => by
  refine ⟨fun c => Cert.Kernel8Ideal.Proj.result m c,
    (θ_run _ _ _).mono (fun r h c => ⟨(h c).1.trans (Cert.Kernel8Ideal.Proj.result_eq m c), (h c).2⟩) (Cert.Kernel8Ideal.Value.run_blocks m g),
    (θ_run _ _ _).mono (fun r h c => ⟨(h c).1.trans ?_, (h c).2⟩) (Cert.Reference8Ideal.Value.run m' g')⟩
  obtain ⟨e0, e1, e2⟩ := ha c
  rw [e0, e1, e2]
  exact Cert.Reference8Ideal.Proj.ref_eq _ _ _

/-- Every claim of the certificate. -/
theorem claim : Cert.Claim := by
  haveI := Cert.Fox.pre_facts
  haveI := Cert.Experts.pre_facts
  exact ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Fox.pre_facts, Cert.Experts.pre_facts,
    frame_k, frame_ki, fun m g _ => frame_ki m g trivial, frame_r, fun m g _ => frame_r m g trivial,
    frame_k2, frame_ki2, frame_r2, fun m g _ => frame_r2 m g trivial,
    fun m g _ => Cert.Kernel3.Gen.frame m g, fun m g _ => Cert.Kernel3Ideal.Gen.frame m g, frame_r3,
    fun m g _ => Cert.Kernel4.Gen.frame m g, fun m g _ => Cert.Kernel4Ideal.Gen.frame m g, frame_r4,
    fun m g _ => Cert.Kernel5.Gen.frame m g, fun m g _ => Cert.Kernel5Ideal.Gen.frame m g, frame_r5,
    fun m g _ => Cert.Kernel6.Gen.frame m g, fun m g _ => Cert.Kernel6Ideal.Gen.frame m g, frame_r6,
    fun m g _ => Cert.Kernel7.Gen.frame m g, fun m g _ => Cert.Kernel7Ideal.Gen.frame m g, frame_r7,
    fun m g _ => Cert.Kernel8.Gen.frame m g, fun m g _ => Cert.Kernel8Ideal.Gen.frame m g, frame_r8,
    trivial, same, trivial, same2, trivial, same3, trivial, same4, trivial, same5, trivial, same6, trivial, same7, trivial, same8⟩

end Cert.Proof

end
